-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v51) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v61_0)) (v1 : (c : Dev Cert.ProjectIdeal.nD) → Buf (Elt Ideal) ((c.tc : Thread Cert.ProjectIdeal.nD Cert.ProjectIdeal.τ).loc Cert.ProjectIdeal.main_v61_1)) (v2 : (c : Dev Cert.ProjectIdeal.nD) → Buf (Elt Ideal) ((c.tc : Thread Cert.ProjectIdeal.nD Cert.ProjectIdeal.τ).loc Cert.ProjectIdeal.main_v61_4)) (v3 : (c : Dev Cert.ProjectIdeal.nD) → Buf (Elt Ideal) ((c.tc : Thread Cert.ProjectIdeal.nD Cert.ProjectIdeal.τ).loc Cert.ProjectIdeal.main_v61_5)) (v4 : (c : Dev Cert.ProjectIdeal.nD) → Buf (Elt Ideal) ((c.tc : Thread Cert.ProjectIdeal.nD Cert.ProjectIdeal.τ).loc Cert.ProjectIdeal.main_v61_7)) (v5 : (c : Dev Cert.ProjectIdeal.nD) → Buf (Elt Ideal) ((c.tc : Thread Cert.ProjectIdeal.nD Cert.ProjectIdeal.τ).loc Cert.ProjectIdeal.main_v61_8)) (v6 : (c : Dev Cert.ProjectIdeal.nD) → Buf (Elt Ideal) ((c.tc : Thread Cert.ProjectIdeal.nD Cert.ProjectIdeal.τ).loc Cert.ProjectIdeal.main_v61_9)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v61_0) = v0 c
          ∧ r.2.mem ((c.tc : Thread Cert.ProjectIdeal.nD Cert.ProjectIdeal.τ).loc Cert.ProjectIdeal.main_v61_1) = v1 c
          ∧ r.2.mem ((c.tc : Thread Cert.ProjectIdeal.nD Cert.ProjectIdeal.τ).loc Cert.ProjectIdeal.main_v61_4) = v2 c
          ∧ r.2.mem ((c.tc : Thread Cert.ProjectIdeal.nD Cert.ProjectIdeal.τ).loc Cert.ProjectIdeal.main_v61_5) = v3 c
          ∧ r.2.mem ((c.tc : Thread Cert.ProjectIdeal.nD Cert.ProjectIdeal.τ).loc Cert.ProjectIdeal.main_v61_7) = v4 c
          ∧ r.2.mem ((c.tc : Thread Cert.ProjectIdeal.nD Cert.ProjectIdeal.τ).loc Cert.ProjectIdeal.main_v61_8) = v5 c
          ∧ r.2.mem ((c.tc : Thread Cert.ProjectIdeal.nD Cert.ProjectIdeal.τ).loc Cert.ProjectIdeal.main_v61_9) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v44) = v0 c
          ∧ r.2.mem ((c.tc : Thread Cert.ProjectReferenceIdeal.nD Cert.ProjectReferenceIdeal.τ).loc Cert.ProjectReferenceIdeal.main_v45) = v1 c
          ∧ r.2.mem ((c.tc : Thread Cert.ProjectReferenceIdeal.nD Cert.ProjectReferenceIdeal.τ).loc Cert.ProjectReferenceIdeal.main_v47) = v2 c
          ∧ r.2.mem ((c.tc : Thread Cert.ProjectReferenceIdeal.nD Cert.ProjectReferenceIdeal.τ).loc Cert.ProjectReferenceIdeal.main_v48) = v3 c
          ∧ r.2.mem ((c.tc : Thread Cert.ProjectReferenceIdeal.nD Cert.ProjectReferenceIdeal.τ).loc Cert.ProjectReferenceIdeal.main_v49) = v4 c
          ∧ r.2.mem ((c.tc : Thread Cert.ProjectReferenceIdeal.nD Cert.ProjectReferenceIdeal.τ).loc Cert.ProjectReferenceIdeal.main_v50) = v5 c
          ∧ r.2.mem ((c.tc : Thread Cert.ProjectReferenceIdeal.nD Cert.ProjectReferenceIdeal.τ).loc Cert.ProjectReferenceIdeal.main_v52) = v6 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProject : Cert.Project.Facts) (hProjectIdeal : Cert.ProjectIdeal.Facts) (hProjectReferenceIdeal : Cert.ProjectReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Project_ProjectIdeal
    ∧ algebraic_ProjectIdeal_ProjectReferenceIdeal (hProjectIdeal := hProjectIdeal) (hProjectReferenceIdeal := hProjectReferenceIdeal)
-- ==== Pre_finite.lean ====
abbrev S16x2048x4x64 : Shape := ⟨4, ![16, 2048, 4, 64]⟩
abbrev S_ : Shape := ⟨0, ![]⟩

class Facts : Prop where
  bcast_S_S16x2048x4x64 : S_.BroadcastsInDim S16x2048x4x64 (![] : Fin 0 → Fin S16x2048x4x64.rank)
  reducesTo_S16x2048x4x64_S_d0_1_2_3 : S16x2048x4x64.ReducesTo [0, 1, 2, 3] S_
  h_S_ : 0 < S_.numel

variable [Facts]

def fn_part1 {F : FTy → Type} [FloatOps F] (main_arg4 : FVec F S16x2048x4x64 .f32) (main_arg5 : FVec F S16x2048x4x64 .f32) (main_v13 : IVec S_ 1) (main_v16 : IVec S16x2048x4x64 1) : IVec S_ 1 :=
  let main_c_5 : IVec S_ 1 := constantI S_ 1 1#1
  let main_v17 : IVec S_ 1 := (fun x v => Host.reduce IntOp.andi x v reducesTo_S16x2048x4x64_S_d0_1_2_3 h_S_) main_v16 main_c_5
  let main_v18 : IVec S_ 1 := andi main_v13 main_v17
  let main_v19 : FVec F S16x2048x4x64 .f32 := Host.absf main_arg4
  let main_cst_6 : FVec F S_ .f32 := constant S_ .f32 0x7F800000#32
  let main_v20 : FVec F S16x2048x4x64 .f32 := broadcastInDim S16x2048x4x64 ![] bcast_S_S16x2048x4x64 main_cst_6
  let main_v21 : IVec S16x2048x4x64 1 := cmpf .olt main_v19 main_v20
  let main_c_7 : IVec S_ 1 := constantI S_ 1 1#1
  let main_v22 : IVec S_ 1 := (fun x v => Host.reduce IntOp.andi x v reducesTo_S16x2048x4x64_S_d0_1_2_3 h_S_) main_v21 main_c_7
  let main_v23 : IVec S_ 1 := andi main_v18 main_v22
  let main_v24 : FVec F S16x2048x4x64 .f32 := Host.absf main_arg5
  let main_cst_8 : FVec F S_ .f32 := constant S_ .f32 0x7F800000#32
  let main_v25 : FVec F S16x2048x4x64 .f32 := broadcastInDim S16x2048x4x64 ![] bcast_S_S16x2048x4x64 main_cst_8
  let main_v26 : IVec S16x2048x4x64 1 := cmpf .olt main_v24 main_v25
  let main_c_9 : IVec S_ 1 := constantI S_ 1 1#1
  let main_v27 : IVec S_ 1 := (fun x v => Host.reduce IntOp.andi x v reducesTo_S16x2048x4x64_S_d0_1_2_3 h_S_) main_v26 main_c_9
  let main_v28 : IVec S_ 1 := andi main_v23 main_v27
  main_v28

def fn {F : FTy → Type} [FloatOps F] (main_arg0 : FVec F S16x2048x4x64 .f32) (main_arg1 : FVec F S16x2048x4x64 .f32) (main_arg2 : FVec F S16x2048x4x64 .f32) (main_arg3 : FVec F S16x2048x4x64 .f32) (main_arg4 : FVec F S16x2048x4x64 .f32) (main_arg5 : FVec F S16x2048x4x64 .f32) : IVec S_ 1 :=
  let main_v0 : FVec F S16x2048x4x64 .f32 := Host.absf main_arg0
  let main_cst : FVec F S_ .f32 := constant S_ .f32 0x7F800000#32
  let main_v1 : FVec F S16x2048x4x64 .f32 := broadcastInDim S16x2048x4x64 ![] bcast_S_S16x2048x4x64 main_cst
  let main_v2 : IVec S16x2048x4x64 1 := cmpf .olt main_v0 main_v1
  let main_c : IVec S_ 1 := constantI S_ 1 1#1
  let main_v3 : IVec S_ 1 := (fun x v => Host.reduce IntOp.andi x v reducesTo_S16x2048x4x64_S_d0_1_2_3 h_S_) main_v2 main_c
  let main_v4 : FVec F S16x2048x4x64 .f32 := Host.absf main_arg1
  let main_cst_0 : FVec F S_ .f32 := constant S_ .f32 0x7F800000#32
  let main_v5 : FVec F S16x2048x4x64 .f32 := broadcastInDim S16x2048x4x64 ![] bcast_S_S16x2048x4x64 main_cst_0
  let main_v6 : IVec S16x2048x4x64 1 := cmpf .olt main_v4 main_v5
  let main_c_1 : IVec S_ 1 := constantI S_ 1 1#1
  let main_v7 : IVec S_ 1 := (fun x v => Host.reduce IntOp.andi x v reducesTo_S16x2048x4x64_S_d0_1_2_3 h_S_) main_v6 main_c_1
  let main_v8 : IVec S_ 1 := andi main_v3 main_v7
  let main_v9 : FVec F S16x2048x4x64 .f32 := Host.absf main_arg2
  let main_cst_2 : FVec F S_ .f32 := constant S_ .f32 0x7F800000#32
  let main_v10 : FVec F S16x2048x4x64 .f32 := broadcastInDim S16x2048x4x64 ![] bcast_S_S16x2048x4x64 main_cst_2
  let main_v11 : IVec S16x2048x4x64 1 := cmpf .olt main_v9 main_v10
  let main_c_3 : IVec S_ 1 := constantI S_ 1 1#1
  let main_v12 : IVec S_ 1 := (fun x v => Host.reduce IntOp.andi x v reducesTo_S16x2048x4x64_S_d0_1_2_3 h_S_) main_v11 main_c_3
  let main_v13 : IVec S_ 1 := andi main_v8 main_v12
  let main_v14 : FVec F S16x2048x4x64 .f32 := Host.absf main_arg3
  let main_cst_4 : FVec F S_ .f32 := constant S_ .f32 0x7F800000#32
  let main_v15 : FVec F S16x2048x4x64 .f32 := broadcastInDim S16x2048x4x64 ![] bcast_S_S16x2048x4x64 main_cst_4
  let main_v16 : IVec S16x2048x4x64 1 := cmpf .olt main_v14 main_v15
  fn_part1 (F := F) main_arg4 main_arg5 main_v13 main_v16
-- ==== Kernel.lean ====
abbrev S16x2048x4x64 : Shape := ⟨4, ![16, 2048, 4, 64]⟩
abbrev S16x2048x256 : Shape := ⟨3, ![16, 2048, 256]⟩
abbrev S16x2048x1280 : Shape := ⟨3, ![16, 2048, 1280]⟩
abbrev S16x32x64x2x2x64 : Shape := ⟨6, ![16, 32, 64, 2, 2, 64]⟩
abbrev S16x2x32x64x2x64 : Shape := ⟨6, ![16, 2, 32, 64, 2, 64]⟩
abbrev S16x2x32x64x128 : Shape := ⟨5, ![16, 2, 32, 64, 128]⟩
abbrev S16x2x64x128 : Shape := ⟨4, ![16, 2, 64, 128]⟩
abbrev S8x64x1280 : Shape := ⟨3, ![8, 64, 1280]⟩
abbrev S8x2x1x64x128 : Shape := ⟨5, ![8, 2, 1, 64, 128]⟩
abbrev S8x64x256 : Shape := ⟨3, ![8, 64, 256]⟩
abbrev S8x2x64x128 : Shape := ⟨4, ![8, 2, 64, 128]⟩
abbrev S256x256 : Shape := ⟨2, ![256, 256]⟩
abbrev S64x128 : Shape := ⟨2, ![64, 128]⟩
abbrev S1x8x128 : Shape := ⟨3, ![1, 8, 128]⟩
abbrev S8x128 : Shape := ⟨2, ![8, 128]⟩
abbrev S1x1x64x128 : Shape := ⟨4, ![1, 1, 64, 128]⟩
abbrev S1x128 : Shape := ⟨2, ![1, 128]⟩
abbrev S64x256 : Shape := ⟨2, ![64, 256]⟩
abbrev S512x256 : Shape := ⟨2, ![512, 256]⟩
abbrev S1x1x1x64x128 : Shape := ⟨5, ![1, 1, 1, 64, 128]⟩
abbrev S64x128x1 : Shape := ⟨3, ![64, 128, 1]⟩
abbrev S128x128 : Shape := ⟨2, ![128, 128]⟩
abbrev S1x64x128 : Shape := ⟨3, ![1, 64, 128]⟩

abbrev nBuf : Space → Nat
  | .hbm => 21
  | .vmem => 13
  | .smem => 0
  | _ => 0

abbrev bufTy : (tb : Table) → Fin (tcTables nBuf tb) → BufTy
  | .hbm, ⟨0, _⟩ => ⟨S16x2048x4x64, .f32⟩
  | .hbm, ⟨1, _⟩ => ⟨S16x2048x4x64, .f32⟩
  | .hbm, ⟨2, _⟩ => ⟨S16x2048x4x64, .f32⟩
  | .hbm, ⟨3, _⟩ => ⟨S16x2048x4x64, .f32⟩
  | .hbm, ⟨4, _⟩ => ⟨S16x2048x4x64, .f32⟩
  | .hbm, ⟨5, _⟩ => ⟨S16x2048x4x64, .f32⟩
  | .hbm, ⟨6, _⟩ => ⟨S16x2048x256, .f32⟩
  | .hbm, ⟨7, _⟩ => ⟨S16x2048x4x64, .f32⟩
  | .hbm, ⟨8, _⟩ => ⟨S16x2048x256, .f32⟩
  | .hbm, ⟨9, _⟩ => ⟨S16x2048x4x64, .f32⟩
  | .hbm, ⟨10, _⟩ => ⟨S16x2048x256, .f32⟩
  | .hbm, ⟨11, _⟩ => ⟨S16x2048x256, .f32⟩
  | .hbm, ⟨12, _⟩ => ⟨S16x2048x4x64, .f32⟩
  | .hbm, ⟨13, _⟩ => ⟨S16x2048x256, .f32⟩
  | .hbm, ⟨14, _⟩ => ⟨S16x2048x1280, .f32⟩
  | .hbm, ⟨15, _⟩ => ⟨S16x32x64x2x2x64, .f32⟩
  | .hbm, ⟨16, _⟩ => ⟨S16x2x32x64x2x64, .f32⟩
  | .hbm, ⟨17, _⟩ => ⟨S16x2x32x64x128, .f32⟩
  | .hbm, ⟨18, _⟩ => ⟨S16x2048x256, .f32⟩
  | .hbm, ⟨19, _⟩ => ⟨S16x2048x256, .f32⟩
  | .hbm, ⟨20, _⟩ => ⟨S16x2x64x128, .f32⟩
  | .local _ .vmem, ⟨0, _⟩ => ⟨S8x64x1280, .f32⟩
  | .local _ .vmem, ⟨1, _⟩ => ⟨S8x64x1280, .f32⟩
  | .local _ .vmem, ⟨2, _⟩ => ⟨S8x2x1x64x128, .f32⟩
  | .local _ .vmem, ⟨3, _⟩ => ⟨S8x2x1x64x128, .f32⟩
  | .local _ .vmem, ⟨4, _⟩ => ⟨S8x64x256, .f32⟩
  | .local _ .vmem, ⟨5, _⟩ => ⟨S8x64x256, .f32⟩
  | .local _ .vmem, ⟨6, _⟩ => ⟨S8x64x256, .f32⟩
  | .local _ .vmem, ⟨7, _⟩ => ⟨S8x64x256, .f32⟩
  | .local _ .vmem, ⟨8, _⟩ => ⟨S8x2x64x128, .f32⟩
  | .local _ .vmem, ⟨9, _⟩ => ⟨S8x2x64x128, .f32⟩
  | .local _ .vmem, ⟨10, _⟩ => ⟨S8x2x64x128, .f32⟩
  | .local _ .vmem, ⟨11, _⟩ => ⟨S8x2x64x128, .f32⟩
  | .local _ .vmem, ⟨12, _⟩ => ⟨S8x2x64x128, .f32⟩
  | _, _ => ⟨S16x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_22 : BitVec 32 := 0#32
  let c8_i32 : BitVec 32 := 8#32
  let v86 : BitVec 32 := Scalar.addi c0_i32_22 c8_i32
  let c1_i32_23 : BitVec 32 := 1#32
  ⟨c0_i32_22, v86, c1_i32_23⟩
def k0_mult1 (k0_t1 : Fin k0_t1_loop.trips) : BitVec 32 :=
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  v378
def k0_off1 (k0_t1 : Fin k0_t1_loop.trips) : Fin 3 → Nat :=
  let c0_274 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v380 : Index := Scalar.indexCast v379
  let c0_275 : Index := 0#32
  ![0, v380.toNat, 0]
def k0_off2 (k0_t1 : Fin k0_t1_loop.trips) : Fin 3 → Nat :=
  let c0_276 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v383 : Index := Scalar.indexCast v379
  let c256 : Index := 256#32
  ![0, v383.toNat, 256]
def k0_off3 (k0_t1 : Fin k0_t1_loop.trips) : Fin 3 → Nat :=
  let c0_277 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v386 : Index := Scalar.indexCast v379
  let c512 : Index := 512#32
  ![0, v386.toNat, 512]
def k0_off4 (k0_t1 : Fin k0_t1_loop.trips) : Fin 3 → Nat :=
  let c0_278 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v389 : Index := Scalar.indexCast v379
  let c768 : Index := 768#32
  ![0, v389.toNat, 768]
def k0_off5 (k0_t1 : Fin k0_t1_loop.trips) : Fin 3 → Nat :=
  let c0_279 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v392 : Index := Scalar.indexCast v379
  let c1024 : Index := 1024#32
  ![0, v392.toNat, 1024]
def k0_off6 (k0_t1 : Fin k0_t1_loop.trips) : Fin 3 → Nat :=
  let c0_280 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v395 : Index := Scalar.indexCast v379
  let c128_281 : Index := 128#32
  ![0, v395.toNat, 128]
def k0_off7 (k0_t1 : Fin k0_t1_loop.trips) : Fin 3 → Nat :=
  let c0_282 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v398 : Index := Scalar.indexCast v379
  let c384 : Index := 384#32
  ![0, v398.toNat, 384]
def k0_off8 (k0_t1 : Fin k0_t1_loop.trips) : Fin 3 → Nat :=
  let c0_283 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v401 : Index := Scalar.indexCast v379
  let c640 : Index := 640#32
  ![0, v401.toNat, 640]
def k0_off9 (k0_t1 : Fin k0_t1_loop.trips) : Fin 3 → Nat :=
  let c0_284 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v404 : Index := Scalar.indexCast v379
  let c896 : Index := 896#32
  ![0, v404.toNat, 896]
def k0_off10 (k0_t1 : Fin k0_t1_loop.trips) : Fin 3 → Nat :=
  let c0_285 : Index := 0#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v407 : Index := Scalar.indexCast v379
  let c1152 : Index := 1152#32
  ![0, v407.toNat, 1152]
def k0_off11 (k0_t1 : Fin k0_t1_loop.trips) : Fin 3 → Nat :=
  let c1_286 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v410 : Index := Scalar.indexCast v379
  let c0_287 : Index := 0#32
  ![1, v410.toNat, 0]
def k0_off12 (k0_t1 : Fin k0_t1_loop.trips) : Fin 3 → Nat :=
  let c1_288 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v413 : Index := Scalar.indexCast v379
  let c256_289 : Index := 256#32
  ![1, v413.toNat, 256]
def k0_off13 (k0_t1 : Fin k0_t1_loop.trips) : Fin 3 → Nat :=
  let c1_290 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v416 : Index := Scalar.indexCast v379
  let c512_291 : Index := 512#32
  ![1, v416.toNat, 512]
def k0_off14 (k0_t1 : Fin k0_t1_loop.trips) : Fin 3 → Nat :=
  let c1_292 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v419 : Index := Scalar.indexCast v379
  let c768_293 : Index := 768#32
  ![1, v419.toNat, 768]
def k0_off15 (k0_t1 : Fin k0_t1_loop.trips) : Fin 3 → Nat :=
  let c1_294 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v422 : Index := Scalar.indexCast v379
  let c1024_295 : Index := 1024#32
  ![1, v422.toNat, 1024]
def k0_off16 (k0_t1 : Fin k0_t1_loop.trips) : Fin 3 → Nat :=
  let c1_296 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v425 : Index := Scalar.indexCast v379
  let c128_297 : Index := 128#32
  ![1, v425.toNat, 128]
def k0_off17 (k0_t1 : Fin k0_t1_loop.trips) : Fin 3 → Nat :=
  let c1_298 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v428 : Index := Scalar.indexCast v379
  let c384_299 : Index := 384#32
  ![1, v428.toNat, 384]
def k0_off18 (k0_t1 : Fin k0_t1_loop.trips) : Fin 3 → Nat :=
  let c1_300 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v431 : Index := Scalar.indexCast v379
  let c640_301 : Index := 640#32
  ![1, v431.toNat, 640]
def k0_off19 (k0_t1 : Fin k0_t1_loop.trips) : Fin 3 → Nat :=
  let c1_302 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v434 : Index := Scalar.indexCast v379
  let c896_303 : Index := 896#32
  ![1, v434.toNat, 896]
def k0_off20 (k0_t1 : Fin k0_t1_loop.trips) : Fin 3 → Nat :=
  let c1_304 : Index := 1#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v437 : Index := Scalar.indexCast v379
  let c1152_305 : Index := 1152#32
  ![1, v437.toNat, 1152]
def k0_off21 (k0_t1 : Fin k0_t1_loop.trips) : Fin 3 → Nat :=
  let c2_306 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v440 : Index := Scalar.indexCast v379
  let c0_307 : Index := 0#32
  ![2, v440.toNat, 0]
def k0_off22 (k0_t1 : Fin k0_t1_loop.trips) : Fin 3 → Nat :=
  let c2_308 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v443 : Index := Scalar.indexCast v379
  let c256_309 : Index := 256#32
  ![2, v443.toNat, 256]
def k0_off23 (k0_t1 : Fin k0_t1_loop.trips) : Fin 3 → Nat :=
  let c2_310 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v446 : Index := Scalar.indexCast v379
  let c512_311 : Index := 512#32
  ![2, v446.toNat, 512]
def k0_off24 (k0_t1 : Fin k0_t1_loop.trips) : Fin 3 → Nat :=
  let c2_312 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v449 : Index := Scalar.indexCast v379
  let c768_313 : Index := 768#32
  ![2, v449.toNat, 768]
def k0_off25 (k0_t1 : Fin k0_t1_loop.trips) : Fin 3 → Nat :=
  let c2_314 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v452 : Index := Scalar.indexCast v379
  let c1024_315 : Index := 1024#32
  ![2, v452.toNat, 1024]
def k0_off26 (k0_t1 : Fin k0_t1_loop.trips) : Fin 3 → Nat :=
  let c2_316 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v455 : Index := Scalar.indexCast v379
  let c128_317 : Index := 128#32
  ![2, v455.toNat, 128]
def k0_off27 (k0_t1 : Fin k0_t1_loop.trips) : Fin 3 → Nat :=
  let c2_318 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v458 : Index := Scalar.indexCast v379
  let c384_319 : Index := 384#32
  ![2, v458.toNat, 384]
def k0_off28 (k0_t1 : Fin k0_t1_loop.trips) : Fin 3 → Nat :=
  let c2_320 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v461 : Index := Scalar.indexCast v379
  let c640_321 : Index := 640#32
  ![2, v461.toNat, 640]
def k0_off29 (k0_t1 : Fin k0_t1_loop.trips) : Fin 3 → Nat :=
  let c2_322 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v464 : Index := Scalar.indexCast v379
  let c896_323 : Index := 896#32
  ![2, v464.toNat, 896]
def k0_off30 (k0_t1 : Fin k0_t1_loop.trips) : Fin 3 → Nat :=
  let c2_324 : Index := 2#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v467 : Index := Scalar.indexCast v379
  let c1152_325 : Index := 1152#32
  ![2, v467.toNat, 1152]
def k0_off31 (k0_t1 : Fin k0_t1_loop.trips) : Fin 3 → Nat :=
  let c3_326 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v470 : Index := Scalar.indexCast v379
  let c0_327 : Index := 0#32
  ![3, v470.toNat, 0]
def k0_off32 (k0_t1 : Fin k0_t1_loop.trips) : Fin 3 → Nat :=
  let c3_328 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v473 : Index := Scalar.indexCast v379
  let c256_329 : Index := 256#32
  ![3, v473.toNat, 256]
def k0_off33 (k0_t1 : Fin k0_t1_loop.trips) : Fin 3 → Nat :=
  let c3_330 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v476 : Index := Scalar.indexCast v379
  let c512_331 : Index := 512#32
  ![3, v476.toNat, 512]
def k0_off34 (k0_t1 : Fin k0_t1_loop.trips) : Fin 3 → Nat :=
  let c3_332 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v479 : Index := Scalar.indexCast v379
  let c768_333 : Index := 768#32
  ![3, v479.toNat, 768]
def k0_off35 (k0_t1 : Fin k0_t1_loop.trips) : Fin 3 → Nat :=
  let c3_334 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v482 : Index := Scalar.indexCast v379
  let c1024_335 : Index := 1024#32
  ![3, v482.toNat, 1024]
def k0_off36 (k0_t1 : Fin k0_t1_loop.trips) : Fin 3 → Nat :=
  let c3_336 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v485 : Index := Scalar.indexCast v379
  let c128_337 : Index := 128#32
  ![3, v485.toNat, 128]
def k0_off37 (k0_t1 : Fin k0_t1_loop.trips) : Fin 3 → Nat :=
  let c3_338 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v488 : Index := Scalar.indexCast v379
  let c384_339 : Index := 384#32
  ![3, v488.toNat, 384]
def k0_off38 (k0_t1 : Fin k0_t1_loop.trips) : Fin 3 → Nat :=
  let c3_340 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v491 : Index := Scalar.indexCast v379
  let c640_341 : Index := 640#32
  ![3, v491.toNat, 640]
def k0_off39 (k0_t1 : Fin k0_t1_loop.trips) : Fin 3 → Nat :=
  let c3_342 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v494 : Index := Scalar.indexCast v379
  let c896_343 : Index := 896#32
  ![3, v494.toNat, 896]
def k0_off40 (k0_t1 : Fin k0_t1_loop.trips) : Fin 3 → Nat :=
  let c3_344 : Index := 3#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v497 : Index := Scalar.indexCast v379
  let c1152_345 : Index := 1152#32
  ![3, v497.toNat, 1152]
def k0_off41 (k0_t1 : Fin k0_t1_loop.trips) : Fin 3 → Nat :=
  let c4_346 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v500 : Index := Scalar.indexCast v379
  let c0_347 : Index := 0#32
  ![4, v500.toNat, 0]
def k0_off42 (k0_t1 : Fin k0_t1_loop.trips) : Fin 3 → Nat :=
  let c4_348 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v503 : Index := Scalar.indexCast v379
  let c256_349 : Index := 256#32
  ![4, v503.toNat, 256]
def k0_off43 (k0_t1 : Fin k0_t1_loop.trips) : Fin 3 → Nat :=
  let c4_350 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v506 : Index := Scalar.indexCast v379
  let c512_351 : Index := 512#32
  ![4, v506.toNat, 512]
def k0_off44 (k0_t1 : Fin k0_t1_loop.trips) : Fin 3 → Nat :=
  let c4_352 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v509 : Index := Scalar.indexCast v379
  let c768_353 : Index := 768#32
  ![4, v509.toNat, 768]
def k0_off45 (k0_t1 : Fin k0_t1_loop.trips) : Fin 3 → Nat :=
  let c4_354 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v512 : Index := Scalar.indexCast v379
  let c1024_355 : Index := 1024#32
  ![4, v512.toNat, 1024]
def k0_off46 (k0_t1 : Fin k0_t1_loop.trips) : Fin 3 → Nat :=
  let c4_356 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v515 : Index := Scalar.indexCast v379
  let c128_357 : Index := 128#32
  ![4, v515.toNat, 128]
def k0_off47 (k0_t1 : Fin k0_t1_loop.trips) : Fin 3 → Nat :=
  let c4_358 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v518 : Index := Scalar.indexCast v379
  let c384_359 : Index := 384#32
  ![4, v518.toNat, 384]
def k0_off48 (k0_t1 : Fin k0_t1_loop.trips) : Fin 3 → Nat :=
  let c4_360 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v521 : Index := Scalar.indexCast v379
  let c640_361 : Index := 640#32
  ![4, v521.toNat, 640]
def k0_off49 (k0_t1 : Fin k0_t1_loop.trips) : Fin 3 → Nat :=
  let c4_362 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v524 : Index := Scalar.indexCast v379
  let c896_363 : Index := 896#32
  ![4, v524.toNat, 896]
def k0_off50 (k0_t1 : Fin k0_t1_loop.trips) : Fin 3 → Nat :=
  let c4_364 : Index := 4#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v527 : Index := Scalar.indexCast v379
  let c1152_365 : Index := 1152#32
  ![4, v527.toNat, 1152]
def k0_off51 (k0_t1 : Fin k0_t1_loop.trips) : Fin 3 → Nat :=
  let c5_366 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v530 : Index := Scalar.indexCast v379
  let c0_367 : Index := 0#32
  ![5, v530.toNat, 0]
def k0_off52 (k0_t1 : Fin k0_t1_loop.trips) : Fin 3 → Nat :=
  let c5_368 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v533 : Index := Scalar.indexCast v379
  let c256_369 : Index := 256#32
  ![5, v533.toNat, 256]
def k0_off53 (k0_t1 : Fin k0_t1_loop.trips) : Fin 3 → Nat :=
  let c5_370 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v536 : Index := Scalar.indexCast v379
  let c512_371 : Index := 512#32
  ![5, v536.toNat, 512]
def k0_off54 (k0_t1 : Fin k0_t1_loop.trips) : Fin 3 → Nat :=
  let c5_372 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v539 : Index := Scalar.indexCast v379
  let c768_373 : Index := 768#32
  ![5, v539.toNat, 768]
def k0_off55 (k0_t1 : Fin k0_t1_loop.trips) : Fin 3 → Nat :=
  let c5_374 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v542 : Index := Scalar.indexCast v379
  let c1024_375 : Index := 1024#32
  ![5, v542.toNat, 1024]
def k0_off56 (k0_t1 : Fin k0_t1_loop.trips) : Fin 3 → Nat :=
  let c5_376 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v545 : Index := Scalar.indexCast v379
  let c128_377 : Index := 128#32
  ![5, v545.toNat, 128]
def k0_off57 (k0_t1 : Fin k0_t1_loop.trips) : Fin 3 → Nat :=
  let c5_378 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v548 : Index := Scalar.indexCast v379
  let c384_379 : Index := 384#32
  ![5, v548.toNat, 384]
def k0_off58 (k0_t1 : Fin k0_t1_loop.trips) : Fin 3 → Nat :=
  let c5_380 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v551 : Index := Scalar.indexCast v379
  let c640_381 : Index := 640#32
  ![5, v551.toNat, 640]
def k0_off59 (k0_t1 : Fin k0_t1_loop.trips) : Fin 3 → Nat :=
  let c5_382 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v554 : Index := Scalar.indexCast v379
  let c896_383 : Index := 896#32
  ![5, v554.toNat, 896]
def k0_off60 (k0_t1 : Fin k0_t1_loop.trips) : Fin 3 → Nat :=
  let c5_384 : Index := 5#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v557 : Index := Scalar.indexCast v379
  let c1152_385 : Index := 1152#32
  ![5, v557.toNat, 1152]
def k0_off61 (k0_t1 : Fin k0_t1_loop.trips) : Fin 3 → Nat :=
  let c6_386 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v560 : Index := Scalar.indexCast v379
  let c0_387 : Index := 0#32
  ![6, v560.toNat, 0]
def k0_off62 (k0_t1 : Fin k0_t1_loop.trips) : Fin 3 → Nat :=
  let c6_388 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v563 : Index := Scalar.indexCast v379
  let c256_389 : Index := 256#32
  ![6, v563.toNat, 256]
def k0_off63 (k0_t1 : Fin k0_t1_loop.trips) : Fin 3 → Nat :=
  let c6_390 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v566 : Index := Scalar.indexCast v379
  let c512_391 : Index := 512#32
  ![6, v566.toNat, 512]
def k0_off64 (k0_t1 : Fin k0_t1_loop.trips) : Fin 3 → Nat :=
  let c6_392 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v569 : Index := Scalar.indexCast v379
  let c768_393 : Index := 768#32
  ![6, v569.toNat, 768]
def k0_off65 (k0_t1 : Fin k0_t1_loop.trips) : Fin 3 → Nat :=
  let c6_394 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v572 : Index := Scalar.indexCast v379
  let c1024_395 : Index := 1024#32
  ![6, v572.toNat, 1024]
def k0_off66 (k0_t1 : Fin k0_t1_loop.trips) : Fin 3 → Nat :=
  let c6_396 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v575 : Index := Scalar.indexCast v379
  let c128_397 : Index := 128#32
  ![6, v575.toNat, 128]
def k0_off67 (k0_t1 : Fin k0_t1_loop.trips) : Fin 3 → Nat :=
  let c6_398 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v578 : Index := Scalar.indexCast v379
  let c384_399 : Index := 384#32
  ![6, v578.toNat, 384]
def k0_off68 (k0_t1 : Fin k0_t1_loop.trips) : Fin 3 → Nat :=
  let c6_400 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v581 : Index := Scalar.indexCast v379
  let c640_401 : Index := 640#32
  ![6, v581.toNat, 640]
def k0_off69 (k0_t1 : Fin k0_t1_loop.trips) : Fin 3 → Nat :=
  let c6_402 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v584 : Index := Scalar.indexCast v379
  let c896_403 : Index := 896#32
  ![6, v584.toNat, 896]
def k0_off70 (k0_t1 : Fin k0_t1_loop.trips) : Fin 3 → Nat :=
  let c6_404 : Index := 6#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v587 : Index := Scalar.indexCast v379
  let c1152_405 : Index := 1152#32
  ![6, v587.toNat, 1152]
def k0_off71 (k0_t1 : Fin k0_t1_loop.trips) : Fin 3 → Nat :=
  let c7_406 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v590 : Index := Scalar.indexCast v379
  let c0_407 : Index := 0#32
  ![7, v590.toNat, 0]
def k0_off72 (k0_t1 : Fin k0_t1_loop.trips) : Fin 3 → Nat :=
  let c7_408 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v593 : Index := Scalar.indexCast v379
  let c256_409 : Index := 256#32
  ![7, v593.toNat, 256]
def k0_off73 (k0_t1 : Fin k0_t1_loop.trips) : Fin 3 → Nat :=
  let c7_410 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v596 : Index := Scalar.indexCast v379
  let c512_411 : Index := 512#32
  ![7, v596.toNat, 512]
def k0_off74 (k0_t1 : Fin k0_t1_loop.trips) : Fin 3 → Nat :=
  let c7_412 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v599 : Index := Scalar.indexCast v379
  let c768_413 : Index := 768#32
  ![7, v599.toNat, 768]
def k0_off75 (k0_t1 : Fin k0_t1_loop.trips) : Fin 3 → Nat :=
  let c7_414 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v602 : Index := Scalar.indexCast v379
  let c1024_415 : Index := 1024#32
  ![7, v602.toNat, 1024]
def k0_off76 (k0_t1 : Fin k0_t1_loop.trips) : Fin 3 → Nat :=
  let c7_416 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v605 : Index := Scalar.indexCast v379
  let c128_417 : Index := 128#32
  ![7, v605.toNat, 128]
def k0_off77 (k0_t1 : Fin k0_t1_loop.trips) : Fin 3 → Nat :=
  let c7_418 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v608 : Index := Scalar.indexCast v379
  let c384_419 : Index := 384#32
  ![7, v608.toNat, 384]
def k0_off78 (k0_t1 : Fin k0_t1_loop.trips) : Fin 3 → Nat :=
  let c7_420 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v611 : Index := Scalar.indexCast v379
  let c640_421 : Index := 640#32
  ![7, v611.toNat, 640]
def k0_off79 (k0_t1 : Fin k0_t1_loop.trips) : Fin 3 → Nat :=
  let c7_422 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v614 : Index := Scalar.indexCast v379
  let c896_423 : Index := 896#32
  ![7, v614.toNat, 896]
def k0_off80 (k0_t1 : Fin k0_t1_loop.trips) : Fin 3 → Nat :=
  let c7_424 : Index := 7#32
  let c0_i32_22 : BitVec 32 := 0#32
  let c1_i32_23 : BitVec 32 := 1#32
  let arg10 : BitVec 32 := Scf.iv c0_i32_22 c1_i32_23 k0_t1
  let c8_i32_273 : BitVec 32 := 8#32
  let v378 : BitVec 32 := Scalar.muli arg10 c8_i32_273
  let v379 : BitVec 32 := v378
  let v617 : Index := Scalar.indexCast v379
  let c1152_425 : Index := 1152#32
  ![7, v617.toNat, 1152]
def k0_cond2 (i : grid0.Coords) : BitVec 1 :=
  let arg1 : BitVec 32 := BitVec.ofNat 32 (i 1).val
  let c31_i32 : BitVec 32 := 31#32
  let v375 : BitVec 1 := Scalar.cmpi .eq arg1 c31_i32
  let v376 : BitVec 32 := Scalar.extui v375
  let c0_i32_272 : BitVec 32 := 0#32
  let v377 : BitVec 1 := Scalar.cmpi .ne v376 c0_i32_272
  v377

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x64x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2x1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S16x2048x4x64 : Shape := ⟨4, ![16, 2048, 4, 64]⟩
abbrev S2048x16x4x64 : Shape := ⟨4, ![2048, 16, 4, 64]⟩
abbrev S_ : Shape := ⟨0, ![]⟩
abbrev S16x4x64x64 : Shape := ⟨4, ![16, 4, 64, 64]⟩
abbrev S1x16x4x64 : Shape := ⟨4, ![1, 16, 4, 64]⟩
abbrev S16x4x64 : Shape := ⟨3, ![16, 4, 64]⟩
abbrev S16x4x1x64 : Shape := ⟨4, ![16, 4, 1, 64]⟩
abbrev S16x4x64x1 : Shape := ⟨4, ![16, 4, 64, 1]⟩
abbrev S16x2048x256 : Shape := ⟨3, ![16, 2048, 256]⟩
abbrev S16x2x2x64x64 : Shape := ⟨5, ![16, 2, 2, 64, 64]⟩
abbrev S16x2x64x2x64 : Shape := ⟨5, ![16, 2, 64, 2, 64]⟩
abbrev S16x2x64x128 : Shape := ⟨4, ![16, 2, 64, 128]⟩

abbrev nBuf : Space → Nat
  | .hbm => 99
  | .vmem => 0
  | .smem => 0
  | _ => 0

abbrev bufTy : (tb : Table) → Fin (tcTables nBuf tb) → BufTy
  | .hbm, ⟨0, _⟩ => ⟨S16x2048x4x64, .f32⟩
  | .hbm, ⟨1, _⟩ => ⟨S16x2048x4x64, .f32⟩
  | .hbm, ⟨2, _⟩ => ⟨S16x2048x4x64, .f32⟩
  | .hbm, ⟨3, _⟩ => ⟨S16x2048x4x64, .f32⟩
  | .hbm, ⟨4, _⟩ => ⟨S16x2048x4x64, .f32⟩
  | .hbm, ⟨5, _⟩ => ⟨S16x2048x4x64, .f32⟩
  | .hbm, ⟨6, _⟩ => ⟨S16x2048x4x64, .f32⟩
  | .hbm, ⟨7, _⟩ => ⟨S2048x16x4x64, .f32⟩
  | .hbm, ⟨8, _⟩ => ⟨S2048x16x4x64, .f32⟩
  | .hbm, ⟨9, _⟩ => ⟨S2048x16x4x64, .f32⟩
  | .hbm, ⟨10, _⟩ => ⟨S2048x16x4x64, .f32⟩
  | .hbm, ⟨11, _⟩ => ⟨S2048x16x4x64, .f32⟩
  | .hbm, ⟨12, _⟩ => ⟨S2048x16x4x64, .f32⟩
  | .hbm, ⟨13, _⟩ => ⟨S_, .f32⟩
  | .hbm, ⟨14, _⟩ => ⟨S16x4x64x64, .f32⟩
  | .hbm, ⟨15, _⟩ => ⟨S_, .f32⟩
  | .hbm, ⟨16, _⟩ => ⟨S2048x16x4x64, .f32⟩
  | .hbm, ⟨17, _⟩ => ⟨S_, .f32⟩
  | .hbm, ⟨18, _⟩ => ⟨S2048x16x4x64, .f32⟩
  | .hbm, ⟨19, _⟩ => ⟨S_, .i32⟩
  | .hbm, ⟨20, _⟩ => ⟨S2048x16x4x64, .f32⟩
  | .hbm, ⟨21, _⟩ => ⟨S2048x16x4x64, .f32⟩
  | .hbm, ⟨22, _⟩ => ⟨S2048x16x4x64, .f32⟩
  | .hbm, ⟨23, _⟩ => ⟨S2048x16x4x64, .f32⟩
  | .hbm, ⟨24, _⟩ => ⟨S2048x16x4x64, .f32⟩
  | .hbm, ⟨25, _⟩ => ⟨S2048x16x4x64, .f32⟩
  | .hbm, ⟨26, _⟩ => ⟨S_, .i32⟩
  | .hbm, ⟨27, _⟩ => ⟨S16x4x64x64, .f32⟩
  | .hbm, ⟨28, _⟩ => ⟨S2048x16x4x64, .f32⟩
  | .hbm, ⟨29, _⟩ => ⟨S2048x16x4x64, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x16x4x64, .f32⟩
  | .hbm, ⟨36, _⟩ => ⟨S16x4x64, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x16x4x64, .f32⟩
  | .hbm, ⟨41, _⟩ => ⟨S16x4x64, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x16x4x64, .f32⟩
  | .hbm, ⟨46, _⟩ => ⟨S16x4x64, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x16x4x64, .f32⟩
  | .hbm, ⟨51, _⟩ => ⟨S16x4x64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x16x4x64, .f32⟩
  | .hbm, ⟨56, _⟩ => ⟨S16x4x64, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x16x4x64, .f32⟩
  | .hbm, ⟨61, _⟩ => ⟨S16x4x64, .f32⟩
  | .hbm, ⟨62, _⟩ => ⟨S16x4x64, .f32⟩
  | .hbm, ⟨63, _⟩ => ⟨S16x4x64, .f32⟩
  | .hbm, ⟨64, _⟩ => ⟨S16x4x1x64, .f32⟩
  | .hbm, ⟨65, _⟩ => ⟨S16x4x64x64, .f32⟩
  | .hbm, ⟨66, _⟩ => ⟨S16x4x64x64, .f32⟩
  | .hbm, ⟨67, _⟩ => ⟨S16x4x64x1, .f32⟩
  | .hbm, ⟨68, _⟩ => ⟨S16x4x1x64, .f32⟩
  | .hbm, ⟨69, _⟩ => ⟨S16x4x64x64, .f32⟩
  | .hbm, ⟨70, _⟩ => ⟨S16x4x64x64, .f32⟩
  | .hbm, ⟨71, _⟩ => ⟨S16x4x64x64, .f32⟩
  | .hbm, ⟨72, _⟩ => ⟨S16x4x64x64, .f32⟩
  | .hbm, ⟨73, _⟩ => ⟨S16x4x64x1, .f32⟩
  | .hbm, ⟨74, _⟩ => ⟨S16x4x1x64, .f32⟩
  | .hbm, ⟨75, _⟩ => ⟨S16x4x64x64, .f32⟩
  | .hbm, ⟨76, _⟩ => ⟨S16x4x64x64, .f32⟩
  | .hbm, ⟨77, _⟩ => ⟨S16x4x64x64, .f32⟩
  | .hbm, ⟨78, _⟩ => ⟨S16x4x64x64, .f32⟩
  | .hbm, ⟨79, _⟩ => ⟨S16x4x64, .f32⟩
  | .hbm, ⟨80, _⟩ => ⟨S1x16x4x64, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S2048x16x4x64, .f32⟩
  | .hbm, ⟨85, _⟩ => ⟨S1x16x4x64, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S2048x16x4x64, .f32⟩
  | .hbm, ⟨90, _⟩ => ⟨S_, .i32⟩
  | .hbm, ⟨91, _⟩ => ⟨S_, .i32⟩
  | .hbm, ⟨92, _⟩ => ⟨S16x2048x4x64, .f32⟩
  | .hbm, ⟨93, _⟩ => ⟨S16x2048x256, .f32⟩
  | .hbm, ⟨94, _⟩ => ⟨S16x2048x4x64, .f32⟩
  | .hbm, ⟨95, _⟩ => ⟨S16x2048x256, .f32⟩
  | .hbm, ⟨96, _⟩ => ⟨S16x2x2x64x64, .f32⟩
  | .hbm, ⟨97, _⟩ => ⟨S16x2x64x2x64, .f32⟩
  | .hbm, ⟨98, _⟩ => ⟨S16x2x64x128, .f32⟩
  | _, _ => ⟨S16x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_c : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev main_v10_8 : Ref sig .tc := ⟨.hbm, 28, rfl⟩
abbrev main_v10_9 : Ref sig .tc := ⟨.hbm, 29, rfl⟩
abbrev main_while0c_c_11 : Ref sig .tc := ⟨.hbm, 30, rfl⟩
abbrev main_while0c_v18 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_c_1 : Ref sig .tc := ⟨.hbm, 34, rfl⟩
abbrev main_while0b_call0_v0 : Ref sig .tc := ⟨.hbm, 35, rfl⟩
abbrev main_while0b_v18 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_v0 : Ref sig .tc := ⟨.hbm, 40, rfl⟩
abbrev main_while0b_v19 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_c_1 : Ref sig .tc := ⟨.hbm, 44, rfl⟩
abbrev main_while0b_call2_v0 : Ref sig .tc := ⟨.hbm, 45, rfl⟩
abbrev main_while0b_v20 : Ref sig .tc := ⟨.hbm, 46, rfl⟩
abbrev main_while0b_call3_c : Ref sig .tc := ⟨.hbm, 47, rfl⟩
abbrev main_while0b_call3_c_0 : Ref sig .tc := ⟨.hbm, 48, rfl⟩
abbrev main_while0b_call3_c_1 : Ref sig .tc := ⟨.hbm, 49, rfl⟩
abbrev main_while0b_call3_v0 : Ref sig .tc := ⟨.hbm, 50, rfl⟩
abbrev main_while0b_v21 : Ref sig .tc := ⟨.hbm, 51, rfl⟩
abbrev main_while0b_call4_c : Ref sig .tc := ⟨.hbm, 52, rfl⟩
abbrev main_while0b_call4_c_0 : Ref sig .tc := ⟨.hbm, 53, rfl⟩
abbrev main_while0b_call4_c_1 : Ref sig .tc := ⟨.hbm, 54, rfl⟩
abbrev main_while0b_call4_v0 : Ref sig .tc := ⟨.hbm, 55, rfl⟩
abbrev main_while0b_v22 : Ref sig .tc := ⟨.hbm, 56, rfl⟩
abbrev main_while0b_call5_c : Ref sig .tc := ⟨.hbm, 57, rfl⟩
abbrev main_while0b_call5_c_0 : Ref sig .tc := ⟨.hbm, 58, rfl⟩
abbrev main_while0b_call5_c_1 : Ref sig .tc := ⟨.hbm, 59, rfl⟩
abbrev main_while0b_call5_v0 : Ref sig .tc := ⟨.hbm, 60, rfl⟩
abbrev main_while0b_v23 : Ref sig .tc := ⟨.hbm, 61, rfl⟩
abbrev main_while0b_v24 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_call6_v0 : Ref sig .tc := ⟨.hbm, 80, rfl⟩
abbrev main_while0b_call6_c : Ref sig .tc := ⟨.hbm, 81, rfl⟩
abbrev main_while0b_call6_c_0 : Ref sig .tc := ⟨.hbm, 82, rfl⟩
abbrev main_while0b_call6_c_1 : Ref sig .tc := ⟨.hbm, 83, rfl⟩
abbrev main_while0b_v42 : Ref sig .tc := ⟨.hbm, 84, rfl⟩
abbrev main_while0b_call7_v0 : Ref sig .tc := ⟨.hbm, 85, rfl⟩
abbrev main_while0b_call7_c : Ref sig .tc := ⟨.hbm, 86, rfl⟩
abbrev main_while0b_call7_c_0 : Ref sig .tc := ⟨.hbm, 87, rfl⟩
abbrev main_while0b_call7_c_1 : Ref sig .tc := ⟨.hbm, 88, rfl⟩
abbrev main_while0b_v43 : Ref sig .tc := ⟨.hbm, 89, rfl⟩
abbrev main_while0b_c_11 : Ref sig .tc := ⟨.hbm, 90, rfl⟩
abbrev main_while0b_v44 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x5632, .f32⟩
  | .hbm, ⟨21, _⟩ => ⟨S16x2048x2816, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S_, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x3072 : Shape := ⟨3, ![16, 2048, 3072]⟩
abbrev S16x2048x256 : Shape := ⟨3, ![16, 2048, 256]⟩
abbrev S16x2048x512 : Shape := ⟨3, ![16, 2048, 512]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S32768x3072 : Shape := ⟨2, ![32768, 3072]⟩
abbrev S32768x256 : Shape := ⟨2, ![32768, 256]⟩
abbrev S32768x512 : Shape := ⟨2, ![32768, 512]⟩
abbrev S1x1024 : Shape := ⟨2, ![1, 1024]⟩
abbrev S512x3072 : Shape := ⟨2, ![512, 3072]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 27
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x2048x3072, .f32⟩
  | .hbm, ⟨2, _⟩ => ⟨S16x2048x256, .bf16⟩
  | .hbm, ⟨3, _⟩ => ⟨S16x2048x512, .bf16⟩
  | .hbm, ⟨4, _⟩ => ⟨S16x2048x256, .bf16⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S256x1024, .bf16⟩
  | .hbm, ⟨14, _⟩ => ⟨S512x1024, .bf16⟩
  | .hbm, ⟨15, _⟩ => ⟨S256x1024, .bf16⟩
  | .hbm, ⟨16, _⟩ => ⟨S1024x1024, .bf16⟩
  | .hbm, ⟨17, _⟩ => ⟨S1024x5632, .bf16⟩
  | .hbm, ⟨18, _⟩ => ⟨S2816x1024, .bf16⟩
  | .hbm, ⟨19, _⟩ => ⟨S32768x1024, .f32⟩
  | .hbm, ⟨20, _⟩ => ⟨S32768x3072, .f32⟩
  | .hbm, ⟨21, _⟩ => ⟨S32768x256, .bf16⟩
  | .hbm, ⟨22, _⟩ => ⟨S32768x512, .bf16⟩
  | .hbm, ⟨23, _⟩ => ⟨S32768x256, .bf16⟩
  | .hbm, ⟨24, _⟩ => ⟨S1x1024, .f32⟩
  | .hbm, ⟨25, _⟩ => ⟨S1x1024, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .f32⟩
  | .local _ .vmem, ⟨3, _⟩ => ⟨S512x3072, .f32⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S256x1024, .bf16⟩
  | .local _ .vmem, ⟨11, _⟩ => ⟨S512x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S16x2048x1024 : Shape := ⟨3, ![16, 2048, 1024]⟩
abbrev S16x2048x3072 : Shape := ⟨3, ![16, 2048, 3072]⟩
abbrev S16x2048x256 : Shape := ⟨3, ![16, 2048, 256]⟩
abbrev S16x2048x512 : Shape := ⟨3, ![16, 2048, 512]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x3072, .f32⟩
  | .hbm, ⟨2, _⟩ => ⟨S16x2048x256, .bf16⟩
  | .hbm, ⟨3, _⟩ => ⟨S16x2048x512, .bf16⟩
  | .hbm, ⟨4, _⟩ => ⟨S16x2048x256, .bf16⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x256, .f32⟩
  | .hbm, ⟨17, _⟩ => ⟨S16x2048x1024, .f32⟩
  | .hbm, ⟨18, _⟩ => ⟨S16x2048x1024, .f32⟩
  | .hbm, ⟨19, _⟩ => ⟨S16x2048x512, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x256, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x1024, .f32⟩
  | .hbm, ⟨41, _⟩ => ⟨S16x2048x1024, .f32⟩
  | .hbm, ⟨42, _⟩ => ⟨S1x1x1024, .f32⟩
  | .hbm, ⟨43, _⟩ => ⟨S16x2048x1024, .f32⟩
  | .hbm, ⟨44, _⟩ => ⟨S16x2048x1024, .f32⟩
  | .hbm, ⟨45, _⟩ => ⟨S16x2048x5632, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S16x2048x2816, .f32⟩
  | .hbm, ⟨50, _⟩ => ⟨S_, .f32⟩
  | .hbm, ⟨51, _⟩ => ⟨S16x2048x2816, .f32⟩
  | .hbm, ⟨52, _⟩ => ⟨S16x2048x2816, .f32⟩
  | .hbm, ⟨53, _⟩ => ⟨S_, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S16x2048x1024, .f32⟩
  | .hbm, ⟨59, _⟩ => ⟨S_, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x1024, .f32⟩
  | .hbm, ⟨75, _⟩ => ⟨S16x2048x1024, .f32⟩
  | .hbm, ⟨76, _⟩ => ⟨S1x1x1024, .f32⟩
  | .hbm, ⟨77, _⟩ => ⟨S16x2048x1024, .f32⟩
  | .hbm, ⟨78, _⟩ => ⟨S16x2048x1024, .f32⟩
  | .hbm, ⟨79, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== Project.lean ====
abbrev S16x2048x1024 : Shape := ⟨3, ![16, 2048, 1024]⟩
abbrev S1024 : Shape := ⟨1, ![1024]⟩
abbrev S1024x5280 : Shape := ⟨2, ![1024, 5280]⟩
abbrev S256 : Shape := ⟨1, ![256]⟩
abbrev S256x768 : Shape := ⟨2, ![256, 768]⟩
abbrev S128 : Shape := ⟨1, ![128]⟩
abbrev S128x512 : Shape := ⟨2, ![128, 512]⟩
abbrev S1024x32 : Shape := ⟨2, ![1024, 32]⟩
abbrev S1024x4480 : Shape := ⟨2, ![1024, 4480]⟩
abbrev S1024x768 : Shape := ⟨2, ![1024, 768]⟩
abbrev S_ : Shape := ⟨0, ![]⟩
abbrev S1024x128 : Shape := ⟨2, ![1024, 128]⟩
abbrev S1024x16 : Shape := ⟨2, ![1024, 16]⟩
abbrev S1024x5504 : Shape := ⟨2, ![1024, 5504]⟩
abbrev S1x256 : Shape := ⟨2, ![1, 256]⟩
abbrev S1x128 : Shape := ⟨2, ![1, 128]⟩
abbrev S256x8x96 : Shape := ⟨3, ![256, 8, 96]⟩
abbrev S256x8x64 : Shape := ⟨3, ![256, 8, 64]⟩
abbrev S256x8x32 : Shape := ⟨3, ![256, 8, 32]⟩
abbrev S256x8x128 : Shape := ⟨3, ![256, 8, 128]⟩
abbrev S256x1024 : Shape := ⟨2, ![256, 1024]⟩
abbrev S256x8x16 : Shape := ⟨3, ![256, 8, 16]⟩
abbrev S1x256x1024 : Shape := ⟨3, ![1, 256, 1024]⟩
abbrev S2x256x1024 : Shape := ⟨3, ![2, 256, 1024]⟩
abbrev S128x8x64 : Shape := ⟨3, ![128, 8, 64]⟩
abbrev S128x8x128 : Shape := ⟨3, ![128, 8, 128]⟩
abbrev S128x1024 : Shape := ⟨2, ![128, 1024]⟩
abbrev S32768x1024 : Shape := ⟨2, ![32768, 1024]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S2048x512 : Shape := ⟨2, ![2048, 512]⟩
abbrev S1x1024 : Shape := ⟨2, ![1, 1024]⟩
abbrev S32768x3072 : Shape := ⟨2, ![32768, 3072]⟩
abbrev S32768x512 : Shape := ⟨2, ![32768, 512]⟩
abbrev S32768x128 : Shape := ⟨2, ![32768, 128]⟩
abbrev S32768x32 : Shape := ⟨2, ![32768, 32]⟩
abbrev S32768x256 : Shape := ⟨2, ![32768, 256]⟩
abbrev S32768x768 : Shape := ⟨2, ![32768, 768]⟩
abbrev S256x512 : Shape := ⟨2, ![256, 512]⟩
abbrev S256x3072 : Shape := ⟨2, ![256, 3072]⟩
abbrev S256x128 : Shape := ⟨2, ![256, 128]⟩
abbrev S256x32 : Shape := ⟨2, ![256, 32]⟩
abbrev S256x256 : Shape := ⟨2, ![256, 256]⟩
abbrev S256x1 : Shape := ⟨2, ![256, 1]⟩
abbrev S1024x3072 : Shape := ⟨2, ![1024, 3072]⟩
abbrev S1024x1024 : Shape := ⟨2, ![1024, 1024]⟩
abbrev S1024x384 : Shape := ⟨2, ![1024, 384]⟩
abbrev S256x384 : Shape := ⟨2, ![256, 384]⟩

abbrev nBuf : Space → Nat
  | .hbm => 95
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5280, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x512, .f32⟩
  | .hbm, ⟨7, _⟩ => ⟨S128x512, .f32⟩
  | .hbm, ⟨8, _⟩ => ⟨S1024x32, .f32⟩
  | .hbm, ⟨9, _⟩ => ⟨S1024x4480, .f32⟩
  | .hbm, ⟨10, _⟩ => ⟨S1024x768, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x16, .f32⟩
  | .hbm, ⟨15, _⟩ => ⟨S1024x16, .f32⟩
  | .hbm, ⟨16, _⟩ => ⟨S1024x16, .f32⟩
  | .hbm, ⟨17, _⟩ => ⟨S1024x32, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x5504, .f32⟩
  | .hbm, ⟨22, _⟩ => ⟨S1024x5504, .bf16⟩
  | .hbm, ⟨23, _⟩ => ⟨S1x256, .f32⟩
  | .hbm, ⟨24, _⟩ => ⟨S1x128, .f32⟩
  | .hbm, ⟨25, _⟩ => ⟨S256x8x96, .f32⟩
  | .hbm, ⟨26, _⟩ => ⟨S256x8x64, .f32⟩
  | .hbm, ⟨27, _⟩ => ⟨S256x8x32, .f32⟩
  | .hbm, ⟨28, _⟩ => ⟨S_, .f32⟩
  | .hbm, ⟨29, _⟩ => ⟨S256x8x64, .f32⟩
  | .hbm, ⟨30, _⟩ => ⟨S_, .f32⟩
  | .hbm, ⟨31, _⟩ => ⟨S256x8x32, .f32⟩
  | .hbm, ⟨32, _⟩ => ⟨S256x8x128, .f32⟩
  | .hbm, ⟨33, _⟩ => ⟨S256x1024, .f32⟩
  | .hbm, ⟨34, _⟩ => ⟨S256x8x16, .f32⟩
  | .hbm, ⟨35, _⟩ => ⟨S256x8x16, .f32⟩
  | .hbm, ⟨36, _⟩ => ⟨S256x8x16, .f32⟩
  | .hbm, ⟨37, _⟩ => ⟨S256x8x32, .f32⟩
  | .hbm, ⟨38, _⟩ => ⟨S256x8x128, .f32⟩
  | .hbm, ⟨39, _⟩ => ⟨S256x1024, .f32⟩
  | .hbm, ⟨40, _⟩ => ⟨S1x256x1024, .f32⟩
  | .hbm, ⟨41, _⟩ => ⟨S1x256x1024, .f32⟩
  | .hbm, ⟨42, _⟩ => ⟨S2x256x1024, .f32⟩
  | .hbm, ⟨43, _⟩ => ⟨S2x256x1024, .bf16⟩
  | .hbm, ⟨44, _⟩ => ⟨S128x8x64, .f32⟩
  | .hbm, ⟨45, _⟩ => ⟨S_, .f32⟩
  | .hbm, ⟨46, _⟩ => ⟨S128x8x64, .f32⟩
  | .hbm, ⟨47, _⟩ => ⟨S128x8x128, .f32⟩
  | .hbm, ⟨48, _⟩ => ⟨S128x1024, .f32⟩
  | .hbm, ⟨49, _⟩ => ⟨S128x1024, .bf16⟩
  | .hbm, ⟨50, _⟩ => ⟨S128x512, .bf16⟩
  | .hbm, ⟨51, _⟩ => ⟨S32768x1024, .f32⟩
  | .hbm, ⟨52, _⟩ => ⟨S2048, .i32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S2048, .f32⟩
  | .hbm, ⟨62, _⟩ => ⟨S2048x1, .f32⟩
  | .hbm, ⟨63, _⟩ => ⟨S1x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x32, .f32⟩
  | .hbm, ⟨70, _⟩ => ⟨S2048x32, .f32⟩
  | .hbm, ⟨71, _⟩ => ⟨S_, .f32⟩
  | .hbm, ⟨72, _⟩ => ⟨S2048x64, .f32⟩
  | .hbm, ⟨73, _⟩ => ⟨S_, .f32⟩
  | .hbm, ⟨74, _⟩ => ⟨S2048x64, .f32⟩
  | .hbm, ⟨75, _⟩ => ⟨S_, .f32⟩
  | .hbm, ⟨76, _⟩ => ⟨S2048x32, .f32⟩
  | .hbm, ⟨77, _⟩ => ⟨S_, .i32⟩
  | .hbm, ⟨78, _⟩ => ⟨S_, .f32⟩
  | .hbm, ⟨79, _⟩ => ⟨S2048x128, .f32⟩
  | .hbm, ⟨80, _⟩ => ⟨S_, .i32⟩
  | .hbm, ⟨81, _⟩ => ⟨S_, .f32⟩
  | .hbm, ⟨82, _⟩ => ⟨S2048x128, .f32⟩
  | .hbm, ⟨83, _⟩ => ⟨S2048x512, .f32⟩
  | .hbm, ⟨84, _⟩ => ⟨S1x1024, .f32⟩
  | .hbm, ⟨85, _⟩ => ⟨S32768x3072, .f32⟩
  | .hbm, ⟨86, _⟩ => ⟨S32768x1024, .f32⟩
  | .hbm, ⟨87, _⟩ => ⟨S32768x1024, .bf16⟩
  | .hbm, ⟨88, _⟩ => ⟨S32768x1024, .bf16⟩
  | .hbm, ⟨89, _⟩ => ⟨S32768x512, .bf16⟩
  | .hbm, ⟨90, _⟩ => ⟨S32768x128, .f32⟩
  | .hbm, ⟨91, _⟩ => ⟨S32768x32, .f32⟩
  | .hbm, ⟨92, _⟩ => ⟨S32768x256, .f32⟩
  | .hbm, ⟨93, _⟩ => ⟨S32768x256, .f32⟩
  | .hbm, ⟨94, _⟩ => ⟨S32768x768, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5504, .bf16⟩
  | .local _ .vmem, ⟨4, _⟩ => ⟨S256x512, .f32⟩
  | .local _ .vmem, ⟨5, _⟩ => ⟨S256x512, .f32⟩
  | .local _ .vmem, ⟨6, _⟩ => ⟨S1x256, .f32⟩
  | .local _ .vmem, ⟨7, _⟩ => ⟨S1x128, .f32⟩
  | .local _ .vmem, ⟨8, _⟩ => ⟨S2x256x1024, .bf16⟩
  | .local _ .vmem, ⟨9, _⟩ => ⟨S128x1024, .bf16⟩
  | .local _ .vmem, ⟨10, _⟩ => ⟨S128x512, .bf16⟩
  | .local _ .vmem, ⟨11, _⟩ => ⟨S256x3072, .f32⟩
  | .local _ .vmem, ⟨12, _⟩ => ⟨S256x3072, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x512, .bf16⟩
  | .local _ .vmem, ⟨20, _⟩ => ⟨S256x512, .bf16⟩
  | .local _ .vmem, ⟨21, _⟩ => ⟨S256x128, .f32⟩
  | .local _ .vmem, ⟨22, _⟩ => ⟨S256x128, .f32⟩
  | .local _ .vmem, ⟨23, _⟩ => ⟨S256x32, .f32⟩
  | .local _ .vmem, ⟨24, _⟩ => ⟨S256x32, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x768, .bf16⟩
  | .local _ .vmem, ⟨30, _⟩ => ⟨S256x768, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_c_8 : Ref sig .tc := ⟨.hbm, 77, rfl⟩
abbrev main_call2_v0 : Ref sig .tc := ⟨.hbm, 78, rfl⟩
abbrev main_v57 : Ref sig .tc := ⟨.hbm, 79, rfl⟩
abbrev main_c_9 : Ref sig .tc := ⟨.hbm, 80, rfl⟩
abbrev main_call3_v0 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev main_v61_2 : Ref sig .tc := ⟨.hbm, 87, rfl⟩
abbrev main_v61_3 : Ref sig .tc := ⟨.hbm, 88, rfl⟩
abbrev main_v61_4 : Ref sig .tc := ⟨.hbm, 89, rfl⟩
abbrev main_v61_5 : Ref sig .tc := ⟨.hbm, 90, rfl⟩
abbrev main_v61_6 : Ref sig .tc := ⟨.hbm, 91, rfl⟩
abbrev main_v61_7 : Ref sig .tc := ⟨.hbm, 92, rfl⟩
abbrev main_v61_8 : Ref sig .tc := ⟨.hbm, 93, rfl⟩
abbrev main_v61_9 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5504 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x768 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ProjectReferenceIdeal.lean ====
abbrev S16x2048x1024 : Shape := ⟨3, ![16, 2048, 1024]⟩
abbrev S1024 : Shape := ⟨1, ![1024]⟩
abbrev S1024x5280 : Shape := ⟨2, ![1024, 5280]⟩
abbrev S256 : Shape := ⟨1, ![256]⟩
abbrev S256x768 : Shape := ⟨2, ![256, 768]⟩
abbrev S128 : Shape := ⟨1, ![128]⟩
abbrev S128x512 : Shape := ⟨2, ![128, 512]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5280 : Shape := ⟨3, ![16, 2048, 5280]⟩
abbrev S16x2048x3072 : Shape := ⟨3, ![16, 2048, 3072]⟩
abbrev S16x2048x416 : Shape := ⟨3, ![16, 2048, 416]⟩
abbrev S16x2048x768 : Shape := ⟨3, ![16, 2048, 768]⟩
abbrev S16x2048x256 : Shape := ⟨3, ![16, 2048, 256]⟩
abbrev S16x2048x128 : Shape := ⟨3, ![16, 2048, 128]⟩
abbrev S16x2048x32 : Shape := ⟨3, ![16, 2048, 32]⟩
abbrev S1x1x128 : Shape := ⟨3, ![1, 1, 128]⟩
abbrev S16x2048x512 : Shape := ⟨3, ![16, 2048, 512]⟩
abbrev S32768x3072 : Shape := ⟨2, ![32768, 3072]⟩
abbrev S32768x1024 : Shape := ⟨2, ![32768, 1024]⟩
abbrev S32768x512 : Shape := ⟨2, ![32768, 512]⟩
abbrev S32768x128 : Shape := ⟨2, ![32768, 128]⟩
abbrev S32768x256 : Shape := ⟨2, ![32768, 256]⟩
abbrev S32768x768 : Shape := ⟨2, ![32768, 768]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5280, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x512, .f32⟩
  | .hbm, ⟨7, _⟩ => ⟨S128x512, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x5280, .f32⟩
  | .hbm, ⟨25, _⟩ => ⟨S16x2048x3072, .f32⟩
  | .hbm, ⟨26, _⟩ => ⟨S16x2048x1024, .f32⟩
  | .hbm, ⟨27, _⟩ => ⟨S16x2048x416, .f32⟩
  | .hbm, ⟨28, _⟩ => ⟨S16x2048x768, .f32⟩
  | .hbm, ⟨29, _⟩ => ⟨S16x2048x256, .f32⟩
  | .hbm, ⟨30, _⟩ => ⟨S16x2048x128, .f32⟩
  | .hbm, ⟨31, _⟩ => ⟨S16x2048x32, .f32⟩
  | .hbm, ⟨32, _⟩ => ⟨S16x2048x128, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S16x2048x1, .f32⟩
  | .hbm, ⟨43, _⟩ => ⟨S16x2048x128, .f32⟩
  | .hbm, ⟨44, _⟩ => ⟨S16x2048x128, .f32⟩
  | .hbm, ⟨45, _⟩ => ⟨S1x1x128, .f32⟩
  | .hbm, ⟨46, _⟩ => ⟨S16x2048x128, .f32⟩
  | .hbm, ⟨47, _⟩ => ⟨S16x2048x128, .f32⟩
  | .hbm, ⟨48, _⟩ => ⟨S16x2048x512, .f32⟩
  | .hbm, ⟨49, _⟩ => ⟨S16x2048x256, .f32⟩
  | .hbm, ⟨50, _⟩ => ⟨S16x2048x256, .f32⟩
  | .hbm, ⟨51, _⟩ => ⟨S16x2048x256, .f32⟩
  | .hbm, ⟨52, _⟩ => ⟨S16x2048x3072, .f32⟩
  | .hbm, ⟨53, _⟩ => ⟨S16x2048x3072, .f32⟩
  | .hbm, ⟨54, _⟩ => ⟨S_, .f32⟩
  | .hbm, ⟨55, _⟩ => ⟨S16x2048x3072, .f32⟩
  | .hbm, ⟨56, _⟩ => ⟨S16x2048x3072, .f32⟩
  | .hbm, ⟨57, _⟩ => ⟨S_, .f32⟩
  | .hbm, ⟨58, _⟩ => ⟨S16x2048x3072, .f32⟩
  | .hbm, ⟨59, _⟩ => ⟨S16x2048x3072, .f32⟩
  | .hbm, ⟨60, _⟩ => ⟨S32768x3072, .f32⟩
  | .hbm, ⟨61, _⟩ => ⟨S32768x1024, .f32⟩
  | .hbm, ⟨62, _⟩ => ⟨S32768x512, .f32⟩
  | .hbm, ⟨63, _⟩ => ⟨S32768x512, .bf16⟩
  | .hbm, ⟨64, _⟩ => ⟨S32768x128, .f32⟩
  | .hbm, ⟨65, _⟩ => ⟨S32768x256, .f32⟩
  | .hbm, ⟨66, _⟩ => ⟨S32768x256, .f32⟩
  | .hbm, ⟨67, _⟩ => ⟨S32768x768, .f32⟩
  | .hbm, ⟨68, _⟩ => ⟨S32768x768, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Proof.Struct.lean ====
/-
  The scan kernel's body as a short program: the printed body is 11000 statements long because its eight time steps
  per trip and its sixteen (batch, head pair) tiles are written out. Here the same program is given by a few
  parametrised pieces, and shown to be the printed one by unfolding.
-/
module

public import proofs.«01_k».proof.Proof.Gen.KernelIdeal
public import proofs.«01_k».proof.Proof.Gen.KernelIdeal.Skeleton

@[expose] public section

set_option maxRecDepth 16384

noncomputable section

namespace Cert.KernelIdeal.Scan

open Cert.KernelIdeal Cert.KernelIdeal.Gen
open Idealize.ShloMosaic Idealize.SL.Sem

variable {F : FTy → Type} [FloatOps F]

/-- The programs of the body. -/
abbrev BodyProg (F : FTy → Type) [FloatOps F] (α : Type) : Type 1 := Prog (TpuEff nD τ sig (Elt F) Λ₀ .tc) α

/-- The first time step of trip `t` within the block. -/
abbrev base (t : Fin k0_t1_loop.trips) : BitVec 32 := Scalar.muli (Scf.iv 0#32 1#32 t) 8#32

/-- Where the eight rows of trip `t` start, for batch `b`, head pair `p` and input column group `q`. -/
def tileOff (t : Fin k0_t1_loop.trips) (b : Fin 8) (p : Fin 2) (q : Fin 5) : Fin 3 → Nat :=
  ![b.val, (Scalar.indexCast (base t)).toNat, 256 * q.val + 128 * p.val]

/-- Every tile read in a trip lies inside the block of rows. -/
theorem tileOff_inb : ∀ (t : Fin k0_t1_loop.trips) (b : Fin 8) (p : Fin 2) (q : Fin 5), ∀ a, tileOff t b p q a + S1x8x128.size a ≤ S8x64x1280.size a := by
  decide +kernel

/-- The rectangle of tile `(b, p)` in a scratch buffer lies inside it. -/
theorem inb_tile : ∀ (b : Fin 8) (p : Fin 2), ∀ a, (![b.val, p.val, 0, 0] : Fin 4 → Nat) a + S1x1x64x128.size a ≤ S8x2x64x128.size a := by
  decide +kernel

/-- The rectangle of tile `(b, p)` in the transposed value window lies inside it. -/
theorem inb_vt : ∀ (b : Fin 8) (p : Fin 2), ∀ a, (![b.val, p.val, 0, 0, 0] : Fin 5 → Nat) a + S1x1x1x64x128.size a ≤ S8x2x1x64x128.size a := by
  decide +kernel

/-- Row `u` of an eight-row tile is a slice of it. -/
theorem slices_row : ∀ u : Fin 8, S8x128.Slices ![u.val, 0] S1x128 := by decide

/-- Rows `64 * k` on of the reduced products are a slice. -/
theorem slices_red : ∀ k : Fin 8, S512x256.Slices ![64 * k.val, 0] S64x256 := by decide

/-- One (batch, pair) tile of a scratch buffer. -/
abbrev tileRect (b : Fin 8) (p : Fin 2) : Rect S8x2x64x128 :=
  Rect.unit (s := S8x2x64x128) ![b.val, p.val, 0, 0] S1x1x64x128.size (inb_tile b p)

/-- Load tile `(b, p)` of a scratch buffer. -/
def loadTile (M : Memref sig .tc .vmem S8x2x64x128 .f32) (b : Fin 8) (p : Fin 2) : BodyProg F (Vec F S1x1x64x128 .f32) :=
  Prog.lift (.load M (tileRect b p).toLoadRect (View.loadsAt_vmem h_S1x1x64x128))

/-- Store tile `(b, p)` of a scratch buffer whole. -/
def storeTile (M : Memref sig .tc .vmem S8x2x64x128 .f32) (b : Fin 8) (p : Fin 2) (v : FVec F S1x1x64x128 .f32) : BodyProg F PUnit :=
  Prog.lift (.store M (tileRect b p) v Finset.univ (View.stores_vmem_bits_univ h_S1x1x64x128 rfl) (.inl rfl))

/-- Store into tile `(b, p)` of a scratch buffer under a lane mask. -/
def storeMasked (M : Memref sig .tc .vmem S8x2x64x128 .f32) (b : Fin 8) (p : Fin 2) (v : FVec F S1x1x64x128 .f32) (msk : IVec S1x1x64x128 1) : BodyProg F PUnit :=
  Prog.lift (.store M (tileRect b p) v (IVec.on msk) (View.stores_vmem_bits h_S1x1x64x128 rfl (fun h => nomatch h)) (.inr (fun _ => rfl)))

/-- Load the eight rows of trip `t` of one input column group. -/
def loadRows (arg2 : Memref sig .tc .vmem S8x64x1280 .f32) (t : Fin k0_t1_loop.trips) (b : Fin 8) (p : Fin 2) (q : Fin 5) : BodyProg F (FVec F S8x128 .f32) := do
  let v ← Prog.lift (.load arg2 (Rect.unit (s := S8x64x1280) (tileOff t b p q) S1x8x128.size (tileOff_inb t b p q)).toLoadRect (View.loadsAt_vmem h_S1x8x128))
  pure (shapeCast S8x128 v shapeCasts_S1x8x128_S8x128)

/-- Load the five column groups of `(b, p)`. -/
def loadFive (arg2 : Memref sig .tc .vmem S8x64x1280 .f32) (t : Fin k0_t1_loop.trips) (b : Fin 8) (p : Fin 2) : BodyProg F (Fin 5 → FVec F S8x128 .f32) := do
  let x0 ← loadRows arg2 t b p 0
  let x1 ← loadRows arg2 t b p 1
  let x2 ← loadRows arg2 t b p 2
  let x3 ← loadRows arg2 t b p 3
  let x4 ← loadRows arg2 t b p 4
  pure ![x0, x1, x2, x3, x4]

/-- Load both pairs of batch `b`. -/
def loadPairs (arg2 : Memref sig .tc .vmem S8x64x1280 .f32) (t : Fin k0_t1_loop.trips) (b : Fin 8) : BodyProg F (Fin 2 → Fin 5 → FVec F S8x128 .f32) := do
  let x0 ← loadFive arg2 t b 0
  let x1 ← loadFive arg2 t b 1
  pure ![x0, x1]

/-- Load every input row of trip `t`. -/
def loadAll (arg2 : Memref sig .tc .vmem S8x64x1280 .f32) (t : Fin k0_t1_loop.trips) : BodyProg F (Fin 8 → Fin 2 → Fin 5 → FVec F S8x128 .f32) := do
  let x0 ← loadPairs arg2 t 0
  let x1 ← loadPairs arg2 t 1
  let x2 ← loadPairs arg2 t 2
  let x3 ← loadPairs arg2 t 3
  let x4 ← loadPairs arg2 t 4
  let x5 ← loadPairs arg2 t 5
  let x6 ← loadPairs arg2 t 6
  let x7 ← loadPairs arg2 t 7
  pure ![x0, x1, x2, x3, x4, x5, x6, x7]

/-- A state tile times the removal row and times the readout row, side by side. -/
def prods (u : Fin 8) (x : Fin 5 → FVec F S8x128 .f32) (s : Vec F S1x1x64x128 .f32) : FVec F S64x256 .f32 :=
  concatenate S64x256 1
    [⟨S64x128, mulf (shapeCast S64x128 s shapeCasts_S1x1x64x128_S64x128) (broadcastTo S64x128 (extractStridedSlice S1x128 ![u.val, 0] (x 1) (slices_row u)) broadcasts_S1x128_S64x128)⟩,
     ⟨S64x128, mulf (shapeCast S64x128 s shapeCasts_S1x1x64x128_S64x128) (broadcastTo S64x128 (extractStridedSlice S1x128 ![u.val, 0] (x 4) (slices_row u)) broadcasts_S1x128_S64x128)⟩]
    concatenates_S64x128_S64x128_S64x256_d1

/-- The leading half of the products. -/
def hi (u : Fin 8) (x : Fin 5 → FVec F S8x128 .f32) (s : Vec F S1x1x64x128 .f32) : FVec F S64x256 .bf16 :=
  truncf .bf16 (prods u x s) bitsLt_bf16_f32

/-- What the leading half leaves out. -/
def lo (u : Fin 8) (x : Fin 5 → FVec F S8x128 .f32) (s : Vec F S1x1x64x128 .f32) : FVec F S64x256 .bf16 :=
  truncf .bf16 (subf (prods u x s) (extf .f32 (hi u x s) bitsLt_bf16_f32)) bitsLt_bf16_f32

/-- The lane sums of four tiles' products, leading halves above, the rest below. -/
def sums (ones : FVec F S256x256 .bf16) (u : Fin 8) (x0 x1 x2 x3 : Fin 5 → FVec F S8x128 .f32) (s0 s1 s2 s3 : Vec F S1x1x64x128 .f32) : FVec F S512x256 .f32 :=
  matmul dot_S512x256_S256x256_S512x256_1_0_0_1_n_n none
    (concatenate S512x256 0 [⟨S64x256, hi u x0 s0⟩, ⟨S64x256, hi u x1 s1⟩, ⟨S64x256, hi u x2 s2⟩, ⟨S64x256, hi u x3 s3⟩,
      ⟨S64x256, lo u x0 s0⟩, ⟨S64x256, lo u x1 s1⟩, ⟨S64x256, lo u x2 s2⟩, ⟨S64x256, lo u x3 s3⟩]
      concatenates_S64x256_S64x256_S64x256_S64x256_S64x256_S64x256_S64x256_S64x256_S512x256_d0)
    ones (constant S512x256 .f32 0x00000000#32)

/-- The sums of tile `k` of a group: the two halves joined. -/
def red (k : Fin 4) (z : FVec F S512x256 .f32) : FVec F S64x256 .f32 :=
  addf (extractStridedSlice S64x256 ![64 * k.val, 0] z (slices_red ⟨k.val, by omega⟩))
    (extractStridedSlice S64x256 ![64 * (4 + k.val), 0] z (slices_red ⟨4 + k.val, by omega⟩))

/-- What the state gives along the removal key. -/
def redSa (k : Fin 4) (z : FVec F S512x256 .f32) : FVec F S64x128 .f32 := extractStridedSlice S64x128 ![0, 0] (red k z) slices_S64x256_o0_0_S64x128

/-- What the state gives along the readout key. -/
def redYp (k : Fin 4) (z : FVec F S512x256 .f32) : FVec F S64x128 .f32 := extractStridedSlice S64x128 ![0, 128] (red k z) slices_S64x256_o0_128_S64x128

/-- The lane the step's values stand in, for each lane. -/
def lane (idx : IVec S64x128 32) : IVec S64x128 32 :=
  shapeCast S64x128 (shapeCast S64x128x1 (select (cmpi .slt idx (broadcast S64x128 0#32)) (addi idx (broadcast S64x128 128#32)) idx) shapeCasts_S64x128_S64x128x1) shapeCasts_S64x128x1_S64x128

/-- The state tile after the step. -/
def newS (u : Fin 8) (idx : IVec S64x128 32) (x : Fin 5 → FVec F S8x128 .f32) (sa : FVec F S64x128 .f32) (v : Vec F S1x1x1x64x128 .f32) (s : Vec F S1x1x64x128 .f32) : FVec F S1x1x64x128 .f32 :=
  shapeCast S1x1x64x128
    (addf (addf (mulf (shapeCast S64x128 s shapeCasts_S1x1x64x128_S64x128) (broadcastTo S64x128 (extractStridedSlice S1x128 ![u.val, 0] (x 0) (slices_row u)) broadcasts_S1x128_S64x128))
        (mulf sa (broadcastTo S64x128 (extractStridedSlice S1x128 ![u.val, 0] (x 2) (slices_row u)) broadcasts_S1x128_S64x128)))
      (mulf (dynamicGather 1 (shapeCast S64x128 v shapeCasts_S1x1x1x64x128_S64x128) (lane idx)) (broadcastTo S64x128 (extractStridedSlice S1x128 ![u.val, 0] (x 3) (slices_row u)) broadcasts_S1x128_S64x128)))
    shapeCasts_S64x128_S1x1x64x128

/-- The update of tile `(b, p)`, the `k`-th of its group. -/
def updTile (arg3 : Memref sig .tc .vmem S8x2x1x64x128 .f32) (arg7 arg8 arg9 : Memref sig .tc .vmem S8x2x64x128 .f32) (sel : IVec S64x128 1) (idx : IVec S64x128 32)
    (u : Fin 8) (x : Fin 5 → FVec F S8x128 .f32) (b : Fin 8) (p : Fin 2) (k : Fin 4) (z : FVec F S512x256 .f32) : BodyProg F PUnit := do
  let v ← Prog.lift (.load arg3 (Rect.unit (s := S8x2x1x64x128) ![b.val, p.val, 0, 0, 0] S1x1x1x64x128.size (inb_vt b p)).toLoadRect (View.loadsAt_vmem h_S1x1x1x64x128))
  let s ← loadTile arg7 b p
  let _ ← loadTile arg7 b p
  storeTile arg7 b p (newS u idx x (redSa k z) v s)
  let _ ← loadTile arg8 b p
  storeMasked arg8 b p (shapeCast S1x1x64x128 (redSa k z) shapeCasts_S64x128_S1x1x64x128) (shapeCast S1x1x64x128 sel shapeCasts_S64x128_S1x1x64x128)
  let _ ← loadTile arg9 b p
  storeMasked arg9 b p (shapeCast S1x1x64x128 (redYp k z) shapeCasts_S64x128_S1x1x64x128) (shapeCast S1x1x64x128 sel shapeCasts_S64x128_S1x1x64x128)

/-- One time step of batches `b` and `c`. -/
def group (arg3 : Memref sig .tc .vmem S8x2x1x64x128 .f32) (arg7 arg8 arg9 : Memref sig .tc .vmem S8x2x64x128 .f32) (ones : FVec F S256x256 .bf16) (sel : IVec S64x128 1) (idx : IVec S64x128 32)
    (u : Fin 8) (xs : Fin 8 → Fin 2 → Fin 5 → FVec F S8x128 .f32) (b c : Fin 8) : BodyProg F PUnit := do
  let s0 ← loadTile arg7 b 0
  let s1 ← loadTile arg7 b 1
  let s2 ← loadTile arg7 c 0
  let s3 ← loadTile arg7 c 1
  let z : FVec F S512x256 .f32 := sums ones u (xs b 0) (xs b 1) (xs c 0) (xs c 1) s0 s1 s2 s3
  updTile arg3 arg7 arg8 arg9 sel idx u (xs b 0) b 0 0 z
  updTile arg3 arg7 arg8 arg9 sel idx u (xs b 1) b 1 1 z
  updTile arg3 arg7 arg8 arg9 sel idx u (xs c 0) c 0 2 z
  updTile arg3 arg7 arg8 arg9 sel idx u (xs c 1) c 1 3 z

/-- The lanes that hold step `u` of the trip that starts at step `t0`. -/
def selAt (t0 : BitVec 32) (u : Fin 8) : IVec S64x128 1 := cmpi .eq (k0_pay1703) (broadcast S64x128 (Scalar.addi t0 (BitVec.ofNat 32 u.val)))

/-- Where step `u`'s values stand. -/
def idxAt (t0 : BitVec 32) (u : Fin 8) : IVec S64x128 32 := addi (k0_pay1702) (broadcast S64x128 (Scalar.addi t0 (BitVec.ofNat 32 u.val)))

/-- One time step. -/
def step (arg3 : Memref sig .tc .vmem S8x2x1x64x128 .f32) (arg7 arg8 arg9 : Memref sig .tc .vmem S8x2x64x128 .f32) (ones : FVec F S256x256 .bf16) (t0 : BitVec 32)
    (xs : Fin 8 → Fin 2 → Fin 5 → FVec F S8x128 .f32) (u : Fin 8) : BodyProg F PUnit := do
  group arg3 arg7 arg8 arg9 ones (selAt t0 u) (idxAt t0 u) u xs 0 1
  group arg3 arg7 arg8 arg9 ones (selAt t0 u) (idxAt t0 u) u xs 2 3
  group arg3 arg7 arg8 arg9 ones (selAt t0 u) (idxAt t0 u) u xs 4 5
  group arg3 arg7 arg8 arg9 ones (selAt t0 u) (idxAt t0 u) u xs 6 7

/-- One trip: eight time steps. -/
def trip (arg2 : Memref sig .tc .vmem S8x64x1280 .f32) (arg3 : Memref sig .tc .vmem S8x2x1x64x128 .f32) (arg7 arg8 arg9 : Memref sig .tc .vmem S8x2x64x128 .f32) (ones : FVec F S256x256 .bf16)
    (t : Fin k0_t1_loop.trips) : BodyProg F Unit := do
  let xs ← loadAll arg2 t
  step arg3 arg7 arg8 arg9 ones (base t) xs 0
  step arg3 arg7 arg8 arg9 ones (base t) xs 1
  step arg3 arg7 arg8 arg9 ones (base t) xs 2
  step arg3 arg7 arg8 arg9 ones (base t) xs 3
  step arg3 arg7 arg8 arg9 ones (base t) xs 4
  step arg3 arg7 arg8 arg9 ones (base t) xs 5
  step arg3 arg7 arg8 arg9 ones (base t) xs 6
  step arg3 arg7 arg8 arg9 ones (base t) xs 7
  pure ⟨⟩

end Cert.KernelIdeal.Scan

end
-- ==== Proof.Trip.lean ====
/-
  One trip of the scan kernel, run by hand: what it leaves in the three scratch buffers, as a function of what they held.
-/
module

public import proofs.«01_k».proof.Proof.Struct
public import proofs.«01_k».proof.Proof.Gen.KernelIdeal.Loops

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- From `P` the program runs to `a` and leaves `P'`, whatever comes after. -/
structure Does (c : Dev nD) {α : Type} (P : sProp 𝕄) (prog : BodyProg F α) (a : α) (P' : sProp 𝕄) : Prop where
  /-- the run, at any continuation -/
  run : ∀ {β : Type} (k : α → BodyProg F β) (Q : β → sProp 𝕄),
    P ⊢ iprop((P' -∗ wp frame (wpE defs₀ Variants.none (c : Thread nD τ) none) Set.univ (k a) Q)
      -∗ wp frame (wpE defs₀ Variants.none (c : Thread nD τ) none) Set.univ (prog >>= k) Q)

variable {c : Dev nD}

/-- One program after another. -/
theorem Does.bind {α β : Type} {P P' P'' : sProp 𝕄} {p : BodyProg F α} {a : α} {g : α → BodyProg F β} {b : β}
    (h : Does c P p a P') (h' : Does c P' (g a) b P'') : Does c P (p >>= g) b P'' := by
  refine ⟨fun {γ} k Q => ?_⟩
  rw [Prog.bind_assoc]
  iintro HP HK
  iapply (h.run (fun x => g x >>= k) Q) $$ HP
  iintro HP
  iapply (h'.run k Q) $$ HP
  iexact HK

/-- A program that only returns. -/
theorem Does.pure {α : Type} {P : sProp 𝕄} (a : α) : Does (F := F) c P (Pure.pure a) a P := by
  refine ⟨fun {γ} k Q => ?_⟩
  show P ⊢ iprop((P -∗ wp frame (wpE defs₀ Variants.none (c : Thread nD τ) none) Set.univ (k a) Q)
      -∗ wp frame (wpE defs₀ Variants.none (c : Thread nD τ) none) Set.univ (k a) Q)
  iintro HP HK
  iapply HK $$ HP

/-- A program run beside resources it does not touch. -/
theorem Does.framed {α : Type} {P P' : sProp 𝕄} {p : BodyProg F α} {a : α} (R : sProp 𝕄) (h : Does c P p a P') :
    Does c iprop(P ∗ R) p a iprop(P' ∗ R) := by
  refine ⟨fun {γ} k Q => ?_⟩
  iintro ⟨HP, HR⟩ HK
  iapply (h.run k Q) $$ HP
  iintro HP
  iapply HK
  isplitl [HP]
  · iexact HP
  · iexact HR

/-- The same between equal resources. -/
theorem Does.conv {α : Type} {P P' P₁ P₁' : sProp 𝕄} {p : BodyProg F α} {a : α} (h : Does c P p a P') (h₁ : P₁ ⊢ P) (h₂ : P' ⊢ P₁') :
    Does c P₁ p a P₁' := by
  refine ⟨fun {γ} k Q => ?_⟩
  iintro HP HK
  iapply (h.run k Q) $$ [HP]
  · iapply h₁ $$ HP
  iintro HP
  iapply HK
  iapply h₂ $$ HP

/-- A load reads the contents and leaves them. -/
theorem Does.load {cs : CoreSpace} {s : Shape} {e : EltTy} (m : Memref sig .tc cs s e) (r : LoadRect s) (hl : m.view.LoadsAt r)
    (f : Buf (Elt F) (m.view.loc (c : Thread nD τ))) :
    Does (F := F) c iprop(m.view.loc (c : Thread nD τ) ↦{fullShare} f) (Prog.lift (TpuEff.load (Val := Elt F) (Λ := Λ₀) m r hl)) (m.view.readAt (Elt F) r f)
      iprop(m.view.loc (c : Thread nD τ) ↦{fullShare} f) := by
  refine ⟨fun {γ} k Q => ?_⟩
  exact wp_load Variants.none (c : Thread nD τ) none Set.univ (Finset.subset_univ _)

/-- A store rewrites the contents at the places of its rectangle the mask takes. -/
theorem Does.store {cs : CoreSpace} {s : Shape} {e : EltTy} (m : Memref sig .tc cs s e) (r : Rect s) (w : r.shape.Idx → Elt F e) (Mk : Finset r.shape.Idx)
    (hx : (m.access r).Stores Mk) (hm : Mk = Finset.univ ∨ ∀ a, r.stride a = 1)
    (f : Buf (Elt F) (m.view.loc (c : Thread nD τ))) :
    Does (F := F) c iprop(m.view.loc (c : Thread nD τ) ↦{fullShare} f) (Prog.lift (TpuEff.store (Val := Elt F) (Λ := Λ₀) m r w Mk hx hm)) ⟨⟩
      iprop(m.view.loc (c : Thread nD τ) ↦{fullShare} ((m.access r).write (Elt F) f w Mk)) := by
  refine ⟨fun {γ} k Q => ?_⟩
  exact wp_store (defs := defs₀) (Γ := .empty) (m := m) (r := r) (w := w) (Mk := Mk) (hx := hx) (hm := hm) (S := Finset.univ) (f := f) (k := k) (Q := Q)
    Variants.none (c : Thread nD τ) none Set.univ (Finset.subset_univ _)

/-! ## The contents the trip works on -/

section Contents

variable (arg2 : Memref sig .tc .vmem S8x64x1280 .f32) (arg3 : Memref sig .tc .vmem S8x2x1x64x128 .f32)
  (arg7 arg8 arg9 : Memref sig .tc .vmem S8x2x64x128 .f32)

/-- What the three scratch buffers hold: the state, the removal sums, the readout sums. -/
@[ext] structure St (F : FTy → Type) [FloatOps F] (arg7 arg8 arg9 : Memref sig .tc .vmem S8x2x64x128 .f32) where
  /-- the state tiles -/
  s : arg7.view.ty.Contents (Elt F)
  /-- the removal sums, one lane per time step -/
  sa : arg8.view.ty.Contents (Elt F)
  /-- the readout sums, one lane per time step -/
  yp : arg9.view.ty.Contents (Elt F)

variable {arg7 arg8 arg9}

/-- The buffers a trip touches, at their contents. -/
def own (c : Dev nD) (f2 : arg2.view.ty.Contents (Elt F)) (f3 : arg3.view.ty.Contents (Elt F)) (x : St F arg7 arg8 arg9) : sProp 𝕄 :=
  iprop((arg2.view.loc (c : Thread nD τ) ↦{fullShare} f2) ∗ (arg3.view.loc (c : Thread nD τ) ↦{fullShare} f3)
    ∗ (arg7.view.loc (c : Thread nD τ) ↦{fullShare} x.s) ∗ (arg8.view.loc (c : Thread nD τ) ↦{fullShare} x.sa)
    ∗ (arg9.view.loc (c : Thread nD τ) ↦{fullShare} x.yp))

/-- A tile read. -/
def rd (M : Memref sig .tc .vmem S8x2x64x128 .f32) (f : M.view.ty.Contents (Elt F)) (b : Fin 8) (p : Fin 2) : Vec F S1x1x64x128 .f32 :=
  M.view.readAt (Elt F) (tileRect b p).toLoadRect f

/-- A tile written whole. -/
def wr (M : Memref sig .tc .vmem S8x2x64x128 .f32) (f : M.view.ty.Contents (Elt F)) (b : Fin 8) (p : Fin 2) (v : FVec F S1x1x64x128 .f32) :
    M.view.ty.Contents (Elt F) :=
  (M.access (tileRect b p)).write (Elt F) f v Finset.univ

/-- A tile written where a mask is set. -/
def wrOn (M : Memref sig .tc .vmem S8x2x64x128 .f32) (f : M.view.ty.Contents (Elt F)) (b : Fin 8) (p : Fin 2) (v : FVec F S1x1x64x128 .f32)
    (msk : IVec S1x1x64x128 1) : M.view.ty.Contents (Elt F) :=
  (M.access (tileRect b p)).write (Elt F) f v (IVec.on msk)

/-- A value tile read. -/
def vrd (f3 : arg3.view.ty.Contents (Elt F)) (b : Fin 8) (p : Fin 2) : Vec F S1x1x1x64x128 .f32 :=
  arg3.view.readAt (Elt F) (Rect.unit (s := S8x2x1x64x128) ![b.val, p.val, 0, 0, 0] S1x1x1x64x128.size (inb_vt b p)).toLoadRect f3

/-- The eight rows of one column group read. -/
def rows (f2 : arg2.view.ty.Contents (Elt F)) (t : Fin k0_t1_loop.trips) (b : Fin 8) (p : Fin 2) (q : Fin 5) : FVec F S8x128 .f32 :=
  shapeCast S8x128 (arg2.view.readAt (Elt F) (Rect.unit (s := S8x64x1280) (tileOff t b p q) S1x8x128.size (tileOff_inb t b p q)).toLoadRect f2) shapeCasts_S1x8x128_S8x128

/-- The contents after the update of one tile. -/
def updSt (f3 : arg3.view.ty.Contents (Elt F)) (sel : IVec S64x128 1) (idx : IVec S64x128 32) (u : Fin 8) (xs : Fin 5 → FVec F S8x128 .f32)
    (b : Fin 8) (p : Fin 2) (k : Fin 4) (z : FVec F S512x256 .f32) (x : St F arg7 arg8 arg9) : St F arg7 arg8 arg9 where
  s := wr arg7 x.s b p (newS u idx xs (redSa k z) (vrd arg3 f3 b p) (rd arg7 x.s b p))
  sa := wrOn arg8 x.sa b p (shapeCast S1x1x64x128 (redSa k z) shapeCasts_S64x128_S1x1x64x128) (shapeCast S1x1x64x128 sel shapeCasts_S64x128_S1x1x64x128)
  yp := wrOn arg9 x.yp b p (shapeCast S1x1x64x128 (redYp k z) shapeCasts_S64x128_S1x1x64x128) (shapeCast S1x1x64x128 sel shapeCasts_S64x128_S1x1x64x128)

/-- The sums of batches `b` and `d` at the contents. -/
def sumsSt (ones : FVec F S256x256 .bf16) (u : Fin 8) (xs : Fin 8 → Fin 2 → Fin 5 → FVec F S8x128 .f32) (b d : Fin 8)
    (x : St F arg7 arg8 arg9) : FVec F S512x256 .f32 :=
  sums ones u (xs b 0) (xs b 1) (xs d 0) (xs d 1) (rd arg7 x.s b 0) (rd arg7 x.s b 1) (rd arg7 x.s d 0) (rd arg7 x.s d 1)

/-- The contents after one time step of batches `b` and `d`. -/
def groupSt (f3 : arg3.view.ty.Contents (Elt F)) (ones : FVec F S256x256 .bf16) (sel : IVec S64x128 1) (idx : IVec S64x128 32) (u : Fin 8)
    (xs : Fin 8 → Fin 2 → Fin 5 → FVec F S8x128 .f32) (b d : Fin 8) (x : St F arg7 arg8 arg9) : St F arg7 arg8 arg9 :=
  updSt arg3 f3 sel idx u (xs d 1) d 1 3 (sumsSt ones u xs b d x)
    (updSt arg3 f3 sel idx u (xs d 0) d 0 2 (sumsSt ones u xs b d x)
      (updSt arg3 f3 sel idx u (xs b 1) b 1 1 (sumsSt ones u xs b d x)
        (updSt arg3 f3 sel idx u (xs b 0) b 0 0 (sumsSt ones u xs b d x) x)))

/-- The contents after one time step. -/
def stepSt (f3 : arg3.view.ty.Contents (Elt F)) (ones : FVec F S256x256 .bf16) (t0 : BitVec 32)
    (xs : Fin 8 → Fin 2 → Fin 5 → FVec F S8x128 .f32) (u : Fin 8) (x : St F arg7 arg8 arg9) : St F arg7 arg8 arg9 :=
  groupSt arg3 f3 ones (selAt t0 u) (idxAt t0 u) u xs 6 7
    (groupSt arg3 f3 ones (selAt t0 u) (idxAt t0 u) u xs 4 5
      (groupSt arg3 f3 ones (selAt t0 u) (idxAt t0 u) u xs 2 3
        (groupSt arg3 f3 ones (selAt t0 u) (idxAt t0 u) u xs 0 1 x)))

/-- The contents after the first `n` time steps of a trip. -/
def stepsSt (f3 : arg3.view.ty.Contents (Elt F)) (ones : FVec F S256x256 .bf16) (t0 : BitVec 32)
    (xs : Fin 8 → Fin 2 → Fin 5 → FVec F S8x128 .f32) : (n : ℕ) → n ≤ 8 → St F arg7 arg8 arg9 → St F arg7 arg8 arg9
  | 0, _, x => x
  | n + 1, h, x => stepSt arg3 f3 ones t0 xs ⟨n, h⟩ (stepsSt f3 ones t0 xs n (Nat.le_of_succ_le h) x)

/-- The contents after one trip. -/
def tripSt (f2 : arg2.view.ty.Contents (Elt F)) (f3 : arg3.view.ty.Contents (Elt F)) (ones : FVec F S256x256 .bf16) (t : Fin k0_t1_loop.trips)
    (x : St F arg7 arg8 arg9) : St F arg7 arg8 arg9 :=
  stepsSt arg3 f3 ones (base t) (rows arg2 f2 t) 8 le_rfl x

/-- The contents after the first `n` trips. -/
def tripsSt (f2 : arg2.view.ty.Contents (Elt F)) (f3 : arg3.view.ty.Contents (Elt F)) (ones : FVec F S256x256 .bf16) :
    (n : ℕ) → n ≤ k0_t1_loop.trips → St F arg7 arg8 arg9 → St F arg7 arg8 arg9
  | 0, _, x => x
  | n + 1, h, x => tripSt arg2 arg3 f2 f3 ones ⟨n, h⟩ (tripsSt f2 f3 ones n (Nat.le_of_succ_le h) x)

/-! ## The trip run -/

variable {arg2 arg3} {f2 : arg2.view.ty.Contents (Elt F)} {f3 : arg3.view.ty.Contents (Elt F)} {x : St F arg7 arg8 arg9}

/-- A program that touches part of what is held. -/
theorem Does.focus {α : Type} {P P' P₁ P₁' : sProp 𝕄} {p : BodyProg F α} {a : α} (R : sProp 𝕄) (h : Does c P p a P') (h₁ : P₁ ⊢ iprop(P ∗ R))
    (h₂ : iprop(P' ∗ R) ⊢ P₁') : Does c P₁ p a P₁' :=
  Does.conv (Does.framed R h) h₁ h₂

/-- A load from the rows leaves them as they are. -/
theorem own_load2 (r : LoadRect S8x64x1280) (hl : arg2.view.LoadsAt r) :
    Does (F := F) c (own arg2 arg3 c f2 f3 x) (Prog.lift (TpuEff.load (Val := Elt F) (Λ := Λ₀) arg2 r hl)) (arg2.view.readAt (Elt F) r f2) (own arg2 arg3 c f2 f3 x) := by
  refine Does.focus iprop((arg3.view.loc (c : Thread nD τ) ↦{fullShare} f3) ∗ (arg7.view.loc (c : Thread nD τ) ↦{fullShare} x.s)
    ∗ (arg8.view.loc (c : Thread nD τ) ↦{fullShare} x.sa) ∗ (arg9.view.loc (c : Thread nD τ) ↦{fullShare} x.yp)) (Does.load arg2 r hl f2) ?_ ?_
  · unfold own; iintro ⟨H2, H3, H7, H8, H9⟩; iframe
  · unfold own; iintro ⟨H2, H3, H7, H8, H9⟩; iframe

/-- A load from the values leaves them as they are. -/
theorem own_load3 (r : LoadRect S8x2x1x64x128) (hl : arg3.view.LoadsAt r) :
    Does (F := F) c (own arg2 arg3 c f2 f3 x) (Prog.lift (TpuEff.load (Val := Elt F) (Λ := Λ₀) arg3 r hl)) (arg3.view.readAt (Elt F) r f3) (own arg2 arg3 c f2 f3 x) := by
  refine Does.focus iprop((arg2.view.loc (c : Thread nD τ) ↦{fullShare} f2) ∗ (arg7.view.loc (c : Thread nD τ) ↦{fullShare} x.s)
    ∗ (arg8.view.loc (c : Thread nD τ) ↦{fullShare} x.sa) ∗ (arg9.view.loc (c : Thread nD τ) ↦{fullShare} x.yp)) (Does.load arg3 r hl f3) ?_ ?_
  · unfold own; iintro ⟨H2, H3, H7, H8, H9⟩; iframe
  · unfold own; iintro ⟨H3, H2, H7, H8, H9⟩; iframe

/-- A load of one head pair's state reads what is held there. -/
theorem own_load7 (b : Fin 8) (p : Fin 2) :
    Does (F := F) c (own arg2 arg3 c f2 f3 x) (loadTile arg7 b p) (rd arg7 x.s b p) (own arg2 arg3 c f2 f3 x) := by
  refine Does.focus iprop((arg2.view.loc (c : Thread nD τ) ↦{fullShare} f2) ∗ (arg3.view.loc (c : Thread nD τ) ↦{fullShare} f3)
    ∗ (arg8.view.loc (c : Thread nD τ) ↦{fullShare} x.sa) ∗ (arg9.view.loc (c : Thread nD τ) ↦{fullShare} x.yp)) (Does.load arg7 _ _ x.s) ?_ ?_
  · unfold own; iintro ⟨H2, H3, H7, H8, H9⟩; iframe
  · unfold own; iintro ⟨H7, H2, H3, H8, H9⟩; iframe

/-- A load of one head pair's first column tile reads what is held there. -/
theorem own_load8 (b : Fin 8) (p : Fin 2) :
    Does (F := F) c (own arg2 arg3 c f2 f3 x) (loadTile arg8 b p) (rd arg8 x.sa b p) (own arg2 arg3 c f2 f3 x) := by
  refine Does.focus iprop((arg2.view.loc (c : Thread nD τ) ↦{fullShare} f2) ∗ (arg3.view.loc (c : Thread nD τ) ↦{fullShare} f3)
    ∗ (arg7.view.loc (c : Thread nD τ) ↦{fullShare} x.s) ∗ (arg9.view.loc (c : Thread nD τ) ↦{fullShare} x.yp)) (Does.load arg8 _ _ x.sa) ?_ ?_
  · unfold own; iintro ⟨H2, H3, H7, H8, H9⟩; iframe
  · unfold own; iintro ⟨H8, H2, H3, H7, H9⟩; iframe

/-- A load of one head pair's second column tile reads what is held there. -/
theorem own_load9 (b : Fin 8) (p : Fin 2) :
    Does (F := F) c (own arg2 arg3 c f2 f3 x) (loadTile arg9 b p) (rd arg9 x.yp b p) (own arg2 arg3 c f2 f3 x) := by
  refine Does.focus iprop((arg2.view.loc (c : Thread nD τ) ↦{fullShare} f2) ∗ (arg3.view.loc (c : Thread nD τ) ↦{fullShare} f3)
    ∗ (arg7.view.loc (c : Thread nD τ) ↦{fullShare} x.s) ∗ (arg8.view.loc (c : Thread nD τ) ↦{fullShare} x.sa)) (Does.load arg9 _ _ x.yp) ?_ ?_
  · unfold own; iintro ⟨H2, H3, H7, H8, H9⟩; iframe
  · unfold own; iintro ⟨H9, H2, H3, H7, H8⟩; iframe

/-- A store of one head pair's state replaces it and leaves the rest. -/
theorem own_store7 (b : Fin 8) (p : Fin 2) (v : FVec F S1x1x64x128 .f32) :
    Does (F := F) c (own arg2 arg3 c f2 f3 x) (storeTile arg7 b p v) ⟨⟩ (own arg2 arg3 c f2 f3 { x with s := wr arg7 x.s b p v }) := by
  refine Does.focus iprop((arg2.view.loc (c : Thread nD τ) ↦{fullShare} f2) ∗ (arg3.view.loc (c : Thread nD τ) ↦{fullShare} f3)
    ∗ (arg8.view.loc (c : Thread nD τ) ↦{fullShare} x.sa) ∗ (arg9.view.loc (c : Thread nD τ) ↦{fullShare} x.yp)) (Does.store arg7 (tileRect b p) v Finset.univ (View.stores_vmem_bits_univ h_S1x1x64x128 rfl) (.inl rfl) x.s) ?_ ?_
  · unfold own; iintro ⟨H2, H3, H7, H8, H9⟩; iframe
  · unfold own wr; iintro ⟨H7, H2, H3, H8, H9⟩; iframe

/-- A masked store into one head pair's first column tile replaces the masked lanes and leaves the rest. -/
theorem own_store8 (b : Fin 8) (p : Fin 2) (v : FVec F S1x1x64x128 .f32) (msk : IVec S1x1x64x128 1) :
    Does (F := F) c (own arg2 arg3 c f2 f3 x) (storeMasked arg8 b p v msk) ⟨⟩ (own arg2 arg3 c f2 f3 { x with sa := wrOn arg8 x.sa b p v msk }) := by
  refine Does.focus iprop((arg2.view.loc (c : Thread nD τ) ↦{fullShare} f2) ∗ (arg3.view.loc (c : Thread nD τ) ↦{fullShare} f3)
    ∗ (arg7.view.loc (c : Thread nD τ) ↦{fullShare} x.s) ∗ (arg9.view.loc (c : Thread nD τ) ↦{fullShare} x.yp)) (Does.store arg8 (tileRect b p) v (IVec.on msk) (View.stores_vmem_bits h_S1x1x64x128 rfl (fun h => nomatch h)) (.inr (fun _ => rfl)) x.sa) ?_ ?_
  · unfold own; iintro ⟨H2, H3, H7, H8, H9⟩; iframe
  · unfold own wrOn; iintro ⟨H8, H2, H3, H7, H9⟩; iframe

/-- A masked store into one head pair's second column tile replaces the masked lanes and leaves the rest. -/
theorem own_store9 (b : Fin 8) (p : Fin 2) (v : FVec F S1x1x64x128 .f32) (msk : IVec S1x1x64x128 1) :
    Does (F := F) c (own arg2 arg3 c f2 f3 x) (storeMasked arg9 b p v msk) ⟨⟩ (own arg2 arg3 c f2 f3 { x with yp := wrOn arg9 x.yp b p v msk }) := by
  refine Does.focus iprop((arg2.view.loc (c : Thread nD τ) ↦{fullShare} f2) ∗ (arg3.view.loc (c : Thread nD τ) ↦{fullShare} f3)
    ∗ (arg7.view.loc (c : Thread nD τ) ↦{fullShare} x.s) ∗ (arg8.view.loc (c : Thread nD τ) ↦{fullShare} x.sa)) (Does.store arg9 (tileRect b p) v (IVec.on msk) (View.stores_vmem_bits h_S1x1x64x128 rfl (fun h => nomatch h)) (.inr (fun _ => rfl)) x.yp) ?_ ?_
  · unfold own; iintro ⟨H2, H3, H7, H8, H9⟩; iframe
  · unfold own wrOn; iintro ⟨H9, H2, H3, H7, H8⟩; iframe

/-- The same program to an equal value. -/
theorem Does.value {α : Type} {P P' : sProp 𝕄} {p : BodyProg F α} {a a' : α} (h : Does c P p a P') (e : a = a') : Does c P p a' P' := e ▸ h

/-- The update of one tile leaves what `updSt` says. -/
theorem does_updTile (sel : IVec S64x128 1) (idx : IVec S64x128 32) (u : Fin 8) (xs : Fin 5 → FVec F S8x128 .f32) (b : Fin 8) (p : Fin 2) (k : Fin 4)
    (z : FVec F S512x256 .f32) :
    Does (F := F) c (own arg2 arg3 c f2 f3 x) (updTile arg3 arg7 arg8 arg9 sel idx u xs b p k z) ⟨⟩ (own arg2 arg3 c f2 f3 (updSt arg3 f3 sel idx u xs b p k z x)) := by
  unfold updTile
  refine Does.bind (own_load3 _ _) ?_
  refine Does.bind (own_load7 b p) ?_
  refine Does.bind (own_load7 b p) ?_
  refine Does.bind (own_store7 b p _) ?_
  refine Does.bind (own_load8 b p) ?_
  refine Does.bind (own_store8 b p _ _) ?_
  refine Does.bind (own_load9 b p) ?_
  refine Does.conv (own_store9 b p _ _) .rfl (Entails.of_eq (congrArg (own arg2 arg3 c f2 f3) (St.ext ?_ ?_ ?_)))
  · unfold updSt; dsimp only; unfold vrd; rfl
  · unfold updSt; dsimp only
  · unfold updSt; dsimp only

/-- One time step of two batches leaves what `groupSt` says. -/
theorem does_group (ones : FVec F S256x256 .bf16) (sel : IVec S64x128 1) (idx : IVec S64x128 32) (u : Fin 8)
    (xs : Fin 8 → Fin 2 → Fin 5 → FVec F S8x128 .f32) (b d : Fin 8) :
    Does (F := F) c (own arg2 arg3 c f2 f3 x) (group arg3 arg7 arg8 arg9 ones sel idx u xs b d) ⟨⟩ (own arg2 arg3 c f2 f3 (groupSt arg3 f3 ones sel idx u xs b d x)) := by
  unfold group
  refine Does.bind (own_load7 b 0) ?_
  refine Does.bind (own_load7 b 1) ?_
  refine Does.bind (own_load7 d 0) ?_
  refine Does.bind (own_load7 d 1) ?_
  refine Does.bind (does_updTile sel idx u _ b 0 0 _) ?_
  refine Does.bind (does_updTile sel idx u _ b 1 1 _) ?_
  refine Does.bind (does_updTile sel idx u _ d 0 2 _) ?_
  exact does_updTile sel idx u _ d 1 3 _

/-- One time step leaves what `stepSt` says. -/
theorem does_step (ones : FVec F S256x256 .bf16) (t0 : BitVec 32) (xs : Fin 8 → Fin 2 → Fin 5 → FVec F S8x128 .f32) (u : Fin 8) :
    Does (F := F) c (own arg2 arg3 c f2 f3 x) (step arg3 arg7 arg8 arg9 ones t0 xs u) ⟨⟩ (own arg2 arg3 c f2 f3 (stepSt arg3 f3 ones t0 xs u x)) := by
  unfold step
  refine Does.bind (does_group _ _ _ _ _ _ _) ?_
  refine Does.bind (does_group _ _ _ _ _ _ _) ?_
  refine Does.bind (does_group _ _ _ _ _ _ _) ?_
  exact does_group _ _ _ _ _ _ _

/-- Eight rows loaded. -/
theorem does_loadRows (t : Fin k0_t1_loop.trips) (b : Fin 8) (p : Fin 2) (q : Fin 5) :
    Does (F := F) c (own arg2 arg3 c f2 f3 x) (loadRows arg2 t b p q) (rows arg2 f2 t b p q) (own arg2 arg3 c f2 f3 x) := by
  unfold loadRows
  refine Does.bind (own_load2 _ _) ?_
  exact Does.pure _

/-- The five column groups loaded. -/
theorem does_loadFive (t : Fin k0_t1_loop.trips) (b : Fin 8) (p : Fin 2) :
    Does (F := F) c (own arg2 arg3 c f2 f3 x) (loadFive arg2 t b p) (rows arg2 f2 t b p) (own arg2 arg3 c f2 f3 x) := by
  unfold loadFive
  refine Does.bind (does_loadRows t b p 0) ?_
  refine Does.bind (does_loadRows t b p 1) ?_
  refine Does.bind (does_loadRows t b p 2) ?_
  refine Does.bind (does_loadRows t b p 3) ?_
  refine Does.bind (does_loadRows t b p 4) ?_
  refine Does.value (Does.pure _) (funext fun q => ?_)
  fin_cases q <;> rfl

/-- Both pairs loaded. -/
theorem does_loadPairs (t : Fin k0_t1_loop.trips) (b : Fin 8) :
    Does (F := F) c (own arg2 arg3 c f2 f3 x) (loadPairs arg2 t b) (rows arg2 f2 t b) (own arg2 arg3 c f2 f3 x) := by
  unfold loadPairs
  refine Does.bind (does_loadFive t b 0) ?_
  refine Does.bind (does_loadFive t b 1) ?_
  refine Does.value (Does.pure _) (funext fun p => ?_)
  fin_cases p <;> rfl

/-- All rows loaded. -/
theorem does_loadAll (t : Fin k0_t1_loop.trips) :
    Does (F := F) c (own arg2 arg3 c f2 f3 x) (loadAll arg2 t) (rows arg2 f2 t) (own arg2 arg3 c f2 f3 x) := by
  unfold loadAll
  refine Does.bind (does_loadPairs t 0) ?_
  refine Does.bind (does_loadPairs t 1) ?_
  refine Does.bind (does_loadPairs t 2) ?_
  refine Does.bind (does_loadPairs t 3) ?_
  refine Does.bind (does_loadPairs t 4) ?_
  refine Does.bind (does_loadPairs t 5) ?_
  refine Does.bind (does_loadPairs t 6) ?_
  refine Does.bind (does_loadPairs t 7) ?_
  refine Does.value (Does.pure _) (funext fun b => ?_)
  fin_cases b <;> rfl

/-- One trip leaves what `tripSt` says. -/
theorem does_trip (ones : FVec F S256x256 .bf16) (t : Fin k0_t1_loop.trips) :
    Does (F := F) c (own arg2 arg3 c f2 f3 x) (trip arg2 arg3 arg7 arg8 arg9 ones t) ⟨⟩ (own arg2 arg3 c f2 f3 (tripSt arg2 arg3 f2 f3 ones t x)) := by
  unfold trip
  refine Does.bind (does_loadAll t) ?_
  refine Does.bind (does_step _ _ _ 0) ?_
  refine Does.bind (does_step _ _ _ 1) ?_
  refine Does.bind (does_step _ _ _ 2) ?_
  refine Does.bind (does_step _ _ _ 3) ?_
  refine Does.bind (does_step _ _ _ 4) ?_
  refine Does.bind (does_step _ _ _ 5) ?_
  refine Does.bind (does_step _ _ _ 6) ?_
  refine Does.bind (does_step _ _ _ 7) ?_
  exact Does.pure _

end Contents

end Cert.KernelIdeal.Scan

end
-- ==== Proof.Cps.lean ====
/-
  The short program of a trip with what comes after each piece handed to it, which is how the printed body is laid out.
-/
module

public import proofs.«01_k».proof.Proof.Struct

@[expose] public section

set_option maxRecDepth 16384

noncomputable section

namespace Cert.KernelIdeal.Scan

open Cert.KernelIdeal Cert.KernelIdeal.Gen
open Idealize.ShloMosaic Idealize.SL.Sem

variable {F : FTy → Type} [FloatOps F]

/-- Load tile `(b, p)` of a scratch buffer, then go on. -/
def loadTileK (M : Memref sig .tc .vmem S8x2x64x128 .f32) (b : Fin 8) (p : Fin 2) (k : Vec F S1x1x64x128 .f32 → BodyProg F Unit) : BodyProg F Unit :=
  .op (.load M (tileRect b p).toLoadRect (View.loadsAt_vmem h_S1x1x64x128)) k

/-- Store tile `(b, p)` of a scratch buffer whole, then go on. -/
def storeTileK (M : Memref sig .tc .vmem S8x2x64x128 .f32) (b : Fin 8) (p : Fin 2) (v : FVec F S1x1x64x128 .f32) (k : BodyProg F Unit) : BodyProg F Unit :=
  .op (.store M (tileRect b p) v Finset.univ (View.stores_vmem_bits_univ h_S1x1x64x128 rfl) (.inl rfl)) fun _ => k

/-- Store into tile `(b, p)` of a scratch buffer under a lane mask, then go on. -/
def storeMaskedK (M : Memref sig .tc .vmem S8x2x64x128 .f32) (b : Fin 8) (p : Fin 2) (v : FVec F S1x1x64x128 .f32) (msk : IVec S1x1x64x128 1) (k : BodyProg F Unit) : BodyProg F Unit :=
  .op (.store M (tileRect b p) v (IVec.on msk) (View.stores_vmem_bits h_S1x1x64x128 rfl (fun h => nomatch h)) (.inr (fun _ => rfl))) fun _ => k

/-- Load the eight rows of one column group, then go on. -/
def loadRowsK (arg2 : Memref sig .tc .vmem S8x64x1280 .f32) (t : Fin k0_t1_loop.trips) (b : Fin 8) (p : Fin 2) (q : Fin 5) (k : FVec F S8x128 .f32 → BodyProg F Unit) : BodyProg F Unit :=
  .op (.load arg2 (Rect.unit (s := S8x64x1280) (tileOff t b p q) S1x8x128.size (tileOff_inb t b p q)).toLoadRect (View.loadsAt_vmem h_S1x8x128)) fun v =>
    k (shapeCast S8x128 v shapeCasts_S1x8x128_S8x128)

/-- Load the five column groups of `(b, p)`, then go on. -/
def loadFiveK (arg2 : Memref sig .tc .vmem S8x64x1280 .f32) (t : Fin k0_t1_loop.trips) (b : Fin 8) (p : Fin 2) (k : (Fin 5 → FVec F S8x128 .f32) → BodyProg F Unit) : BodyProg F Unit :=
  loadRowsK arg2 t b p 0 fun x0 => loadRowsK arg2 t b p 1 fun x1 => loadRowsK arg2 t b p 2 fun x2 => loadRowsK arg2 t b p 3 fun x3 =>
    loadRowsK arg2 t b p 4 fun x4 => k ![x0, x1, x2, x3, x4]

/-- Load both pairs of batch `b`, then go on. -/
def loadPairsK (arg2 : Memref sig .tc .vmem S8x64x1280 .f32) (t : Fin k0_t1_loop.trips) (b : Fin 8) (k : (Fin 2 → Fin 5 → FVec F S8x128 .f32) → BodyProg F Unit) : BodyProg F Unit :=
  loadFiveK arg2 t b 0 fun x0 => loadFiveK arg2 t b 1 fun x1 => k ![x0, x1]

/-- Load every input row of trip `t`, then go on. -/
def loadAllK (arg2 : Memref sig .tc .vmem S8x64x1280 .f32) (t : Fin k0_t1_loop.trips) (k : (Fin 8 → Fin 2 → Fin 5 → FVec F S8x128 .f32) → BodyProg F Unit) : BodyProg F Unit :=
  loadPairsK arg2 t 0 fun x0 => loadPairsK arg2 t 1 fun x1 => loadPairsK arg2 t 2 fun x2 => loadPairsK arg2 t 3 fun x3 =>
  loadPairsK arg2 t 4 fun x4 => loadPairsK arg2 t 5 fun x5 => loadPairsK arg2 t 6 fun x6 => loadPairsK arg2 t 7 fun x7 => k ![x0, x1, x2, x3, x4, x5, x6, x7]

/-- The update of one tile, then go on. -/
def updTileK (arg3 : Memref sig .tc .vmem S8x2x1x64x128 .f32) (arg7 arg8 arg9 : Memref sig .tc .vmem S8x2x64x128 .f32) (sel : IVec S64x128 1) (idx : IVec S64x128 32)
    (u : Fin 8) (x : Fin 5 → FVec F S8x128 .f32) (b : Fin 8) (p : Fin 2) (k : Fin 4) (z : FVec F S512x256 .f32) (K : BodyProg F Unit) : BodyProg F Unit :=
  .op (.load arg3 (Rect.unit (s := S8x2x1x64x128) ![b.val, p.val, 0, 0, 0] S1x1x1x64x128.size (inb_vt b p)).toLoadRect (View.loadsAt_vmem h_S1x1x1x64x128)) fun v =>
  loadTileK arg7 b p fun s => loadTileK arg7 b p fun _ =>
  storeTileK arg7 b p (newS u idx x (redSa k z) v s) <| loadTileK arg8 b p fun _ =>
  storeMaskedK arg8 b p (shapeCast S1x1x64x128 (redSa k z) shapeCasts_S64x128_S1x1x64x128) (shapeCast S1x1x64x128 sel shapeCasts_S64x128_S1x1x64x128) <|
  loadTileK arg9 b p fun _ =>
  storeMaskedK arg9 b p (shapeCast S1x1x64x128 (redYp k z) shapeCasts_S64x128_S1x1x64x128) (shapeCast S1x1x64x128 sel shapeCasts_S64x128_S1x1x64x128) K

/-- One time step of batches `b` and `c`, then go on. -/
def groupK (arg3 : Memref sig .tc .vmem S8x2x1x64x128 .f32) (arg7 arg8 arg9 : Memref sig .tc .vmem S8x2x64x128 .f32) (ones : FVec F S256x256 .bf16) (sel : IVec S64x128 1) (idx : IVec S64x128 32)
    (u : Fin 8) (xs : Fin 8 → Fin 2 → Fin 5 → FVec F S8x128 .f32) (b c : Fin 8) (K : BodyProg F Unit) : BodyProg F Unit :=
  loadTileK arg7 b 0 fun s0 => loadTileK arg7 b 1 fun s1 => loadTileK arg7 c 0 fun s2 => loadTileK arg7 c 1 fun s3 =>
  updTileK arg3 arg7 arg8 arg9 sel idx u (xs b 0) b 0 0 (sums ones u (xs b 0) (xs b 1) (xs c 0) (xs c 1) s0 s1 s2 s3) <|
  updTileK arg3 arg7 arg8 arg9 sel idx u (xs b 1) b 1 1 (sums ones u (xs b 0) (xs b 1) (xs c 0) (xs c 1) s0 s1 s2 s3) <|
  updTileK arg3 arg7 arg8 arg9 sel idx u (xs c 0) c 0 2 (sums ones u (xs b 0) (xs b 1) (xs c 0) (xs c 1) s0 s1 s2 s3) <|
  updTileK arg3 arg7 arg8 arg9 sel idx u (xs c 1) c 1 3 (sums ones u (xs b 0) (xs b 1) (xs c 0) (xs c 1) s0 s1 s2 s3) K

/-- One time step, then go on. -/
def stepK (arg3 : Memref sig .tc .vmem S8x2x1x64x128 .f32) (arg7 arg8 arg9 : Memref sig .tc .vmem S8x2x64x128 .f32) (ones : FVec F S256x256 .bf16) (t0 : BitVec 32)
    (xs : Fin 8 → Fin 2 → Fin 5 → FVec F S8x128 .f32) (u : Fin 8) (K : BodyProg F Unit) : BodyProg F Unit :=
  groupK arg3 arg7 arg8 arg9 ones (selAt t0 u) (idxAt t0 u) u xs 0 1 <|
  groupK arg3 arg7 arg8 arg9 ones (selAt t0 u) (idxAt t0 u) u xs 2 3 <|
  groupK arg3 arg7 arg8 arg9 ones (selAt t0 u) (idxAt t0 u) u xs 4 5 <|
  groupK arg3 arg7 arg8 arg9 ones (selAt t0 u) (idxAt t0 u) u xs 6 7 K

/-- One trip, laid out so. -/
def tripK (arg2 : Memref sig .tc .vmem S8x64x1280 .f32) (arg3 : Memref sig .tc .vmem S8x2x1x64x128 .f32) (arg7 arg8 arg9 : Memref sig .tc .vmem S8x2x64x128 .f32) (ones : FVec F S256x256 .bf16)
    (t : Fin k0_t1_loop.trips) : BodyProg F Unit :=
  loadAllK arg2 t fun xs =>
  stepK arg3 arg7 arg8 arg9 ones (base t) xs 0 <| stepK arg3 arg7 arg8 arg9 ones (base t) xs 1 <| stepK arg3 arg7 arg8 arg9 ones (base t) xs 2 <|
  stepK arg3 arg7 arg8 arg9 ones (base t) xs 3 <| stepK arg3 arg7 arg8 arg9 ones (base t) xs 4 <| stepK arg3 arg7 arg8 arg9 ones (base t) xs 5 <|
  stepK arg3 arg7 arg8 arg9 ones (base t) xs 6 <| stepK arg3 arg7 arg8 arg9 ones (base t) xs 7 <| .ret ⟨⟩

/-- The layout changes nothing. -/
theorem updTileK_eq (arg3 : Memref sig .tc .vmem S8x2x1x64x128 .f32) (arg7 arg8 arg9 : Memref sig .tc .vmem S8x2x64x128 .f32) (sel : IVec S64x128 1) (idx : IVec S64x128 32)
    (u : Fin 8) (x : Fin 5 → FVec F S8x128 .f32) (b : Fin 8) (p : Fin 2) (k : Fin 4) (z : FVec F S512x256 .f32) (K : BodyProg F Unit) :
    updTileK arg3 arg7 arg8 arg9 sel idx u x b p k z K = updTile arg3 arg7 arg8 arg9 sel idx u x b p k z >>= fun _ => K := rfl

/-- A group's text, in continuation form, is the group followed by the continuation. -/
theorem groupK_eq (arg3 : Memref sig .tc .vmem S8x2x1x64x128 .f32) (arg7 arg8 arg9 : Memref sig .tc .vmem S8x2x64x128 .f32) (ones : FVec F S256x256 .bf16) (sel : IVec S64x128 1) (idx : IVec S64x128 32)
    (u : Fin 8) (xs : Fin 8 → Fin 2 → Fin 5 → FVec F S8x128 .f32) (b c : Fin 8) (K : BodyProg F Unit) :
    groupK arg3 arg7 arg8 arg9 ones sel idx u xs b c K = group arg3 arg7 arg8 arg9 ones sel idx u xs b c >>= fun _ => K := rfl

/-- Likewise one token's text. -/
theorem stepK_eq (arg3 : Memref sig .tc .vmem S8x2x1x64x128 .f32) (arg7 arg8 arg9 : Memref sig .tc .vmem S8x2x64x128 .f32) (ones : FVec F S256x256 .bf16) (t0 : BitVec 32)
    (xs : Fin 8 → Fin 2 → Fin 5 → FVec F S8x128 .f32) (u : Fin 8) (K : BodyProg F Unit) :
    stepK arg3 arg7 arg8 arg9 ones t0 xs u K = step arg3 arg7 arg8 arg9 ones t0 xs u >>= fun _ => K := by
  unfold stepK step
  simp only [groupK_eq, bind_assoc]

/-- Likewise the five loads of one head pair. -/
theorem loadFiveK_eq (arg2 : Memref sig .tc .vmem S8x64x1280 .f32) (t : Fin k0_t1_loop.trips) (b : Fin 8) (p : Fin 2) (k : (Fin 5 → FVec F S8x128 .f32) → BodyProg F Unit) :
    loadFiveK arg2 t b p k = loadFive arg2 t b p >>= k := rfl

/-- Likewise the loads of one sequence. -/
theorem loadPairsK_eq (arg2 : Memref sig .tc .vmem S8x64x1280 .f32) (t : Fin k0_t1_loop.trips) (b : Fin 8) (k : (Fin 2 → Fin 5 → FVec F S8x128 .f32) → BodyProg F Unit) :
    loadPairsK arg2 t b k = loadPairs arg2 t b >>= k := rfl

/-- Likewise all loads of one trip. -/
theorem loadAllK_eq (arg2 : Memref sig .tc .vmem S8x64x1280 .f32) (t : Fin k0_t1_loop.trips) (k : (Fin 8 → Fin 2 → Fin 5 → FVec F S8x128 .f32) → BodyProg F Unit) :
    loadAllK arg2 t k = loadAll arg2 t >>= k := by
  unfold loadAllK loadAll
  simp only [loadPairsK_eq, bind_assoc, pure_bind]

/-- Likewise one trip of the loop. -/
theorem tripK_eq (arg2 : Memref sig .tc .vmem S8x64x1280 .f32) (arg3 : Memref sig .tc .vmem S8x2x1x64x128 .f32) (arg7 arg8 arg9 : Memref sig .tc .vmem S8x2x64x128 .f32) (ones : FVec F S256x256 .bf16)
    (t : Fin k0_t1_loop.trips) : tripK arg2 arg3 arg7 arg8 arg9 ones t = trip arg2 arg3 arg7 arg8 arg9 ones t := by
  unfold tripK trip
  simp only [loadAllK_eq, stepK_eq]
  rfl

end Cert.KernelIdeal.Scan

end
-- ==== Proof.BodyEq.lean ====
module

public import proofs.«01_k».proof.Proof.Cps

@[expose] public section

noncomputable section

namespace Cert.KernelIdeal.Scan

open Cert.KernelIdeal Cert.KernelIdeal.Gen
open Idealize.ShloMosaic Idealize.SL.Sem

variable {F : FTy → Type} [FloatOps F]

set_option maxRecDepth 1000000 in
set_option maxHeartbeats 0 in

/-- The printed trip is the short one. -/
theorem body_eq (i : grid0.Coords) (arg2 : Memref sig .tc .vmem S8x64x1280 .f32) (harg2 : arg2.IsWhole) (arg3 : Memref sig .tc .vmem S8x2x1x64x128 .f32) (harg3 : arg3.IsWhole) (arg4 : Memref sig .tc .vmem S8x64x256 .f32) (harg4 : arg4.IsWhole) (arg5 : Memref sig .tc .vmem S8x64x256 .f32) (harg5 : arg5.IsWhole) (arg6 : Memref sig .tc .vmem S8x2x64x128 .f32) (harg6 : arg6.IsWhole) (arg7 : Memref sig .tc .vmem S8x2x64x128 .f32) (harg7 : arg7.IsWhole) (arg8 : Memref sig .tc .vmem S8x2x64x128 .f32) (harg8 : arg8.IsWhole) (arg9 : Memref sig .tc .vmem S8x2x64x128 .f32) (harg9 : arg9.IsWhole) (v27 : IVec S256x256 32) (v28 : IVec S256x256 32) (c64_i32_6 : BitVec 32) (v30 : IVec S256x256 32) (v37 : IVec S256x256 32) (v42 : BitVec 32) (t : Fin k0_t1_loop.trips) :
    k0_t1_body (F := F) i arg2 harg2 arg3 harg3 arg4 harg4 arg5 harg5 arg6 harg6 arg7 harg7 arg8 harg8 arg9 harg9 v27 v28 c64_i32_6 v30 v37 v42 t ()
      = tripK arg2 arg3 arg7 arg8 arg9 (k0_pay1701 (F := F) v27 v28 c64_i32_6 v30 v37 v42) t := by
  iterate 1232
    conv => lhs; whnf
    conv => rhs; whnf
    refine (congrArg _ (funext fun v => ?_) : Prog.op _ _ = Prog.op _ _)
  rfl

end Cert.KernelIdeal.Scan

end
-- ==== Proof.Kern.lean ====
/-
  The whole scan kernel as a short program: the state zeroed at the first time block, the trips, the two outputs
  transposed out tile by tile, the state stored at the last time block.
-/
module

public import proofs.«01_k».proof.Proof.Struct

@[expose] public section

set_option maxRecDepth 65536
set_option pp.deepTerms false

noncomputable section

namespace Cert.KernelIdeal.Scan

open Cert.KernelIdeal Cert.KernelIdeal.Gen
open Idealize.ShloMosaic Idealize.SL.Sem

variable {F : FTy → Type} [FloatOps F]

/-- Whether this is the first time block. -/
abbrev isFirst (i : grid0.Coords) : Prop := Scalar.cmpi .ne (Scalar.extui (Scalar.cmpi .eq (BitVec.ofNat 32 (i 1).val) 0#32) : BitVec 32) 0#32 = 1#1

/-- The rectangle that is the whole scratch buffer. -/
abbrev allRect : Rect S8x2x64x128 := Rect.unit (s := S8x2x64x128) ![0, 0, 0, 0] S8x2x64x128.size inb_S8x2x64x128_S8x2x64x128_0_0_0_0

/-- The state zeroed. -/
def zeroS (arg7 : Memref sig .tc .vmem S8x2x64x128 .f32) : BodyProg F PUnit := do
  let _ ← Prog.lift (.load arg7 allRect.toLoadRect (View.loadsAt_vmem h_S8x2x64x128))
  Prog.lift (.store arg7 allRect (k0_pay1697 (F := F)) Finset.univ (View.stores_vmem_bits_univ h_S8x2x64x128 rfl) (.inl rfl))
  pure ⟨⟩

/-- The state stored. -/
def outS (arg6 arg7 : Memref sig .tc .vmem S8x2x64x128 .f32) : BodyProg F PUnit := do
  let v : Vec F S8x2x64x128 .f32 ← Prog.lift (.load arg7 allRect.toLoadRect (View.loadsAt_vmem h_S8x2x64x128))
  let _ ← Prog.lift (.load arg6 allRect.toLoadRect (View.loadsAt_vmem h_S8x2x64x128))
  Prog.lift (.store arg6 allRect v Finset.univ (View.stores_vmem_bits_univ h_S8x2x64x128 rfl) (.inl rfl))
  pure ⟨⟩

/-- The output rectangle of `(b, p)` lies inside the output block. -/
theorem inb_out : ∀ (b : Fin 8) (p : Fin 2), ∀ a, (![b.val, 0, 128 * p.val] : Fin 3 → Nat) a + S1x64x128.size a ≤ S8x64x256.size a := by
  decide +kernel

/-- Where tile `(b, p)` goes in an output block. -/
abbrev outRect (b : Fin 8) (p : Fin 2) : Rect S8x64x256 :=
  Rect.unit (s := S8x64x256) ![b.val, 0, 128 * p.val] S1x64x128.size (inb_out b p)

/-- A tile of sums transposed out, time first. -/
abbrev outTile (v : Vec F S1x1x64x128 .f32) : FVec F S1x64x128 .f32 := k0_pay1 v

/-- One tile of one output. -/
def outOne (src : Memref sig .tc .vmem S8x2x64x128 .f32) (dst : Memref sig .tc .vmem S8x64x256 .f32) (b : Fin 8) (p : Fin 2) : BodyProg F PUnit := do
  let v : Vec F S1x1x64x128 .f32 ← loadTile src b p
  let _ ← Prog.lift (.load dst (outRect b p).toLoadRect (View.loadsAt_vmem h_S1x64x128))
  Prog.lift (.store dst (outRect b p) (outTile v) Finset.univ (View.stores_vmem_bits_univ h_S1x64x128 rfl) (.inl rfl))

/-- The tiles of one batch. -/
def outBatch (arg4 arg5 : Memref sig .tc .vmem S8x64x256 .f32) (arg8 arg9 : Memref sig .tc .vmem S8x2x64x128 .f32) (b : Fin 8) : BodyProg F PUnit := do
  outOne arg8 arg4 b 0
  outOne arg9 arg5 b 0
  outOne arg8 arg4 b 1
  outOne arg9 arg5 b 1

/-- Every tile of both outputs. -/
def outAll (arg4 arg5 : Memref sig .tc .vmem S8x64x256 .f32) (arg8 arg9 : Memref sig .tc .vmem S8x2x64x128 .f32) : BodyProg F PUnit := do
  outBatch arg4 arg5 arg8 arg9 0
  outBatch arg4 arg5 arg8 arg9 1
  outBatch arg4 arg5 arg8 arg9 2
  outBatch arg4 arg5 arg8 arg9 3
  outBatch arg4 arg5 arg8 arg9 4
  outBatch arg4 arg5 arg8 arg9 5
  outBatch arg4 arg5 arg8 arg9 6
  outBatch arg4 arg5 arg8 arg9 7

/-- The state stored where the block is the last. -/
def fin (i : grid0.Coords) (arg6 arg7 : Memref sig .tc .vmem S8x2x64x128 .f32) : BodyProg F PUnit := do
  if _ : k0_cond2 i = 1#1 then outS arg6 arg7 else pure ⟨⟩

/-- The state zeroed where the block is the first. -/
def start (i : grid0.Coords) (arg7 : Memref sig .tc .vmem S8x2x64x128 .f32) : BodyProg F PUnit :=
  if _ : isFirst i then zeroS arg7 else pure ⟨⟩

/-- What follows the trips, as printed, is the outputs and the state. -/
theorem tail_eq (i : grid0.Coords) (arg2 : Memref sig .tc .vmem S8x64x1280 .f32) (harg2 : arg2.IsWhole) (arg3 : Memref sig .tc .vmem S8x2x1x64x128 .f32) (harg3 : arg3.IsWhole) (arg4 : Memref sig .tc .vmem S8x64x256 .f32) (harg4 : arg4.IsWhole) (arg5 : Memref sig .tc .vmem S8x64x256 .f32) (harg5 : arg5.IsWhole) (arg6 : Memref sig .tc .vmem S8x2x64x128 .f32) (harg6 : arg6.IsWhole) (arg7 : Memref sig .tc .vmem S8x2x64x128 .f32) (harg7 : arg7.IsWhole) (arg8 : Memref sig .tc .vmem S8x2x64x128 .f32) (harg8 : arg8.IsWhole) (arg9 : Memref sig .tc .vmem S8x2x64x128 .f32) (harg9 : arg9.IsWhole) :
    cc0__rwkv_scan_kernel (F := F) i arg2 harg2 arg3 harg3 arg4 harg4 arg5 harg5 arg6 harg6 arg7 harg7 arg8 harg8 arg9 harg9
      = start i arg7 >>= fun _ =>
        Scf.Loop.for k0_t1_loop k0_t1_ok ⟨⟩ (k0_t1_body (F := F) i arg2 harg2 arg3 harg3 arg4 harg4 arg5 harg5 arg6 harg6 arg7 harg7 arg8 harg8 arg9 harg9 k0_pay1698 (iota .tc S256x256 32 [1] iota_S256x256_d1_w32) 64#32 k0_pay1699 k0_pay1700 (Scalar.subi (Scalar.extui (Scalar.cmpi .sgt 64#32 0#32)) (Scalar.extui (Scalar.cmpi .slt 64#32 0#32)))) >>= fun _ =>
        outAll arg4 arg5 arg8 arg9 >>= fun _ => fin i arg6 arg7 := by
  rw [cc0__rwkv_scan_kernel_eq_skeleton]
  unfold cc0__rwkv_scan_kernel_skel start zeroS
  rw [k0_part188_eq_skeleton, k0_part189_eq_skeleton]
  unfold k0_part188_skel k0_part189_skel
  by_cases h : isFirst i
  · simp only [dif_pos h, bind_assoc, pure_bind]
    refine congrArg₂ (fun p q => p >>= q) rfl (funext fun _ => ?_)
    refine congrArg₂ (fun p q => p >>= q) rfl (funext fun _ => ?_)
    refine congrArg₂ (fun p q => p >>= q) rfl (funext fun _ => ?_)
    rfl
  · simp only [dif_neg h, bind_assoc, pure_bind]
    refine congrArg₂ (fun p q => p >>= q) rfl (funext fun _ => ?_)
    rfl

end Cert.KernelIdeal.Scan

end
-- ==== Proof.KernRun.lean ====
/-
  The whole scan kernel run by hand at one grid point: what it leaves in every buffer it touches.
-/
module

public import proofs.«01_k».proof.Proof.Trip
public import proofs.«01_k».proof.Proof.Cps
public import proofs.«01_k».proof.Proof.BodyEq
public import proofs.«01_k».proof.Proof.Kern

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD}

/-- A program run as the whole of what is left to do. -/
theorem Does.wp {α : Type} {P P' : sProp 𝕄} {p : BodyProg F α} {a : α} (h : Does c P p a P') :
    P ⊢ wp frame (wpE defs₀ Variants.none (c : Thread nD τ) none) Set.univ p (fun _ => P') := by
  have e := h.run (fun x => (Pure.pure x : BodyProg F α)) (fun _ => P')
  rw [bind_pure] at e
  iintro HP
  iapply e $$ HP
  iintro HP
  rw [wp_pure]
  imodintro
  iexact HP

/-- The matrix of ones every trip multiplies by, as the kernel builds it. -/
def onesMat : FVec F S256x256 .bf16 :=
  k0_pay1701 (F := F) k0_pay1698 (iota .tc S256x256 32 [1] iota_S256x256_d1_w32) 64#32 k0_pay1699 k0_pay1700
    (Scalar.subi (Scalar.extui (Scalar.cmpi .sgt 64#32 0#32)) (Scalar.extui (Scalar.cmpi .slt 64#32 0#32)))

variable {arg2 : Memref sig .tc .vmem S8x64x1280 .f32} {arg3 : Memref sig .tc .vmem S8x2x1x64x128 .f32}
  {arg4 arg5 : Memref sig .tc .vmem S8x64x256 .f32} {arg6 arg7 arg8 arg9 : Memref sig .tc .vmem S8x2x64x128 .f32}
  {f2 : arg2.view.ty.Contents (Elt F)} {f3 : arg3.view.ty.Contents (Elt F)} {x : St F arg7 arg8 arg9}

/-- The eight trips. -/
theorem does_loop (body : Fin k0_t1_loop.trips → Unit → BodyProg F Unit) (ones : FVec F S256x256 .bf16)
    (hb : ∀ t, body t () = trip arg2 arg3 arg7 arg8 arg9 ones t) :
    Does (F := F) c (own arg2 arg3 c f2 f3 x) (Scf.Loop.for k0_t1_loop k0_t1_ok ⟨⟩ body) ⟨⟩
      (own arg2 arg3 c f2 f3 (tripsSt arg2 arg3 f2 f3 ones k0_t1_loop.trips le_rfl x)) := by
  refine ⟨fun {γ} k Q => ?_⟩
  let I : ℕ → Unit → sProp 𝕄 := fun n _ =>
    if h : n ≤ k0_t1_loop.trips then own arg2 arg3 c f2 f3 (tripsSt arg2 arg3 f2 f3 ones n h x) else BI.emp
  have h0 : I 0 () = own arg2 arg3 c f2 f3 x := dif_pos (Nat.zero_le _)
  have hN : I k0_t1_loop.trips () = own arg2 arg3 c f2 f3 (tripsSt arg2 arg3 f2 f3 ones k0_t1_loop.trips le_rfl x) := dif_pos le_rfl
  have step : ∀ (t : Fin k0_t1_loop.trips) (acc : Unit), I t acc ⊢ wp frame (wpE defs₀ Variants.none (c : Thread nD τ) none) Set.univ (body t acc) (I (t.val + 1)) := by
    intro t acc
    have e1 : I t acc = own arg2 arg3 c f2 f3 (tripsSt arg2 arg3 f2 f3 ones t.val (Nat.le_of_lt t.isLt) x) := dif_pos (Nat.le_of_lt t.isLt)
    have e2 : I (t.val + 1) = fun _ => own arg2 arg3 c f2 f3 (tripSt arg2 arg3 f2 f3 ones t (tripsSt arg2 arg3 f2 f3 ones t.val (Nat.le_of_lt t.isLt) x)) :=
      funext fun _ => dif_pos t.isLt
    rw [e1, e2, show body t acc = trip arg2 arg3 arg7 arg8 arg9 ones t from hb t]
    exact (does_trip ones t).wp
  have key := Scf.wp_for_bind frame (wpE defs₀ Variants.none (c : Thread nD τ) none) Set.univ k0_t1_loop.lb k0_t1_loop.ub k0_t1_loop.st k0_t1_ok () body I step (kk := k) (Q := Q)
  rw [h0] at key
  iintro HP HK
  iapply key $$ HP
  iintro %acc HI
  iapply HK
  iapply (Entails.of_eq hN) $$ HI

/-- Every buffer the kernel touches, at its contents. -/
def ownAll (arg2 : Memref sig .tc .vmem S8x64x1280 .f32) (arg3 : Memref sig .tc .vmem S8x2x1x64x128 .f32)
    (arg4 arg5 : Memref sig .tc .vmem S8x64x256 .f32) (arg6 : Memref sig .tc .vmem S8x2x64x128 .f32) {arg7 arg8 arg9 : Memref sig .tc .vmem S8x2x64x128 .f32}
    (c : Dev nD) (f2 : arg2.view.ty.Contents (Elt F)) (f3 : arg3.view.ty.Contents (Elt F)) (f4 : arg4.view.ty.Contents (Elt F))
    (f5 : arg5.view.ty.Contents (Elt F)) (f6 : arg6.view.ty.Contents (Elt F)) (x : St F arg7 arg8 arg9) : sProp 𝕄 :=
  iprop(own arg2 arg3 c f2 f3 x ∗ (arg4.view.loc (c : Thread nD τ) ↦{fullShare} f4) ∗ (arg5.view.loc (c : Thread nD τ) ↦{fullShare} f5)
    ∗ (arg6.view.loc (c : Thread nD τ) ↦{fullShare} f6))

/-- The contents once the state is zeroed. -/
def zeroSt (x : St F arg7 arg8 arg9) : St F arg7 arg8 arg9 :=
  { x with s := (arg7.access allRect).write (Elt F) x.s (k0_pay1697 (F := F)) Finset.univ }

/-- The contents the trips start from. -/
def startSt (i : grid0.Coords) (x : St F arg7 arg8 arg9) : St F arg7 arg8 arg9 := if isFirst i then zeroSt x else x

variable {f4 : arg4.view.ty.Contents (Elt F)} {f5 : arg5.view.ty.Contents (Elt F)} {f6 : arg6.view.ty.Contents (Elt F)}

/-- The state is zeroed at the first block and left alone at the others. -/
theorem does_start (i : grid0.Coords) : Does (F := F) c (own arg2 arg3 c f2 f3 x) (start i arg7) ⟨⟩ (own arg2 arg3 c f2 f3 (startSt i x)) := by
  unfold start startSt
  by_cases h : isFirst i
  · rw [dif_pos h, if_pos h]
    unfold zeroS
    refine Does.focus iprop((arg2.view.loc (c : Thread nD τ) ↦{fullShare} f2) ∗ (arg3.view.loc (c : Thread nD τ) ↦{fullShare} f3)
      ∗ (arg8.view.loc (c : Thread nD τ) ↦{fullShare} x.sa) ∗ (arg9.view.loc (c : Thread nD τ) ↦{fullShare} x.yp))
      (Does.bind (Does.load arg7 allRect.toLoadRect _ x.s) (Does.bind (Does.store arg7 allRect (k0_pay1697 (F := F)) Finset.univ (View.stores_vmem_bits_univ h_S8x2x64x128 rfl) (.inl rfl) x.s) (Does.pure _))) ?_ ?_
    · unfold own; iintro ⟨H2, H3, H7, H8, H9⟩; iframe
    · unfold own zeroSt; iintro ⟨H7, H2, H3, H8, H9⟩; iframe
  · rw [dif_neg h, if_neg h]
    exact Does.pure _

/-- An output tile written. -/
def wrOut (M : Memref sig .tc .vmem S8x64x256 .f32) (g : M.view.ty.Contents (Elt F)) (b : Fin 8) (p : Fin 2) (v : FVec F S1x64x128 .f32) :
    M.view.ty.Contents (Elt F) :=
  (M.access (outRect b p)).write (Elt F) g v Finset.univ

/-- One tile transposed out. -/
theorem does_outOne (src : Memref sig .tc .vmem S8x2x64x128 .f32) (dst : Memref sig .tc .vmem S8x64x256 .f32) (f : src.view.ty.Contents (Elt F))
    (g : dst.view.ty.Contents (Elt F)) (b : Fin 8) (p : Fin 2) :
    Does (F := F) c iprop((src.view.loc (c : Thread nD τ) ↦{fullShare} f) ∗ (dst.view.loc (c : Thread nD τ) ↦{fullShare} g)) (outOne src dst b p) ⟨⟩
      iprop((src.view.loc (c : Thread nD τ) ↦{fullShare} f) ∗ (dst.view.loc (c : Thread nD τ) ↦{fullShare} wrOut dst g b p (outTile (rd src f b p)))) := by
  unfold outOne
  refine Does.bind (Does.framed _ (Does.load src _ _ f)) ?_
  refine Does.focus (src.view.loc (c : Thread nD τ) ↦{fullShare} f : sProp 𝕄) (Does.bind (Does.load dst _ _ g) (Does.store dst (outRect b p) (outTile (rd src f b p)) Finset.univ (View.stores_vmem_bits_univ h_S1x64x128 rfl) (.inl rfl) g)) ?_ ?_
  · iintro ⟨H1, H2⟩; iframe
  · unfold wrOut; iintro ⟨H1, H2⟩; iframe

/-- Both tiles of a batch written. -/
def outSt1 (src : Memref sig .tc .vmem S8x2x64x128 .f32) (dst : Memref sig .tc .vmem S8x64x256 .f32) (f : src.view.ty.Contents (Elt F)) (b : Fin 8)
    (g : dst.view.ty.Contents (Elt F)) : dst.view.ty.Contents (Elt F) :=
  wrOut dst (wrOut dst g b 0 (outTile (rd src f b 0))) b 1 (outTile (rd src f b 1))

/-- The tiles of the first `n` batches written. -/
def outSt (src : Memref sig .tc .vmem S8x2x64x128 .f32) (dst : Memref sig .tc .vmem S8x64x256 .f32) (f : src.view.ty.Contents (Elt F))
    (g : dst.view.ty.Contents (Elt F)) : (n : ℕ) → n ≤ 8 → dst.view.ty.Contents (Elt F)
  | 0, _ => g
  | n + 1, h => outSt1 src dst f ⟨n, h⟩ (outSt src dst f g n (Nat.le_of_succ_le h))

/-- The two sums' buffers and the two outputs. -/
def ownOut (c : Dev nD) (arg4 arg5 : Memref sig .tc .vmem S8x64x256 .f32) (arg8 arg9 : Memref sig .tc .vmem S8x2x64x128 .f32)
    (f4 : arg4.view.ty.Contents (Elt F)) (f5 : arg5.view.ty.Contents (Elt F)) (f8 : arg8.view.ty.Contents (Elt F)) (f9 : arg9.view.ty.Contents (Elt F)) : sProp 𝕄 :=
  iprop(((arg8.view.loc (c : Thread nD τ) ↦{fullShare} f8) ∗ (arg4.view.loc (c : Thread nD τ) ↦{fullShare} f4))
    ∗ ((arg9.view.loc (c : Thread nD τ) ↦{fullShare} f9) ∗ (arg5.view.loc (c : Thread nD τ) ↦{fullShare} f5)))

variable {f8 : arg8.view.ty.Contents (Elt F)} {f9 : arg9.view.ty.Contents (Elt F)}

/-- The first result's tile of one head pair is written under the output's ownership. -/
theorem ownOut_left (b : Fin 8) (p : Fin 2) : Does (F := F) c (ownOut c arg4 arg5 arg8 arg9 f4 f5 f8 f9) (outOne arg8 arg4 b p) ⟨⟩
    (ownOut c arg4 arg5 arg8 arg9 (wrOut arg4 f4 b p (outTile (rd arg8 f8 b p))) f5 f8 f9) :=
  Does.framed _ (does_outOne arg8 arg4 f8 f4 b p)

/-- So is the second result's. -/
theorem ownOut_right (b : Fin 8) (p : Fin 2) : Does (F := F) c (ownOut c arg4 arg5 arg8 arg9 f4 f5 f8 f9) (outOne arg9 arg5 b p) ⟨⟩
    (ownOut c arg4 arg5 arg8 arg9 f4 (wrOut arg5 f5 b p (outTile (rd arg9 f9 b p))) f8 f9) := by
  refine Does.focus iprop((arg8.view.loc (c : Thread nD τ) ↦{fullShare} f8) ∗ (arg4.view.loc (c : Thread nD τ) ↦{fullShare} f4)) (does_outOne arg9 arg5 f9 f5 b p) ?_ ?_
  · unfold ownOut; iintro ⟨⟨H1, H2⟩, H3, H4⟩; iframe
  · unfold ownOut; iintro ⟨⟨H3, H4⟩, H1, H2⟩; iframe

/-- So are both results' tiles of one sequence. -/
theorem does_outBatch (b : Fin 8) : Does (F := F) c (ownOut c arg4 arg5 arg8 arg9 f4 f5 f8 f9) (outBatch arg4 arg5 arg8 arg9 b) ⟨⟩
    (ownOut c arg4 arg5 arg8 arg9 (outSt1 arg8 arg4 f8 b f4) (outSt1 arg9 arg5 f9 b f5) f8 f9) := by
  unfold outBatch
  refine Does.bind (ownOut_left b 0) ?_
  refine Does.bind (ownOut_right b 0) ?_
  refine Does.bind (ownOut_left b 1) ?_
  exact ownOut_right b 1

/-- Both outputs written. -/
theorem does_outAll : Does (F := F) c (ownOut c arg4 arg5 arg8 arg9 f4 f5 f8 f9) (outAll arg4 arg5 arg8 arg9) ⟨⟩
    (ownOut c arg4 arg5 arg8 arg9 (outSt arg8 arg4 f8 f4 8 le_rfl) (outSt arg9 arg5 f9 f5 8 le_rfl) f8 f9) := by
  unfold outAll
  refine Does.bind (does_outBatch 0) ?_
  refine Does.bind (does_outBatch 1) ?_
  refine Does.bind (does_outBatch 2) ?_
  refine Does.bind (does_outBatch 3) ?_
  refine Does.bind (does_outBatch 4) ?_
  refine Does.bind (does_outBatch 5) ?_
  refine Does.bind (does_outBatch 6) ?_
  exact does_outBatch 7

/-- What the state's output buffer holds in the end. -/
def finSt (i : grid0.Coords) (arg6 arg7 : Memref sig .tc .vmem S8x2x64x128 .f32) (f6 : arg6.view.ty.Contents (Elt F)) (f7 : arg7.view.ty.Contents (Elt F)) :
    arg6.view.ty.Contents (Elt F) :=
  if k0_cond2 i = 1#1 then (arg6.access allRect).write (Elt F) f6 (arg7.view.readAt (Elt F) allRect.toLoadRect f7) Finset.univ else f6

/-- The state stored at the last block. -/
theorem does_fin (i : grid0.Coords) (f7 : arg7.view.ty.Contents (Elt F)) :
    Does (F := F) c iprop((arg7.view.loc (c : Thread nD τ) ↦{fullShare} f7) ∗ (arg6.view.loc (c : Thread nD τ) ↦{fullShare} f6)) (fin i arg6 arg7) ⟨⟩
      iprop((arg7.view.loc (c : Thread nD τ) ↦{fullShare} f7) ∗ (arg6.view.loc (c : Thread nD τ) ↦{fullShare} finSt i arg6 arg7 f6 f7)) := by
  unfold fin finSt
  by_cases h : k0_cond2 i = 1#1
  · rw [dif_pos h, if_pos h]
    unfold outS
    refine Does.bind (Does.framed _ (Does.load arg7 _ _ f7)) ?_
    refine Does.focus (arg7.view.loc (c : Thread nD τ) ↦{fullShare} f7 : sProp 𝕄) (Does.bind (Does.load arg6 allRect.toLoadRect _ f6)
      (Does.bind (Does.store arg6 allRect (arg7.view.readAt (Elt F) allRect.toLoadRect f7) Finset.univ (View.stores_vmem_bits_univ h_S8x2x64x128 rfl) (.inl rfl) f6) (Does.pure _))) ?_ ?_
    · iintro ⟨H1, H2⟩; iframe
    · iintro ⟨H1, H2⟩; iframe
  · rw [dif_neg h, if_neg h]
    exact Does.pure _

/-- The scratch after the kernel at a point. -/
def pointSt (arg2 : Memref sig .tc .vmem S8x64x1280 .f32) (arg3 : Memref sig .tc .vmem S8x2x1x64x128 .f32) (f2 : arg2.view.ty.Contents (Elt F))
    (f3 : arg3.view.ty.Contents (Elt F)) (i : grid0.Coords) (x : St F arg7 arg8 arg9) : St F arg7 arg8 arg9 :=
  tripsSt arg2 arg3 f2 f3 onesMat k0_t1_loop.trips le_rfl (startSt i x)

/-- What the kernel leaves at a point. -/
theorem does_kernel (i : grid0.Coords) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) :
    Does (F := F) c (ownAll arg2 arg3 arg4 arg5 arg6 c f2 f3 f4 f5 f6 x)
      (cc0__rwkv_scan_kernel (F := F) i arg2 harg2 arg3 harg3 arg4 harg4 arg5 harg5 arg6 harg6 arg7 harg7 arg8 harg8 arg9 harg9) ⟨⟩
      (ownAll arg2 arg3 arg4 arg5 arg6 c f2 f3 (outSt arg8 arg4 (pointSt arg2 arg3 f2 f3 i x).sa f4 8 le_rfl)
        (outSt arg9 arg5 (pointSt arg2 arg3 f2 f3 i x).yp f5 8 le_rfl) (finSt i arg6 arg7 f6 (pointSt arg2 arg3 f2 f3 i x).s) (pointSt arg2 arg3 f2 f3 i x)) := by
  rw [tail_eq]
  unfold ownAll
  refine Does.bind (Does.framed _ (does_start i)) ?_
  refine Does.bind (Does.framed _ (does_loop _ onesMat fun t => ?_)) ?_
  · rw [body_eq, tripK_eq]; rfl
  refine Does.bind (Does.focus iprop((arg2.view.loc (c : Thread nD τ) ↦{fullShare} f2) ∗ (arg3.view.loc (c : Thread nD τ) ↦{fullShare} f3)
      ∗ (arg7.view.loc (c : Thread nD τ) ↦{fullShare} (pointSt arg2 arg3 f2 f3 i x).s) ∗ (arg6.view.loc (c : Thread nD τ) ↦{fullShare} f6))
      (does_outAll (f4 := f4) (f5 := f5) (f8 := (pointSt arg2 arg3 f2 f3 i x).sa) (f9 := (pointSt arg2 arg3 f2 f3 i x).yp)) ?_ .rfl) ?_
  · unfold own ownOut pointSt; iintro ⟨⟨H2, H3, H7, H8, H9⟩, H4, H5, H6⟩; iframe
  refine Does.focus iprop((arg2.view.loc (c : Thread nD τ) ↦{fullShare} f2) ∗ (arg3.view.loc (c : Thread nD τ) ↦{fullShare} f3)
      ∗ ownOut c arg4 arg5 arg8 arg9 (outSt arg8 arg4 (pointSt arg2 arg3 f2 f3 i x).sa f4 8 le_rfl) (outSt arg9 arg5 (pointSt arg2 arg3 f2 f3 i x).yp f5 8 le_rfl)
          (pointSt arg2 arg3 f2 f3 i x).sa (pointSt arg2 arg3 f2 f3 i x).yp)
      (does_fin (f6 := f6) i (pointSt arg2 arg3 f2 f3 i x).s) ?_ ?_
  · iintro ⟨HO, H2, H3, H7, H6⟩; iframe
  · unfold own ownOut; iintro ⟨⟨H7, H6⟩, H2, H3, ⟨H8, H4⟩, H9, H5⟩; iframe

end Cert.KernelIdeal.Scan

end
-- ==== Proof.Run.lean ====
/-
  The scan program run by hand, once, for any float values and for anything claimed of its state and results that every grid
  point carries on (`Says`, `Says.Holds`). The frames take the empty saying, the values theirs.
-/
module

public import proofs.«01_k».proof.Proof.KernRun
public import proofs.«01_k».proof.Proof.Gen.KernelIdeal.Frame
public import Idealize.ShloMosaic.Lib.Pipeline.ArrRel

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is claimed of the state before each point, and of what each point leaves in the three results' blocks. -/
structure Says (F : FTy → Type) [FloatOps F] where
  /-- of the state before a point -/
  inv : Dev nD → Fin (cfg0.N + 1) → FVec F S8x2x64x128 .f32 → Prop
  /-- of the first result's block -/
  sa : Dev nD → Fin cfg0.N → FVec F S8x64x256 .f32 → Prop
  /-- of the second result's block -/
  yp : Dev nD → Fin cfg0.N → FVec F S8x64x256 .f32 → Prop
  /-- of the last result's block -/
  fin : Dev nD → Fin cfg0.N → FVec F S8x2x64x128 .f32 → Prop

/-- Every point carries the saying on, from the blocks it reads. -/
structure Says.Holds (S : Says F) : Prop where
  /-- nothing is claimed before the first point -/
  start : ∀ c X, S.inv c 0 X
  /-- one point -/
  step : ∀ (c : Dev nD) (t : Fin cfg0.N) (arg2 : Memref sig .tc .vmem S8x64x1280 .f32) (arg3 : Memref sig .tc .vmem S8x2x1x64x128 .f32)
    (arg4 arg5 : Memref sig .tc .vmem S8x64x256 .f32) (arg6 arg7 arg8 arg9 : Memref sig .tc .vmem S8x2x64x128 .f32)
    (f2 : arg2.view.ty.Contents (Elt F)) (f3 : arg3.view.ty.Contents (Elt F)) (f4 : arg4.view.ty.Contents (Elt F))
    (f5 : arg5.view.ty.Contents (Elt F)) (f6 : arg6.view.ty.Contents (Elt F)) (x : St F arg7 arg8 arg9),
    arg2.view.read (Elt F) f2 = iblk m c 0 t → arg3.view.read (Elt F) f3 = iblk m c 1 t → S.inv c t.castSucc (arg7.view.read (Elt F) x.s) →
    S.inv c t.succ (arg7.view.read (Elt F) (pointSt arg2 arg3 f2 f3 (grid0.coords t) x).s)
      ∧ S.sa c t (arg4.view.read (Elt F) (outSt arg8 arg4 (pointSt arg2 arg3 f2 f3 (grid0.coords t) x).sa f4 8 le_rfl))
      ∧ S.yp c t (arg5.view.read (Elt F) (outSt arg9 arg5 (pointSt arg2 arg3 f2 f3 (grid0.coords t) x).yp f5 8 le_rfl))
      ∧ S.fin c t (arg6.view.read (Elt F) (finSt (grid0.coords t) arg6 arg7 f6 (pointSt arg2 arg3 f2 f3 (grid0.coords t) x).s))

variable (S : Says F)

/-- The three scratch buffers and the random register between points: the state as claimed. -/
def keep (c : Dev nD) (t : Fin (cfg0.N + 1)) : sProp 𝕄 :=
  iprop((∃ f7 : Buf (Elt F) ((c : Thread nD τ).loc cc0_scratch0), ⌜S.inv c t ((Memref.whole cc0_scratch0).view.read (Elt F) f7)⌝
      ∗ (((c : Thread nD τ).loc cc0_scratch0) ↦{fullShare} f7))
    ∗ (∃ f8 : Buf (Elt F) ((c : Thread nD τ).loc cc0_scratch1), (((c : Thread nD τ).loc cc0_scratch1) ↦{fullShare} f8))
    ∗ (∃ f9 : Buf (Elt F) ((c : Thread nD τ).loc cc0_scratch2), (((c : Thread nD τ).loc cc0_scratch2) ↦{fullShare} f9))
    ∗ ∃ r, prngReg c r)

/-- The pipeline's data: each result's block as claimed, the inputs' unconstrained since every point fetches them. -/
def rdat (c : Dev nD) : RDat τ (Elt F) Unit ℕ (UR sig nD τ) ℕ cfg0 c where
  A w := V m c (Pipeline.arrRef spec0 w)
  after w t := match w with
    | ⟨0, _⟩ => fun _ _ => True
    | ⟨1, _⟩ => fun _ _ => True
    | ⟨2, _⟩ => fun _ X => S.sa c t X
    | ⟨3, _⟩ => fun _ X => S.yp c t X
    | ⟨4, _⟩ => fun _ X => S.fin c t X
  Φ t := keep S c t
  q _ := fullShare
  owed _ := 0

/-- A fetched first input's buffer holds its block. -/
theorem finds0 (c : Dev nD) (t : Fin cfg0.N) (Y) (h : (rdat m S c).Finds 0 t Y) : Y = iblk m c 0 t := by
  obtain ⟨d, rfl⟩ := ((rdat m S c).finds_of_fetch (fetch0_0 t) Y).mp h
  unfold RDat.fetched RDat.blockOf iblk
  rfl

/-- A fetched second input's buffer holds its block. -/
theorem finds1 (c : Dev nD) (t : Fin cfg0.N) (Y) (h : (rdat m S c).Finds 1 t Y) : Y = iblk m c 1 t := by
  obtain ⟨d, rfl⟩ := ((rdat m S c).finds_of_fetch (fetch0_1 t) Y).mp h
  unfold RDat.fetched RDat.blockOf iblk
  rfl

/-- The kernel at a point, carrying the saying on. -/
theorem kernel_at (hS : S.Holds m) (c : Dev nD) (t : Fin cfg0.N) {arg2 : Memref sig .tc .vmem S8x64x1280 .f32} {arg3 : Memref sig .tc .vmem S8x2x1x64x128 .f32}
    {arg4 arg5 : Memref sig .tc .vmem S8x64x256 .f32} {arg6 : Memref sig .tc .vmem S8x2x64x128 .f32}
    (h2 : arg2.IsWhole) (h3 : arg3.IsWhole) (h4 : arg4.IsWhole) (h5 : arg5.IsWhole) (h6 : arg6.IsWhole)
    (Y4 Y5 : FVec F S8x64x256 .f32) (Y6 : FVec F S8x2x64x128 .f32) (R : sProp 𝕄) :
    iprop(keep S c t.castSucc ∗ R ∗ owns (c : Thread nD τ) arg2 fullShare (iblk m c 0 t) ∗ owns (c : Thread nD τ) arg3 fullShare (iblk m c 1 t)
        ∗ owns (c : Thread nD τ) arg4 fullShare Y4 ∗ owns (c : Thread nD τ) arg5 fullShare Y5 ∗ owns (c : Thread nD τ) arg6 fullShare Y6)
      ⊢ wp frame (wpE defs₀ Variants.none (c : Thread nD τ) none) Set.univ
          (cc0__rwkv_scan_kernel (F := F) (grid0.coords t) arg2 h2 arg3 h3 arg4 h4 arg5 h5 arg6 h6 (Memref.whole cc0_scratch0) (Memref.isWhole_whole _)
            (Memref.whole cc0_scratch1) (Memref.isWhole_whole _) (Memref.whole cc0_scratch2) (Memref.isWhole_whole _))
          (fun _ => iprop(keep S c t.succ ∗ R ∗ (∃ X, ⌜True⌝ ∗ owns (c : Thread nD τ) arg2 fullShare X) ∗ (∃ X, ⌜True⌝ ∗ owns (c : Thread nD τ) arg3 fullShare X)
            ∗ (∃ X, ⌜S.sa c t X⌝ ∗ owns (c : Thread nD τ) arg4 fullShare X) ∗ (∃ X, ⌜S.yp c t X⌝ ∗ owns (c : Thread nD τ) arg5 fullShare X)
            ∗ (∃ X, ⌜S.fin c t X⌝ ∗ owns (c : Thread nD τ) arg6 fullShare X))) := by
  unfold keep
  iintro ⟨⟨⟨%f7, %hinv, H7⟩, ⟨%f8, H8⟩, ⟨%f9, H9⟩, Hr⟩, HR, H2, H3, H4, H5, H6⟩
  unfold owns
  rw [h2.set_eq_univ, h3.set_eq_univ, h4.set_eq_univ, h5.set_eq_univ, h6.set_eq_univ]
  icases H2 with ⟨%f2, %e2, H2⟩
  icases H3 with ⟨%f3, %e3, H3⟩
  icases H4 with ⟨%f4, %e4, H4⟩
  icases H5 with ⟨%f5, %e5, H5⟩
  icases H6 with ⟨%f6, %e6, H6⟩
  obtain ⟨k1, k2, k3, k4⟩ := hS.step c t arg2 arg3 arg4 arg5 arg6 (Memref.whole cc0_scratch0) (Memref.whole cc0_scratch1) (Memref.whole cc0_scratch2)
    f2 f3 f4 f5 f6 ⟨f7, f8, f9⟩ e2 e3 hinv
  have kd := Does.framed (iprop((∃ r, prngReg c r) ∗ R)) (does_kernel (c := c) (f2 := f2) (f3 := f3) (f4 := f4) (f5 := f5) (f6 := f6)
    (x := (⟨f7, f8, f9⟩ : St F (Memref.whole cc0_scratch0) (Memref.whole cc0_scratch1) (Memref.whole cc0_scratch2))) (grid0.coords t) h2 h3 h4 h5 h6
    (Memref.isWhole_whole _) (Memref.isWhole_whole _) (Memref.isWhole_whole _))
  refine BI.BIBase.Entails.trans ?_ (Does.conv kd .rfl (P₁' := _) ?_).wp
  · unfold ownAll own
    iintro ⟨⟨⟨⟨⟨⟨⟨⟨⟨H7, H8⟩, H9⟩, Hr⟩, HR⟩, H2⟩, H3⟩, H4⟩, H5⟩, H6⟩
    iframe
  · unfold ownAll own
    iintro ⟨⟨⟨H2, H3, H7, H8, H9⟩, H4, H5, H6⟩, Hr, HR⟩
    isplitl [H7 H8 H9 Hr]
    · isplitl [H7]
      · iexists _
        isplitr; · ipureintro; exact k1
        iexact H7
      isplitl [H8]; · iexists _; iexact H8
      isplitl [H9]; · iexists _; iexact H9
      iexact Hr
    isplitl [HR]; · iexact HR
    isplitl [H2]
    · iexists _; isplitr; · ipureintro; trivial
      iexists f2; isplitr; · ipureintro; rfl
      iexact H2
    isplitl [H3]
    · iexists _; isplitr; · ipureintro; trivial
      iexists f3; isplitr; · ipureintro; rfl
      iexact H3
    isplitl [H4]
    · iexists _; isplitr; · ipureintro; exact k2
      iexists _; isplitr; · ipureintro; rfl
      iexact H4
    isplitl [H5]
    · iexists _; isplitr; · ipureintro; exact k3
      iexists _; isplitr; · ipureintro; rfl
      iexact H5
    iexists _; isplitr; · ipureintro; exact k4
    iexists _; isplitr; · ipureintro; rfl
    iexact H6

/-- What is owned before a point. -/
theorem body_obligation (hS : S.Holds m) (c : Dev nD) : (rdat m S c).BodyObligation (defs₀ (F := F)) Variants.none () Set.univ := fun t Y hY => by
  have e0 := finds0 m S c t (Y 0) (hY 0)
  have e1 := finds1 m S c t (Y 1) (hY 1)
  rw [bigSep_W0, bigSep_W0, e0, e1]
  sl_whnfR [defs₀, Defs.onTc]
  exact kernel_at m S hS c t _ _ _ _ _ _ _ _ _

/-- Nothing is lost at the ends. -/
theorem keep_out (c : Dev nD) (t) : keep S c t ⊢ ΦA spec0 c := by
  unfold keep ΦA
  rw [scopedRest0_eq]
  iintro ⟨⟨%f7, -, H7⟩, H8, H9, Hr⟩
  isplitr [Hr]
  · isplitl [H7]
    · iexists f7; iexact H7
    isplitl [H8]
    · iexact H8
    iexact H9
  iexact Hr

/-- Before the first point nothing is claimed. -/
theorem keep_in (hS : S.Holds m) (c : Dev nD) : ΦA spec0 c ⊢ keep S c 0 := by
  unfold keep ΦA
  rw [scopedRest0_eq]
  iintro ⟨⟨⟨%f7, H7⟩, H8, H9⟩, Hr⟩
  isplitl [H7]
  · iexists f7
    isplitr
    · ipureintro; exact hS.start c _
    iexact H7
  isplitl [H8]
  · iexact H8
  isplitl [H9]
  · iexact H9
  iexact Hr

set_option backward.isDefEq.respectTransparency.types false in
/-- The run: it ends, with every result built block by block from blocks as claimed, every other array as before the kernel, and every counter at zero. -/
theorem run_main (hS : S.Holds m) : θ_run defs (onTc (τ := τ) (main (F := F))) (s₀ m ρ)
    (fun r => RDat.FramePost cfg0 (fun c => rdat m S c) (V m) r ∧ r.2.sem = fun _ => 0) :=
  Pipeline.RDat.θ_run_frame_track (Q' := _) cfgs (0 : Fin 1) launch0 defs₀ Variants.none (fun c => rdat m S c) m ρ main
    (hbody := fun c => body_obligation m S hS c) (hshare := fun c w => by unfold RDat.share; split <;> rfl) (howed := fun _ _ => rfl)
    (V := V m) (hmain := hmain m Variants.none) (hA := fun _ _ => rfl) (hin := fun c => keep_in m S hS c) (hout := fun c => keep_out S c _)

end Cert.KernelIdeal.Scan

end
-- ==== Proof.Frames.lean ====
/-
  The frame of the kernel, for any float values: its run with nothing claimed of the values, read at the arguments.
-/
module

public import proofs.«01_k».proof.Proof.Run

@[expose] public section

noncomputable section

namespace Cert.KernelIdeal.Scan

open Cert.KernelIdeal Cert.KernelIdeal.Gen
open Idealize.ShloMosaic Idealize.ShloMosaic.TcCoe Idealize.SL.Sem
open Idealize.ShloMosaic.Pipeline (RDat)

variable {F : FTy → Type} [FloatOps F]
variable (m : (ℓ : Loc nD τ sig) → Buf (Elt F) ℓ) (ρ : Dev nD → PrngReg)

/-- The saying that says nothing. -/
def noSays : Says F := ⟨fun _ _ _ => True, fun _ _ _ => True, fun _ _ _ => True, fun _ _ _ => True⟩

/-- It holds. -/
theorem noSays_holds : (noSays : Says F).Holds m := ⟨fun _ _ => trivial, by intros; exact ⟨trivial, trivial, trivial, trivial⟩⟩

/-- The arguments after a run are those before it. -/
theorem args_of {S : Says F} {r : Unit × MemSt nD τ sig (Elt F)} (h : RDat.FramePost cfg0 (fun c => rdat m S c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The program runs, leaves its arguments as they were, and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of m h.1 c, h.2⟩) (run_main m ρ noSays (noSays_holds m))

end Cert.KernelIdeal.Scan

end
-- ==== Proof.Tile.lean ====
/-
  The kernel's tiles read and written element by element, for any float values.
-/
module

public import proofs.«01_k».proof.Proof.KernRun
public import Idealize.ShloMosaic.Lib.Pointwise.Index
public import Idealize.ShloMosaic.Lib.Pipeline.Value
public import Idealize.ShloMosaic.Lib.VecWindow

@[expose] public section

set_option maxRecDepth 16384

noncomputable section

namespace Cert.KernelIdeal.Scan

open Cert.KernelIdeal Cert.KernelIdeal.Gen
open Idealize.ShloMosaic Idealize.ShloMosaic.TcCoe

variable {F : FTy → Type} [FloatOps F]

/-- An element of a scratch buffer: sequence, head pair, value index, lane. -/
def tl (M : Memref sig .tc .vmem S8x2x64x128 .f32) (f : M.view.ty.Contents (Elt F)) (b : Fin 8) (p : Fin 2) (i : Fin 64) (l : Fin 128) : F .f32 :=
  M.view.read (Elt F) f (ix4 b p i l)

/-- Where a tile's element stands in the buffer. -/
theorem tileRect_emb (b : Fin 8) (p : Fin 2) (j : S1x1x64x128.Idx) : (tileRect b p).emb j = ix4 b p (j 2) (j 3) := by
  have h0 : (j 0).val = 0 := by have : (j 0).val < 1 := (j 0).isLt; omega
  have h1 : (j 1).val = 0 := by have : (j 1).val < 1 := (j 1).isLt; omega
  funext a
  apply Fin.ext
  match a with
  | ⟨0, _⟩ => show b.val + 1 * (j 0).val = b.val; omega
  | ⟨1, _⟩ => show p.val + 1 * (j 1).val = p.val; omega
  | ⟨2, _⟩ => show 0 + 1 * (j 2).val = (j 2).val; omega
  | ⟨3, _⟩ => show 0 + 1 * (j 3).val = (j 3).val; omega

/-- A tile's index by its last two coordinates. -/
theorem one_idx (j : S1x1x64x128.Idx) : (ix4 0 0 (j 2) (j 3) : S1x1x64x128.Idx) = j := by
  have h0 : (j 0).val < 1 := (j 0).isLt
  have h1 : (j 1).val < 1 := (j 1).isLt
  funext a
  apply Fin.ext
  match a with
  | ⟨0, _⟩ => show 0 = (j 0).val; omega
  | ⟨1, _⟩ => show 0 = (j 1).val; omega
  | ⟨2, _⟩ => rfl
  | ⟨3, _⟩ => rfl

/-- A tile read is the buffer's elements. -/
theorem rd_apply (M : Memref sig .tc .vmem S8x2x64x128 .f32) (f : M.view.ty.Contents (Elt F)) (b : Fin 8) (p : Fin 2) (i : Fin 64) (l : Fin 128) :
    rd M f b p (ix4 0 0 i l) = tl M f b p i l := by
  show M.view.read (Elt F) f ((tileRect b p).emb (ix4 0 0 i l)) = _
  rw [tileRect_emb]
  rfl

/-- A tile written under a mask: the tile's elements where the mask is set, every other element kept. -/
theorem tl_write (M : Memref sig .tc .vmem S8x2x64x128 .f32) (f : M.view.ty.Contents (Elt F)) (b : Fin 8) (p : Fin 2) (v : FVec F S1x1x64x128 .f32)
    (Q : Finset S1x1x64x128.Idx) (b' : Fin 8) (p' : Fin 2) (i : Fin 64) (l : Fin 128) [Decidable (b' = b ∧ p' = p ∧ ix4 0 0 i l ∈ Q)] :
    tl M ((M.access (tileRect b p)).write (Elt F) f v Q) b' p' i l
      = if b' = b ∧ p' = p ∧ ix4 0 0 i l ∈ Q then v (ix4 0 0 i l) else tl M f b' p' i l := by
  unfold tl
  split
  · rename_i h
    obtain ⟨rfl, rfl, h⟩ := h
    have e := View.read_slice_write_emb (v := M.view) (tileRect b' p') f v h
    rw [tileRect_emb] at e
    exact e
  · rename_i h
    refine View.read_slice_write_of_not_mem (tileRect b p) f v Q fun hm => h ?_
    obtain ⟨j, hj, e⟩ := Finset.mem_map.mp hm
    rw [tileRect_emb] at e
    obtain ⟨rfl, rfl, rfl, rfl⟩ := (ix4_inj (n0 := 8) (n1 := 2) (n2 := 64) (n3 := 128) _ _ _ _ _ _ _ _).mp e
    refine ⟨rfl, rfl, ?_⟩
    exact (one_idx j).symm ▸ hj

/-- A tile written whole. -/
theorem tl_wr (M : Memref sig .tc .vmem S8x2x64x128 .f32) (f : M.view.ty.Contents (Elt F)) (b : Fin 8) (p : Fin 2) (v : FVec F S1x1x64x128 .f32)
    (b' : Fin 8) (p' : Fin 2) (i : Fin 64) (l : Fin 128) :
    tl M (wr M f b p v) b' p' i l = if b' = b ∧ p' = p then v (ix4 0 0 i l) else tl M f b' p' i l := by
  classical
  unfold wr
  rw [tl_write]
  simp only [Finset.mem_univ, and_true]

/-- A tile written where a mask is set. -/
theorem tl_wrOn (M : Memref sig .tc .vmem S8x2x64x128 .f32) (f : M.view.ty.Contents (Elt F)) (b : Fin 8) (p : Fin 2) (v : FVec F S1x1x64x128 .f32)
    (msk : IVec S1x1x64x128 1) (b' : Fin 8) (p' : Fin 2) (i : Fin 64) (l : Fin 128) :
    tl M (wrOn M f b p v msk) b' p' i l = if b' = b ∧ p' = p ∧ msk (ix4 0 0 i l) = 1#1 then v (ix4 0 0 i l) else tl M f b' p' i l := by
  classical
  unfold wrOn
  rw [tl_write]
  simp only [IVec.on, Finset.mem_filter, Finset.mem_univ, true_and]
  rfl

/-- A tile as a matrix. -/
theorem tile_cast {α : Type} (v : S1x1x64x128.Idx → α) (h : S1x1x64x128.ShapeCasts S64x128) (i : Fin 64) (l : Fin 128) :
    shapeCast S64x128 v h (ix2 i l) = v (ix4 0 0 i l) := by
  refine shapeCast_apply v h _ _ ?_
  rw [Shape.rowMajor_val_four, Shape.rowMajor_val_two]
  show ((0 * 1 + 0) * 64 + i.val) * 128 + l.val = i.val * 128 + l.val
  omega

/-- A matrix as a tile. -/
theorem cast_tile {α : Type} (v : S64x128.Idx → α) (h : S64x128.ShapeCasts S1x1x64x128) (i : Fin 64) (l : Fin 128) :
    shapeCast S1x1x64x128 v h (ix4 0 0 i l) = v (ix2 i l) := by
  refine shapeCast_apply v h _ _ ?_
  rw [Shape.rowMajor_val_four, Shape.rowMajor_val_two]
  show i.val * 128 + l.val = ((0 * 1 + 0) * 64 + i.val) * 128 + l.val
  omega

/-- A value tile as a matrix. -/
theorem vtile_cast {α : Type} (v : S1x1x1x64x128.Idx → α) (h : S1x1x1x64x128.ShapeCasts S64x128) (i : Fin 64) (l : Fin 128) :
    shapeCast S64x128 v h (ix2 i l) = v (ix5 0 0 0 i l) := by
  refine shapeCast_apply v h _ _ ?_
  rw [Shape.rowMajor_val_five, Shape.rowMajor_val_two]
  show (((0 * 1 + 0) * 1 + 0) * 64 + i.val) * 128 + l.val = i.val * 128 + l.val
  omega

/-- One row of eight spread over a tile. -/
theorem row_bcast {α : Type} (u : Fin 8) (x : S8x128.Idx → α) (i : Fin 64) (l : Fin 128) :
    broadcastTo S64x128 (extractStridedSlice S1x128 ![u.val, 0] x (slices_row u)) broadcasts_S1x128_S64x128 (ix2 i l) = x (ix2 u l) := by
  refine (broadcastTo_apply _ _ _ (ix2 0 l) ?_).trans ?_
  · intro a
    match a with
    | ⟨0, _⟩ => rfl
    | ⟨1, _⟩ => rfl
  · refine extractStridedSlice_apply _ _ _ _ _ ?_
    intro a
    match a with
    | ⟨0, _⟩ => show u.val = u.val + 0; omega
    | ⟨1, _⟩ => show l.val = 0 + l.val; omega

variable (arg2 : Memref sig .tc .vmem S8x64x1280 .f32) (arg3 : Memref sig .tc .vmem S8x2x1x64x128 .f32)

/-- The first step of a trip, as a number. -/
theorem base_val : ∀ t : Fin k0_t1_loop.trips, (base t).toNat = 8 * t.val ∧ (Scalar.indexCast (base t)).toNat = 8 * t.val := by decide +kernel

/-- The trips are eight. -/
theorem trips_eq : k0_t1_loop.trips = 8 := by decide +kernel

/-- The token, within the block, of step `u` of trip `t`. -/
def tok (t : Fin k0_t1_loop.trips) (u : Fin 8) : Fin 64 := ⟨8 * t.val + u.val, by have h := t.isLt; have e := trips_eq; omega⟩

/-- The column of a lane, in one of the five groups. -/
def col (q : Fin 5) (p : Fin 2) (l : Fin 128) : Fin 1280 := ⟨256 * q.val + 128 * p.val + l.val, by omega⟩

/-- The rows a trip reads, as elements of the operand's block. -/
theorem rows_apply (f2 : arg2.view.ty.Contents (Elt F)) (t : Fin k0_t1_loop.trips) (b : Fin 8) (p : Fin 2) (q : Fin 5) (u : Fin 8) (l : Fin 128) :
    rows arg2 f2 t b p q (ix2 u l) = arg2.view.read (Elt F) f2 (ix3 b (tok t u) (col q p l)) := by
  unfold rows
  refine (shapeCast_apply (s := S1x8x128) _ _ _ (ix3 0 u l) ?_).trans ?_
  · rw [Shape.rowMajor_val_three, Shape.rowMajor_val_two]
    show (0 * 8 + u.val) * 128 + l.val = u.val * 128 + l.val
    omega
  · show arg2.view.read (Elt F) f2 ((Rect.unit (s := S8x64x1280) (tileOff t b p q) S1x8x128.size (tileOff_inb t b p q)).emb (ix3 0 u l)) = _
    refine congrArg _ ?_
    have h := (base_val t).2
    funext a
    apply Fin.ext
    match a with
    | ⟨0, _⟩ => show b.val + 1 * 0 = b.val; omega
    | ⟨1, _⟩ => show (Scalar.indexCast (base t)).toNat + 1 * u.val = 8 * t.val + u.val; omega
    | ⟨2, _⟩ => show 256 * q.val + 128 * p.val + 1 * l.val = 256 * q.val + 128 * p.val + l.val; omega

/-- A value tile's elements. -/
theorem vrd_apply (f3 : arg3.view.ty.Contents (Elt F)) (b : Fin 8) (p : Fin 2) (i : Fin 64) (l : Fin 128) :
    vrd arg3 f3 b p (ix5 0 0 0 i l) = arg3.view.read (Elt F) f3 (ix5 b p 0 i l) := by
  show arg3.view.read (Elt F) f3 ((Rect.unit (s := S8x2x1x64x128) ![b.val, p.val, 0, 0, 0] S1x1x1x64x128.size (inb_vt b p)).emb (ix5 0 0 0 i l)) = _
  refine congrArg _ ?_
  funext a
  apply Fin.ext
  match a with
  | ⟨0, _⟩ => show b.val + 1 * 0 = b.val; omega
  | ⟨1, _⟩ => show p.val + 1 * 0 = p.val; omega
  | ⟨2, _⟩ => rfl
  | ⟨3, _⟩ => show 0 + 1 * i.val = i.val; omega
  | ⟨4, _⟩ => show 0 + 1 * l.val = l.val; omega

/-- The lanes' first half or second. -/
theorem pay1702_val : ∀ (l : Fin 128), (k0_pay1702 (ix2 0 l)).toNat = 64 * (l.val / 64) := by decide +kernel

end Cert.KernelIdeal.Scan

end
-- ==== Proof.Sums.lean ====
/-
  What the kernel's product with the matrix of ones gives at the ideal values: the sums over a head's keys. The low halves
  are zero there, which needs finite numbers.
-/
module

public import proofs.«01_k».proof.Proof.Tile
public import Idealize.ShloMosaic.PureOps.Ideal
public import Idealize.ShloMosaic.PureOps.Ideal.Laws
public import Idealize.ShloMosaic.Lib.MatmulPlain

@[expose] public section

set_option maxRecDepth 16384

noncomputable section

namespace Cert.KernelIdeal.Scan

open Cert.KernelIdeal Cert.KernelIdeal.Gen
open Idealize.ShloMosaic Idealize.ShloMosaic.TcCoe

/-- A finite number. -/
def IsR (x : EReal) : Prop := ∃ r : ℝ, (r : EReal) = x

/-- Zero is finite. -/
theorem IsR.zero : IsR 0 := ⟨0, rfl⟩

/-- Products of finite numbers are finite. -/
theorem IsR.mul {x y : EReal} (hx : IsR x) (hy : IsR y) : IsR (x * y) := by
  obtain ⟨a, rfl⟩ := hx; obtain ⟨b, rfl⟩ := hy; exact ⟨a * b, EReal.coe_mul a b⟩

/-- Sums of finite numbers are finite. -/
theorem IsR.add {x y : EReal} (hx : IsR x) (hy : IsR y) : IsR (x + y) := by
  obtain ⟨a, rfl⟩ := hx; obtain ⟨b, rfl⟩ := hy; exact ⟨a + b, EReal.coe_add a b⟩

/-- The negative of a finite number is finite. -/
theorem IsR.neg {x : EReal} (hx : IsR x) : IsR (-x) := by
  obtain ⟨a, rfl⟩ := hx; exact ⟨-a, EReal.coe_neg a⟩

/-- So is a sum of many. -/
theorem IsR.sum {n : ℕ} {f : Fin n → EReal} (h : ∀ j, IsR (f j)) : IsR (∑ j, f j) := by
  classical
  induction (Finset.univ : Finset (Fin n)) using Finset.induction_on with
  | empty => rw [Finset.sum_empty]; exact IsR.zero
  | insert a s ha ih => rw [Finset.sum_insert ha]; exact (h a).add ih

/-- A finite number less itself. -/
theorem IsR.sub_self {x : EReal} (hx : IsR x) : x - x = 0 := by
  obtain ⟨a, rfl⟩ := hx
  rw [← EReal.coe_sub, _root_.sub_self]; rfl

/-- The block a row of the matrix of ones belongs to. -/
theorem pay1698_val (k c : Fin 256) : k0_pay1698 (ix2 k c) = BitVec.ofNat 32 (k.val / 64) := by
  have e : k0_pay1698 (ix2 k c) = k0_pay1698 (ix2 k 0) := rfl
  rw [e]
  clear e
  revert k
  decide +kernel

/-- The matrix of ones, in four blocks. -/
theorem onesMat_apply (k c : Fin 256) : onesMat (F := Ideal) (ix2 k c) = if k.val / 64 = c.val / 64 then 1 else 0 := by
  have e : onesMat (F := Ideal) (ix2 k c) = Scalar.select (IntOp.cmpi .eq (k0_pay1698 (ix2 k c)) (k0_pay1698 (ix2 c k)))
      (Ideal.ofBits .f32 0x3F800000#32) (Ideal.ofBits .f32 0x00000000#32) := rfl
  rw [e, pay1698_val, pay1698_val]
  have h1 : Ideal.ofBits .f32 0x3F800000#32 = 1 := by
    simp [Ideal.ofBits, Ideal.ieee]
    rw [← EReal.coe_mul]
    norm_num
  rw [h1, Ideal.ofBits_zero_f32]
  have hk := k.isLt
  have hc := c.isLt
  by_cases h : k.val / 64 = c.val / 64
  · rw [if_pos h, h]
    simp [Scalar.select, IntOp.cmpi]
  · rw [if_neg h]
    have : BitVec.ofNat 32 (k.val / 64) ≠ BitVec.ofNat 32 (c.val / 64) := fun e => h (by
      have := congrArg BitVec.toNat e
      simp only [BitVec.toNat_ofNat] at this
      omega)
    have b : (BitVec.ofNat 32 (k.val / 64) == BitVec.ofNat 32 (c.val / 64)) = false := beq_eq_false_iff_ne.mpr this
    simp [Scalar.select, IntOp.cmpi, b]

/-- The `j`-th place of the block of 64 that `c` is in. -/
def inBlk (c : Fin 256) (j : Fin 64) : Fin 256 := ⟨64 * (c.val / 64) + j.val, by omega⟩

/-- A row times the matrix of ones. -/
theorem block_sum (g : Fin 256 → EReal) (c : Fin 256) : ∑ k : Fin 256, g k * (if k.val / 64 = c.val / 64 then 1 else 0) = ∑ j : Fin 64, g (inBlk c j) := by
  simp only [mul_ite, mul_one, mul_zero]
  rw [← Finset.sum_filter]
  symm
  refine Finset.sum_bij (fun j _ => inBlk c j) ?_ ?_ ?_ ?_
  · intro j _
    simp only [Finset.mem_filter, Finset.mem_univ, true_and, inBlk]
    omega
  · intro j _ j' _ h
    have := congrArg Fin.val h
    simp only [inBlk] at this
    exact Fin.ext (by omega)
  · intro k hk
    simp only [Finset.mem_filter, Finset.mem_univ, true_and] at hk
    exact ⟨⟨k.val % 64, by omega⟩, Finset.mem_univ _, Fin.ext (by simp only [inBlk]; omega)⟩
  · intro _ _; rfl

variable (u : Fin 8) (x : Fin 5 → FVec Ideal S8x128 .f32) (s : Vec Ideal S1x1x64x128 .f32)

/-- The left products: state times removal row. -/
theorem prods_left (i : Fin 64) (l : Fin 128) : prods u x s (ix2 i ⟨l.val, by omega⟩) = s (ix4 0 0 i l) * x 1 (ix2 u l) := by
  unfold prods
  refine Eq.trans (concatenate_pair_apply_left (t := S64x256) (s₁ := S64x128) (s₂ := S64x128) 1 _ _ _ _ rfl (ix2 i l) ?_) ?_
  · intro b
    match b with
    | ⟨0, _⟩ => rfl
    | ⟨1, _⟩ => rfl
  · show shapeCast S64x128 s _ (ix2 i l) * broadcastTo S64x128 _ _ (ix2 i l) = _
    rw [tile_cast, row_bcast]

/-- The right products: state times readout row. -/
theorem prods_right (i : Fin 64) (l : Fin 128) : prods u x s (ix2 i ⟨128 + l.val, by omega⟩) = s (ix4 0 0 i l) * x 4 (ix2 u l) := by
  unfold prods
  refine Eq.trans (concatenate_apply_piece (t := S64x256) 1 [⟨S64x128, _⟩, ⟨S64x128, _⟩] _ _ 1 (show 1 < 2 by decide) S64x128 _ rfl rfl 128 rfl (ix2 i l) ?_ ?_) ?_
  · intro b hb
    match b with
    | ⟨0, _⟩ => rfl
    | ⟨1, _⟩ => exact absurd rfl hb
  · rfl
  · show shapeCast S64x128 s _ (ix2 i l) * broadcastTo S64x128 _ _ (ix2 i l) = _
    rw [tile_cast, row_bcast]

/-- The products are finite where the state and the two rows are. -/
theorem prods_isR (hs : ∀ i l, IsR (s (ix4 0 0 i l))) (h1 : ∀ l, IsR (x 1 (ix2 u l))) (h4 : ∀ l, IsR (x 4 (ix2 u l))) (i : Fin 64) (c : Fin 256) :
    IsR (prods u x s (ix2 i c)) := by
  by_cases h : c.val < 128
  · have := prods_left u x s i ⟨c.val, h⟩
    rw [show prods u x s (ix2 i c) = _ from this]
    exact (hs _ _).mul (h1 _)
  · have := prods_right u x s i ⟨c.val - 128, by omega⟩
    have e : c = ⟨128 + (c.val - 128), by omega⟩ := Fin.ext (by show c.val = 128 + (c.val - 128); omega)
    rw [e, this]
    exact (hs _ _).mul (h4 _)

/-- Eight pieces one below another. -/
theorem cat8_apply {α : Type} (y : Fin 8 → S64x256.Idx → α) (k : Fin 8) (i : Fin 64) (c : Fin 256) :
    concatenate S512x256 0 [⟨S64x256, y 0⟩, ⟨S64x256, y 1⟩, ⟨S64x256, y 2⟩, ⟨S64x256, y 3⟩, ⟨S64x256, y 4⟩, ⟨S64x256, y 5⟩, ⟨S64x256, y 6⟩, ⟨S64x256, y 7⟩]
      concatenates_S64x256_S64x256_S64x256_S64x256_S64x256_S64x256_S64x256_S64x256_S512x256_d0 (ix2 ⟨64 * k.val + i.val, by omega⟩ c) = y k (ix2 i c) := by
  refine concatenate_apply_piece (t := S512x256) 0 [⟨S64x256, y 0⟩, ⟨S64x256, y 1⟩, ⟨S64x256, y 2⟩, ⟨S64x256, y 3⟩, ⟨S64x256, y 4⟩, ⟨S64x256, y 5⟩, ⟨S64x256, y 6⟩, ⟨S64x256, y 7⟩] _ _ k.val k.isLt S64x256 (y k) ?_ rfl (64 * k.val) ?_ (ix2 i c) ?_ ?_
  · fin_cases k <;> rfl
  · fin_cases k <;> rfl
  · intro b hb
    match b with
    | ⟨0, _⟩ => exact absurd rfl hb
    | ⟨1, _⟩ => rfl
  · rfl

/-- The eight pieces that the kernel stacks. -/
def piece (u : Fin 8) (xs : Fin 4 → Fin 5 → FVec Ideal S8x128 .f32) (ss : Fin 4 → Vec Ideal S1x1x64x128 .f32) (k : Fin 8) : S64x256.Idx → EReal :=
  if h : k.val < 4 then hi u (xs ⟨k.val, h⟩) (ss ⟨k.val, h⟩) else lo u (xs ⟨k.val - 4, by omega⟩) (ss ⟨k.val - 4, by omega⟩)

variable (xs : Fin 4 → Fin 5 → FVec Ideal S8x128 .f32) (ss : Fin 4 → Vec Ideal S1x1x64x128 .f32)

/-- A row of the kernel's product. -/
theorem sums_apply (k : Fin 8) (i : Fin 64) (c : Fin 256) :
    sums (F := Ideal) onesMat u (xs 0) (xs 1) (xs 2) (xs 3) (ss 0) (ss 1) (ss 2) (ss 3) (ix2 ⟨64 * k.val + i.val, by omega⟩ c)
      = ∑ j : Fin 64, piece u xs ss k (ix2 i (inBlk c j)) := by
  have e := Ideal.matmul_plain_apply (M := 512) (K := 256) (N := 256) (φ₁ := .bf16) (φ₂ := .bf16) none
    (concatenate S512x256 0 [⟨S64x256, piece u xs ss 0⟩, ⟨S64x256, piece u xs ss 1⟩, ⟨S64x256, piece u xs ss 2⟩, ⟨S64x256, piece u xs ss 3⟩,
      ⟨S64x256, piece u xs ss 4⟩, ⟨S64x256, piece u xs ss 5⟩, ⟨S64x256, piece u xs ss 6⟩, ⟨S64x256, piece u xs ss 7⟩]
      concatenates_S64x256_S64x256_S64x256_S64x256_S64x256_S64x256_S64x256_S64x256_S512x256_d0)
    (onesMat (F := Ideal)) (constant S512x256 .f32 0x00000000#32) ⟨64 * k.val + i.val, by omega⟩ c
  refine Eq.trans ?_ (e.trans ?_)
  · rfl
  · have z : (constant S512x256 .f32 0x00000000#32 : FVec Ideal S512x256 .f32) (ix2 ⟨64 * k.val + i.val, by omega⟩ c) = 0 := Ideal.ofBits_zero_f32
    refine (congrArg (· + _) z).trans ((zero_add _).trans ?_)
    refine Eq.trans (Finset.sum_congr rfl fun q _ => ?_) (block_sum (fun q => piece u xs ss k (ix2 i q)) c)
    exact congrArg₂ (· * ·) (cat8_apply (piece u xs ss) k i q) (onesMat_apply q c)

/-- The lane `j` of the head that lane `l` belongs to. -/
def inHead (l : Fin 128) (j : Fin 64) : Fin 128 := ⟨64 * (l.val / 64) + j.val, by omega⟩

/-- A tile's row times a key row, summed over the lane's head. -/
def hsum (s : Vec Ideal S1x1x64x128 .f32) (r : Fin 128 → EReal) (i : Fin 64) (l : Fin 128) : EReal :=
  ∑ j : Fin 64, s (ix4 0 0 i (inHead l j)) * r (inHead l j)

variable (hs : ∀ k i l, IsR (ss k (ix4 0 0 i l))) (h1 : ∀ k l, IsR (xs k 1 (ix2 u l))) (h4 : ∀ k l, IsR (xs k 4 (ix2 u l)))

include hs h1 h4 in
/-- The two halves joined are the sums of the products. -/
theorem red_apply (k : Fin 4) (i : Fin 64) (c : Fin 256) :
    red k (sums (F := Ideal) onesMat u (xs 0) (xs 1) (xs 2) (xs 3) (ss 0) (ss 1) (ss 2) (ss 3)) (ix2 i c)
      = ∑ j : Fin 64, prods u (xs k) (ss k) (ix2 i (inBlk c j)) := by
  have hk := k.isLt
  unfold red
  show extractStridedSlice S64x256 _ _ _ (ix2 i c) + extractStridedSlice S64x256 _ _ _ (ix2 i c) = _
  rw [extractStridedSlice_apply _ _ _ (ix2 i c) (ix2 ⟨64 * (⟨k.val, by omega⟩ : Fin 8).val + i.val, by show 64 * k.val + i.val < 512; omega⟩ c)
      (fun a => by match a with | ⟨0, _⟩ => rfl | ⟨1, _⟩ => exact (Nat.zero_add _).symm),
    extractStridedSlice_apply _ _ _ (ix2 i c) (ix2 ⟨64 * (⟨4 + k.val, by omega⟩ : Fin 8).val + i.val, by show 64 * (4 + k.val) + i.val < 512; omega⟩ c)
      (fun a => by match a with | ⟨0, _⟩ => rfl | ⟨1, _⟩ => exact (Nat.zero_add _).symm)]
  rw [sums_apply, sums_apply]
  have a1 : piece u xs ss ⟨k.val, by omega⟩ = hi u (xs k) (ss k) := by unfold piece; rw [dif_pos hk]
  have a2 : piece u xs ss ⟨4 + k.val, by omega⟩ = lo u (xs k) (ss k) := by
    unfold piece
    rw [dif_neg (by show ¬ (4 + k.val < 4); omega)]
    have : (⟨4 + k.val - 4, by omega⟩ : Fin 4) = k := Fin.ext (by show 4 + k.val - 4 = k.val; omega)
    show lo u (xs ⟨4 + k.val - 4, _⟩) (ss ⟨4 + k.val - 4, _⟩) = _
    rw [this]
  rw [a1, a2]
  have z : ∑ j : Fin 64, lo u (xs k) (ss k) (ix2 i (inBlk c j)) = 0 := Finset.sum_eq_zero fun j _ =>
    (prods_isR u (xs k) (ss k) (hs k) (h1 k) (h4 k) i (inBlk c j)).sub_self
  rw [z, add_zero]
  rfl

include hs h1 h4 in
/-- What the state gives along the removal key. -/
theorem redSa_apply (k : Fin 4) (i : Fin 64) (l : Fin 128) :
    redSa k (sums (F := Ideal) onesMat u (xs 0) (xs 1) (xs 2) (xs 3) (ss 0) (ss 1) (ss 2) (ss 3)) (ix2 i l)
      = hsum (ss k) (fun l => xs k 1 (ix2 u l)) i l := by
  unfold redSa
  rw [extractStridedSlice_apply _ _ _ (ix2 i l) (ix2 i ⟨l.val, by omega⟩)
      (fun a => by match a with | ⟨0, _⟩ => exact (Nat.zero_add _).symm | ⟨1, _⟩ => exact (Nat.zero_add _).symm)]
  rw [red_apply u xs ss hs h1 h4]
  refine Finset.sum_congr rfl fun j _ => ?_
  exact prods_left u (xs k) (ss k) i (inHead l j)

include hs h1 h4 in
/-- What the state gives along the readout key. -/
theorem redYp_apply (k : Fin 4) (i : Fin 64) (l : Fin 128) :
    redYp k (sums (F := Ideal) onesMat u (xs 0) (xs 1) (xs 2) (xs 3) (ss 0) (ss 1) (ss 2) (ss 3)) (ix2 i l)
      = hsum (ss k) (fun l => xs k 4 (ix2 u l)) i l := by
  unfold redYp
  rw [extractStridedSlice_apply _ _ _ (ix2 i l) (ix2 i ⟨128 + l.val, by omega⟩)
      (fun a => by match a with | ⟨0, _⟩ => exact (Nat.zero_add _).symm | ⟨1, _⟩ => rfl)]
  rw [red_apply u xs ss hs h1 h4]
  refine Finset.sum_congr rfl fun j _ => ?_
  have e : inBlk ⟨128 + l.val, by omega⟩ j = ⟨128 + (inHead l j).val, by have := (inHead l j).isLt; omega⟩ :=
    Fin.ext (by show 64 * ((128 + l.val) / 64) + j.val = 128 + (64 * (l.val / 64) + j.val); omega)
  rw [e]
  exact prods_right u (xs k) (ss k) i (inHead l j)

/-- The state after a step, element by element. -/
theorem newS_apply (idx : IVec S64x128 32) (sa : FVec Ideal S64x128 .f32) (v : Vec Ideal S1x1x1x64x128 .f32) (i : Fin 64) (l g : Fin 128)
    (hg : (lane idx (ix2 i l)).toNat % 128 = g.val) :
    newS u idx x sa v s (ix4 0 0 i l)
      = s (ix4 0 0 i l) * x 0 (ix2 u l) + sa (ix2 i l) * x 2 (ix2 u l) + v (ix5 0 0 0 i g) * x 3 (ix2 u l) := by
  unfold newS
  rw [cast_tile]
  show shapeCast S64x128 s _ (ix2 i l) * broadcastTo S64x128 _ _ (ix2 i l) + sa (ix2 i l) * broadcastTo S64x128 _ _ (ix2 i l)
    + dynamicGather 1 _ _ (ix2 i l) * broadcastTo S64x128 _ _ (ix2 i l) = _
  rw [tile_cast, row_bcast, row_bcast, row_bcast]
  refine congrArg (fun y : EReal => s (ix4 0 0 i l) * x 0 (ix2 u l) + sa (ix2 i l) * x 2 (ix2 u l) + y * x 3 (ix2 u l)) ?_
  rw [← vtile_cast v shapeCasts_S1x1x1x64x128_S64x128 i g]
  unfold dynamicGather
  refine congrArg _ ?_
  funext a
  match a with
  | ⟨0, _⟩ => rfl
  | ⟨1, _⟩ => exact Fin.ext hg

/-- Where a step's values stand. -/
theorem lane_val (t : Fin k0_t1_loop.trips) (u : Fin 8) (i : Fin 64) (l : Fin 128) :
    (lane (idxAt (base t) u) (ix2 i l)).toNat % 128 = (inHead l (tok t u)).val := by
  unfold lane
  rw [shapeCast_shapeCast]
  have e : (select (cmpi .slt (idxAt (base t) u) (broadcast S64x128 0#32)) (addi (idxAt (base t) u) (broadcast S64x128 128#32)) (idxAt (base t) u)) (ix2 i l)
    = (select (cmpi .slt (idxAt (base t) u) (broadcast S64x128 0#32)) (addi (idxAt (base t) u) (broadcast S64x128 128#32)) (idxAt (base t) u)) (ix2 0 l) := rfl
  rw [e]
  clear e
  revert t u l
  decide +kernel

/-- Which lanes hold a step. -/
theorem selAt_iff (t : Fin k0_t1_loop.trips) (u : Fin 8) (i : Fin 64) (l : Fin 128) :
    selAt (base t) u (ix2 i l) = 1#1 ↔ l.val % 64 = (tok t u).val := by
  have e : selAt (base t) u (ix2 i l) = selAt (base t) u (ix2 0 l) := rfl
  rw [e]
  clear e
  revert t u l
  decide +kernel

end Cert.KernelIdeal.Scan

end
-- ==== Proof.Step.lean ====
/-
  What the kernel's state, removal sums and readout sums hold after each time step of a grid point, at the ideal values.
-/
module

public import proofs.«01_k».proof.Proof.Sums

@[expose] public section

set_option maxRecDepth 16384

noncomputable section

namespace Cert.KernelIdeal.Scan

open Cert.KernelIdeal Cert.KernelIdeal.Gen
open Idealize.ShloMosaic Idealize.ShloMosaic.TcCoe

/-- The inputs of one head over time: decay, removal key, removal strength, key and decayed receptance; and the values. -/
structure Seqs where
  /-- the five rows -/
  x : Fin 5 → ℕ → Fin 64 → EReal
  /-- the values -/
  v : ℕ → Fin 64 → EReal

namespace Seqs

variable (g : Seqs)

/-- The state before step `n`. -/
def mem : ℕ → Fin 64 → Fin 64 → EReal
  | 0 => fun _ _ => 0
  | n + 1 => fun i j => mem n i j * g.x 0 n j + (∑ j', mem n i j' * g.x 1 n j') * g.x 2 n j + g.v n i * g.x 3 n j

/-- What the state gives along the removal key at step `n`. -/
def sa (n : ℕ) (i : Fin 64) : EReal := ∑ j, g.mem n i j * g.x 1 n j

/-- What the decayed state gives along the receptance at step `n`. -/
def yp (n : ℕ) (i : Fin 64) : EReal := ∑ j, g.mem n i j * g.x 4 n j

/-- All inputs are finite. -/
def Fine : Prop := (∀ q n j, IsR (g.x q n j)) ∧ ∀ n i, IsR (g.v n i)

/-- Finite inputs keep the state finite. -/
theorem mem_isR (h : g.Fine) : ∀ n i j, IsR (g.mem n i j)
  | 0, _, _ => IsR.zero
  | n + 1, i, j => (((mem_isR h n i j).mul (h.1 0 n j)).add
      ((IsR.sum fun j' => (mem_isR h n i j').mul (h.1 1 n j')).mul (h.1 2 n j))).add ((h.2 n i).mul (h.1 3 n j))

end Seqs

/-- The head of a lane. -/
def hd (p : Fin 2) (l : Fin 128) : Fin 4 := ⟨2 * p.val + l.val / 64, by omega⟩

/-- The key of a lane. -/
def ky (l : Fin 128) : Fin 64 := ⟨l.val % 64, by omega⟩

/-- A lane of the same head. -/
theorem hd_inHead (p : Fin 2) (l : Fin 128) (j : Fin 64) : hd p (inHead l j) = hd p l :=
  Fin.ext (by show 2 * p.val + (64 * (l.val / 64) + j.val) / 64 = 2 * p.val + l.val / 64; omega)

/-- Its key. -/
theorem ky_inHead (l : Fin 128) (j : Fin 64) : ky (inHead l j) = j :=
  Fin.ext (by show (64 * (l.val / 64) + j.val) % 64 = j.val; omega)

variable (arg2 : Memref sig .tc .vmem S8x64x1280 .f32) (arg3 : Memref sig .tc .vmem S8x2x1x64x128 .f32)
variable {arg7 arg8 arg9 : Memref sig .tc .vmem S8x2x64x128 .f32}

section one
variable (f3 : arg3.view.ty.Contents (Elt Ideal)) (u : Fin 8) (xs : Fin 8 → Fin 2 → Fin 5 → FVec Ideal S8x128 .f32) (tt : Fin 64)

/-- The sum of the state's row along input row `q`. -/
def along (q : Fin 5) (x : St Ideal arg7 arg8 arg9) (b : Fin 8) (p : Fin 2) (i : Fin 64) (l : Fin 128) : EReal :=
  ∑ j : Fin 64, tl arg7 x.s b p i (inHead l j) * xs b p q (ix2 u (inHead l j))

/-- The state after the step. -/
def newTl (x : St Ideal arg7 arg8 arg9) (b : Fin 8) (p : Fin 2) (i : Fin 64) (l : Fin 128) : EReal :=
  tl arg7 x.s b p i l * xs b p 0 (ix2 u l) + along u xs 1 x b p i l * xs b p 2 (ix2 u l)
    + vrd arg3 f3 b p (ix5 0 0 0 i (inHead l tt)) * xs b p 3 (ix2 u l)

/-- The tiles in `D` have made the step from `x`; the others stand as in `x`. -/
structure Part (x y : St Ideal arg7 arg8 arg9) (D : Finset (Fin 8 × Fin 2)) : Prop where
  s : ∀ b p i l, tl arg7 y.s b p i l = if (b, p) ∈ D then newTl arg3 f3 u xs tt x b p i l else tl arg7 x.s b p i l
  sa : ∀ b p i l, tl arg8 y.sa b p i l = if (b, p) ∈ D ∧ l.val % 64 = tt.val then along u xs 1 x b p i l else tl arg8 x.sa b p i l
  yp : ∀ b p i l, tl arg9 y.yp b p i l = if (b, p) ∈ D ∧ l.val % 64 = tt.val then along u xs 4 x b p i l else tl arg9 x.yp b p i l

variable {arg3 f3 u xs tt}
variable {sel : IVec S64x128 1} {idx : IVec S64x128 32}
variable (hsel : ∀ i l, sel (ix2 i l) = 1#1 ↔ l.val % 64 = tt.val) (hidx : ∀ i l, (lane idx (ix2 i l)).toNat % 128 = (inHead l tt).val)

include hsel hidx in
/-- One tile more. -/
theorem Part.upd {x y : St Ideal arg7 arg8 arg9} {D : Finset (Fin 8 × Fin 2)} (h : Part arg3 f3 u xs tt x y D) (b : Fin 8) (p : Fin 2)
    (hn : (b, p) ∉ D) (k : Fin 4) (z : FVec Ideal S512x256 .f32) (h1 : ∀ i l, redSa k z (ix2 i l) = along u xs 1 x b p i l)
    (h4 : ∀ i l, redYp k z (ix2 i l) = along u xs 4 x b p i l) :
    Part arg3 f3 u xs tt x (updSt arg3 f3 sel idx u (xs b p) b p k z y) (insert (b, p) D) where
  s b' p' i l := by
    unfold updSt
    dsimp only
    rw [tl_wr]
    by_cases e : b' = b ∧ p' = p
    · obtain ⟨rfl, rfl⟩ := e
      rw [if_pos ⟨rfl, rfl⟩, if_pos (Finset.mem_insert_self _ _), newS_apply u (xs b' p') _ _ _ _ i l _ (hidx i l), rd_apply, h.s, if_neg hn, h1]
      rfl
    · rw [if_neg e, h.s]
      have : ((b', p') ∈ insert (b, p) D) = ((b', p') ∈ D) := by simp [e]
      simp only [this]
  sa b' p' i l := by
    unfold updSt
    dsimp only
    rw [tl_wrOn, cast_tile, cast_tile, h1, h.sa]
    simp only [hsel]
    by_cases e : b' = b ∧ p' = p
    · obtain ⟨rfl, rfl⟩ := e
      simp [hn]
    · have : ((b', p') ∈ insert (b, p) D) = ((b', p') ∈ D) := by simp [e]
      rw [if_neg (fun a => e ⟨a.1, a.2.1⟩)]
      simp only [this]
  yp b' p' i l := by
    unfold updSt
    dsimp only
    rw [tl_wrOn, cast_tile, cast_tile, h4, h.yp]
    simp only [hsel]
    by_cases e : b' = b ∧ p' = p
    · obtain ⟨rfl, rfl⟩ := e
      simp [hn]
    · have : ((b', p') ∈ insert (b, p) D) = ((b', p') ∈ D) := by simp [e]
      rw [if_neg (fun a => e ⟨a.1, a.2.1⟩)]
      simp only [this]

/-- The sums of two batches that have not made the step yet. -/
theorem Part.sums {x y : St Ideal arg7 arg8 arg9} {D : Finset (Fin 8 × Fin 2)} (h : Part arg3 f3 u xs tt x y D) (b d : Fin 8)
    (hb : ∀ p, (b, p) ∉ D) (hd : ∀ p, (d, p) ∉ D) (hs : ∀ b p i l, IsR (tl arg7 x.s b p i l)) (hx : ∀ b p q l, IsR (xs b p q (ix2 u l)))
    (k : Fin 4) (e : Fin 8 × Fin 2) (he : e = (![(b, 0), (b, 1), (d, 0), (d, 1)] : Fin 4 → Fin 8 × Fin 2) k) (i : Fin 64) (l : Fin 128) :
    redSa k (sumsSt onesMat u xs b d y) (ix2 i l) = along u xs 1 x e.1 e.2 i l ∧ redYp k (sumsSt onesMat u xs b d y) (ix2 i l) = along u xs 4 x e.1 e.2 i l := by
  have hrd : ∀ (c : Fin 8) (p : Fin 2) i l, (∀ p, (c, p) ∉ D) → rd arg7 y.s c p (ix4 0 0 i l) = tl arg7 x.s c p i l := by
    intro c p i l hc
    rw [rd_apply, h.s, if_neg (hc p)]
  have a1 : ∀ k i l, IsR ((![rd arg7 y.s b 0, rd arg7 y.s b 1, rd arg7 y.s d 0, rd arg7 y.s d 1] : Fin 4 → Vec Ideal S1x1x64x128 .f32) k (ix4 0 0 i l)) := by
    intro k i l
    fin_cases k
    · exact (congrArg IsR (hrd b 0 i l hb)).mpr (hs b 0 i l)
    · exact (congrArg IsR (hrd b 1 i l hb)).mpr (hs b 1 i l)
    · exact (congrArg IsR (hrd d 0 i l hd)).mpr (hs d 0 i l)
    · exact (congrArg IsR (hrd d 1 i l hd)).mpr (hs d 1 i l)
  have a2 : ∀ (q : Fin 5) k l, IsR ((![xs b 0, xs b 1, xs d 0, xs d 1] : Fin 4 → Fin 5 → FVec Ideal S8x128 .f32) k q (ix2 u l)) := by
    intro q k l
    fin_cases k
    · exact hx b 0 q l
    · exact hx b 1 q l
    · exact hx d 0 q l
    · exact hx d 1 q l
  have b1 := redSa_apply u ![xs b 0, xs b 1, xs d 0, xs d 1] ![rd arg7 y.s b 0, rd arg7 y.s b 1, rd arg7 y.s d 0, rd arg7 y.s d 1] a1 (a2 1) (a2 4) k i l
  have b4 := redYp_apply u ![xs b 0, xs b 1, xs d 0, xs d 1] ![rd arg7 y.s b 0, rd arg7 y.s b 1, rd arg7 y.s d 0, rd arg7 y.s d 1] a1 (a2 1) (a2 4) k i l
  refine ⟨Eq.trans b1 ?_, Eq.trans b4 ?_⟩
  all_goals
    subst he
    refine Finset.sum_congr rfl fun j _ => ?_
    fin_cases k
    · exact congrArg (· * _) (hrd b 0 i _ hb)
    · exact congrArg (· * _) (hrd b 1 i _ hb)
    · exact congrArg (· * _) (hrd d 0 i _ hd)
    · exact congrArg (· * _) (hrd d 1 i _ hd)

include hsel hidx in
/-- Two batches more. -/
theorem Part.group {x y : St Ideal arg7 arg8 arg9} {D : Finset (Fin 8 × Fin 2)} (h : Part arg3 f3 u xs tt x y D) (b d : Fin 8) (hbd : b ≠ d)
    (hb : ∀ p, (b, p) ∉ D) (hd : ∀ p, (d, p) ∉ D) (hs : ∀ b p i l, IsR (tl arg7 x.s b p i l)) (hx : ∀ b p q l, IsR (xs b p q (ix2 u l))) :
    Part arg3 f3 u xs tt x (groupSt arg3 f3 onesMat sel idx u xs b d y) (insert (d, 1) (insert (d, 0) (insert (b, 1) (insert (b, 0) D)))) := by
  have hs' := fun k e he i l => h.sums b d hb hd hs hx k e he i l
  unfold groupSt
  refine Part.upd hsel hidx (Part.upd hsel hidx (Part.upd hsel hidx (Part.upd hsel hidx h b 0 (hb 0) 0 _ ?_ ?_) b 1 ?_ 1 _ ?_ ?_) d 0 ?_ 2 _ ?_ ?_) d 1 ?_ 3 _ ?_ ?_
  · exact fun i l => (hs' 0 (b, 0) rfl i l).1
  · exact fun i l => (hs' 0 (b, 0) rfl i l).2
  · simp [hb 1]
  · exact fun i l => (hs' 1 (b, 1) rfl i l).1
  · exact fun i l => (hs' 1 (b, 1) rfl i l).2
  · simp [hd 0, hbd.symm]
  · exact fun i l => (hs' 2 (d, 0) rfl i l).1
  · exact fun i l => (hs' 2 (d, 0) rfl i l).2
  · simp [hd 1, hbd.symm]
  · exact fun i l => (hs' 3 (d, 1) rfl i l).1
  · exact fun i l => (hs' 3 (d, 1) rfl i l).2

end one

/-- No tile has made the step yet. -/
theorem Part.start (f3 : arg3.view.ty.Contents (Elt Ideal)) (u : Fin 8) (xs : Fin 8 → Fin 2 → Fin 5 → FVec Ideal S8x128 .f32) (tt : Fin 64)
    (x : St Ideal arg7 arg8 arg9) : Part arg3 f3 u xs tt x x ∅ where
  s b p i l := by simp
  sa b p i l := by simp
  yp b p i l := by simp

/-- All tiles make a time step. -/
theorem step_part (f3 : arg3.view.ty.Contents (Elt Ideal)) (t : Fin k0_t1_loop.trips) (u : Fin 8) (xs : Fin 8 → Fin 2 → Fin 5 → FVec Ideal S8x128 .f32)
    (x : St Ideal arg7 arg8 arg9) (hs : ∀ b p i l, IsR (tl arg7 x.s b p i l)) (hx : ∀ b p q l, IsR (xs b p q (ix2 u l))) :
    ∃ D, (∀ b p, (b, p) ∈ D) ∧ Part arg3 f3 u xs (tok t u) x (stepSt arg3 f3 onesMat (base t) xs u x) D := by
  have hsel := selAt_iff t u
  have hidx := lane_val t u
  have g1 := Part.group hsel hidx (Part.start arg3 f3 u xs (tok t u) x) 0 1 (by decide) (by decide) (by decide) hs hx
  have g2 := Part.group hsel hidx g1 2 3 (by decide) (by decide) (by decide) hs hx
  have g3 := Part.group hsel hidx g2 4 5 (by decide) (by decide) (by decide) hs hx
  have g4 := Part.group hsel hidx g3 6 7 (by decide) (by decide) (by decide) hs hx
  exact ⟨_, by decide, g4⟩

section point
variable (G : Fin 8 → Fin 4 → Seqs) (T : ℕ)

/-- The contents after `n` steps of the point that starts at time `T`. -/
structure Inv (n : ℕ) (x : St Ideal arg7 arg8 arg9) : Prop where
  s : ∀ b p i l, tl arg7 x.s b p i l = (G b (hd p l)).mem (T + n) i (ky l)
  sa : ∀ b p i l, (ky l).val < n → tl arg8 x.sa b p i l = (G b (hd p l)).sa (T + (ky l).val) i
  yp : ∀ b p i l, (ky l).val < n → tl arg9 x.yp b p i l = (G b (hd p l)).yp (T + (ky l).val) i

variable {G T} (f2 : arg2.view.ty.Contents (Elt Ideal)) (f3 : arg3.view.ty.Contents (Elt Ideal)) (hG : ∀ b h, (G b h).Fine)
  (h2 : ∀ b τ p q l, arg2.view.read (Elt Ideal) f2 (ix3 b τ (col q p l)) = (G b (hd p l)).x q (T + τ.val) (ky l))
  (h3 : ∀ b p i l, arg3.view.read (Elt Ideal) f3 (ix5 b p 0 i l) = (G b (hd p l)).v (T + (ky l).val) i)

include hG h2 h3 in
/-- One step. -/
theorem Inv.step (t : Fin k0_t1_loop.trips) (u : Fin 8) {x : St Ideal arg7 arg8 arg9} (h : Inv G T (tok t u).val x) :
    Inv G T ((tok t u).val + 1) (stepSt arg3 f3 onesMat (base t) (rows arg2 f2 t) u x) := by
  have hrow : ∀ b p q l, rows arg2 f2 t b p q (ix2 u l) = (G b (hd p l)).x q (T + (tok t u).val) (ky l) := fun b p q l => by
    rw [rows_apply, h2]
  have hal : ∀ q b p i l, along u (rows arg2 f2 t) q x b p i l
      = ∑ j, (G b (hd p l)).mem (T + (tok t u).val) i j * (G b (hd p l)).x q (T + (tok t u).val) j := fun q b p i l => by
    refine Finset.sum_congr rfl fun j _ => ?_
    rw [h.s, hrow, hd_inHead, ky_inHead]
  obtain ⟨D, hD, P⟩ := step_part arg3 f3 t u (rows arg2 f2 t) x (fun b p i l => by rw [h.s]; exact Seqs.mem_isR _ (hG _ _) _ _ _)
    (fun b p q l => by rw [hrow]; exact (hG _ _).1 _ _ _)
  refine ⟨fun b p i l => ?_, fun b p i l hl => ?_, fun b p i l hl => ?_⟩
  · rw [P.s, if_pos (hD b p)]
    unfold newTl
    rw [hal, h.s, hrow, hrow, hrow, vrd_apply, h3, hd_inHead, ky_inHead]
    rfl
  · rw [P.sa]
    by_cases e : l.val % 64 = (tok t u).val
    · rw [if_pos ⟨hD b p, e⟩, hal]
      have : (ky l).val = (tok t u).val := e
      rw [this]; rfl
    · rw [if_neg (fun a => e a.2)]
      have : (ky l).val ≠ (tok t u).val := e
      exact h.sa b p i l (by omega)
  · rw [P.yp]
    by_cases e : l.val % 64 = (tok t u).val
    · rw [if_pos ⟨hD b p, e⟩, hal]
      have : (ky l).val = (tok t u).val := e
      rw [this]; rfl
    · rw [if_neg (fun a => e a.2)]
      have : (ky l).val ≠ (tok t u).val := e
      exact h.yp b p i l (by omega)

include hG h2 h3 in
/-- The steps of a trip. -/
theorem Inv.steps (t : Fin k0_t1_loop.trips) {x : St Ideal arg7 arg8 arg9} (h : Inv G T (8 * t.val) x) : ∀ (n : ℕ) (hn : n ≤ 8),
    Inv G T (8 * t.val + n) (stepsSt arg3 f3 onesMat (base t) (rows arg2 f2 t) n hn x)
  | 0, _ => h
  | n + 1, hn => Inv.step arg2 arg3 f2 f3 hG h2 h3 t ⟨n, hn⟩ (Inv.steps t h n (Nat.le_of_succ_le hn))

include hG h2 h3 in
/-- The trips of a point. -/
theorem Inv.trips {x : St Ideal arg7 arg8 arg9} (h : Inv G T 0 x) : ∀ (n : ℕ) (hn : n ≤ k0_t1_loop.trips),
    Inv G T (8 * n) (tripsSt arg2 arg3 f2 f3 onesMat n hn x)
  | 0, _ => h
  | n + 1, hn => Inv.steps arg2 arg3 f2 f3 hG h2 h3 ⟨n, hn⟩ (Inv.trips h n (Nat.le_of_succ_le hn)) 8 le_rfl

end point

end Cert.KernelIdeal.Scan

end
-- ==== Proof.Point.lean ====
/-
  What a grid point of the kernel leaves: the state at its end, the two sums of its block of time steps transposed into the
  outputs, and the state stored at the last block.
-/
module

public import proofs.«01_k».proof.Proof.Step
public import Idealize.ShloMosaic.Lib.KernelVsHost

@[expose] public section

set_option maxRecDepth 16384

noncomputable section

namespace Cert.KernelIdeal.Scan

open Cert.KernelIdeal Cert.KernelIdeal.Gen
open Idealize.ShloMosaic Idealize.ShloMosaic.TcCoe

variable {F : FTy → Type} [FloatOps F]

/-- A tile transposed: row `s`, lane `l` holds the value index of lane `l` at the time `s` of its head. -/
theorem outTile_apply (v : Vec F S1x1x64x128 .f32) (s : Fin 64) (l : Fin 128) : outTile v (ix3 0 s l) = v (ix4 0 0 (ky l) (inHead l s)) := by
  unfold outTile k0_pay1
  dsimp only
  refine (shapeCast_apply (s := S64x128) _ _ _ (ix2 s l) ?_).trans ?_
  · rw [Shape.rowMajor_val_three, Shape.rowMajor_val_two]
    show s.val * 128 + l.val = (0 * 64 + s.val) * 128 + l.val
    omega
  rw [extractStridedSlice_apply _ _ _ (ix2 s l) (ix2 ⟨s.val, by omega⟩ l)
      (fun a => by match a with | ⟨0, _⟩ => exact (Nat.zero_add _).symm | ⟨1, _⟩ => exact (Nat.zero_add _).symm)]
  rw [transpose_apply _ _ _ _ (ix2 l ⟨s.val, by omega⟩) (fun a => by match a with | ⟨0, _⟩ => rfl | ⟨1, _⟩ => rfl)]
  by_cases h : l.val < 64
  · refine Eq.trans (concatenate_pair_apply_left (t := S128x128) (s₁ := S64x128) (s₂ := S64x128) 0 _ _ _ _ rfl (ix2 ⟨l.val, h⟩ ⟨s.val, by omega⟩) ?_) ?_
    · intro b
      match b with
      | ⟨0, _⟩ => rfl
      | ⟨1, _⟩ => rfl
    · rw [tile_cast]
      have e1 : (⟨l.val, h⟩ : Fin 64) = ky l := Fin.ext (by show l.val = l.val % 64; omega)
      have e2 : (⟨s.val, by omega⟩ : Fin 128) = inHead l s := Fin.ext (by show s.val = 64 * (l.val / 64) + s.val; omega)
      rw [e1, e2]
  · refine Eq.trans (concatenate_apply_piece (t := S128x128) 0 [⟨S64x128, _⟩, ⟨S64x128, _⟩] _ _ 1 (show 1 < 2 by decide) S64x128 _ rfl rfl 64 rfl
      (ix2 ⟨l.val - 64, by omega⟩ ⟨s.val, by omega⟩) ?_ ?_) ?_
    · intro b hb
      match b with
      | ⟨0, _⟩ => exact absurd rfl hb
      | ⟨1, _⟩ => rfl
    · show 64 + (l.val - 64) = l.val
      omega
    · rw [dynamicRotate_apply 1 64#32 _ _ _ (ix2 ⟨l.val - 64, by omega⟩ ⟨s.val + 64, by omega⟩) ?_, tile_cast]
      · have e1 : (⟨l.val - 64, by omega⟩ : Fin 64) = ky l := Fin.ext (by show l.val - 64 = l.val % 64; omega)
        have e2 : (⟨s.val + 64, by omega⟩ : Fin 128) = inHead l s := Fin.ext (by show s.val + 64 = 64 * (l.val / 64) + s.val; omega)
        rw [e1, e2]
      · intro b
        match b with
        | ⟨0, _⟩ => rfl
        | ⟨1, _⟩ => show s.val + 64 = (s.val + 128 - 64 % 128) % 128; omega

/-- The column of lane `l` of head pair `p` in an output. -/
def oc (p : Fin 2) (l : Fin 128) : Fin 256 := ⟨128 * p.val + l.val, by omega⟩

/-- An element of an output block. -/
def ol (M : Memref sig .tc .vmem S8x64x256 .f32) (g : M.view.ty.Contents (Elt F)) (b : Fin 8) (s : Fin 64) (c : Fin 256) : F .f32 :=
  M.view.read (Elt F) g (ix3 b s c)

/-- Where an element of a tile stands in the output block. -/
theorem outRect_emb (b : Fin 8) (p : Fin 2) (j : S1x64x128.Idx) : (outRect b p).emb j = ix3 b (j 1) (oc p (j 2)) := by
  have h0 : (j 0).val = 0 := by have : (j 0).val < 1 := (j 0).isLt; omega
  funext a
  apply Fin.ext
  match a with
  | ⟨0, _⟩ => show b.val + 1 * (j 0).val = b.val; omega
  | ⟨1, _⟩ => show 0 + 1 * (j 1).val = (j 1).val; omega
  | ⟨2, _⟩ => show 128 * p.val + 1 * (j 2).val = 128 * p.val + (j 2).val; omega

/-- A tile written into an output block. -/
theorem ol_wrOut (M : Memref sig .tc .vmem S8x64x256 .f32) (g : M.view.ty.Contents (Elt F)) (b : Fin 8) (p : Fin 2) (v : FVec F S1x64x128 .f32)
    (b' : Fin 8) (s : Fin 64) (p' : Fin 2) (l : Fin 128) :
    ol M (wrOut M g b p v) b' s (oc p' l) = if b' = b ∧ p' = p then v (ix3 0 s l) else ol M g b' s (oc p' l) := by
  unfold ol wrOut
  split
  · rename_i h
    obtain ⟨rfl, rfl⟩ := h
    have e := View.read_slice_write_emb (v := M.view) (outRect b' p') g v (Finset.mem_univ (ix3 0 s l))
    rw [outRect_emb] at e
    exact e
  · rename_i h
    refine View.read_slice_write_of_not_mem (outRect b p) g v _ fun hm => h ?_
    obtain ⟨j, hj, e⟩ := Finset.mem_map.mp hm
    rw [outRect_emb] at e
    obtain ⟨rfl, rfl, e3⟩ := (ix3_inj (n0 := 8) (n1 := 64) (n2 := 256) _ _ _ _ _ _).mp e
    have e4 : 128 * p.val + (j 2).val = 128 * p'.val + l.val := congrArg Fin.val e3
    have hj2 : (j 2).val < 128 := (j 2).isLt
    refine ⟨rfl, Fin.ext ?_⟩
    omega

/-- The output block once the first `n` batches are written. -/
theorem ol_outSt (src : Memref sig .tc .vmem S8x2x64x128 .f32) (dst : Memref sig .tc .vmem S8x64x256 .f32) (f : src.view.ty.Contents (Elt F))
    (g : dst.view.ty.Contents (Elt F)) (b : Fin 8) (s : Fin 64) (p : Fin 2) (l : Fin 128) : ∀ (n : ℕ) (hn : n ≤ 8), b.val < n →
    ol dst (outSt src dst f g n hn) b s (oc p l) = tl src f b p (ky l) (inHead l s)
  | 0, _, h => absurd h (Nat.not_lt_zero _)
  | n + 1, hn, h => by
    show ol dst (outSt1 src dst f ⟨n, hn⟩ (outSt src dst f g n (Nat.le_of_succ_le hn))) b s (oc p l) = _
    unfold outSt1
    rw [ol_wrOut, ol_wrOut, outTile_apply, outTile_apply, rd_apply, rd_apply]
    by_cases e : b = ⟨n, hn⟩
    · subst e
      by_cases hp : p = 1
      · rw [if_pos ⟨rfl, hp⟩, hp]
      · have h0 : p = 0 := by omega
        rw [if_neg (fun a => hp a.2), if_pos ⟨rfl, h0⟩, h0]
    · rw [if_neg (fun a => e a.1), if_neg (fun a => e a.1)]
      have : b.val ≠ n := fun a => e (Fin.ext a)
      exact ol_outSt src dst f g b s p l n _ (by omega)

/-- The whole buffer's places are its own. -/
theorem allRect_emb (j : S8x2x64x128.Idx) : allRect.emb j = j := by
  funext a
  apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- A whole buffer written. -/
theorem read_all (M : Memref sig .tc .vmem S8x2x64x128 .f32) (f : M.view.ty.Contents (Elt F)) (v : FVec F S8x2x64x128 .f32) (j : S8x2x64x128.Idx) :
    M.view.read (Elt F) ((M.access allRect).write (Elt F) f v Finset.univ) j = v j := by
  have e := View.read_slice_write_emb (v := M.view) allRect f v (Finset.mem_univ j)
  rw [allRect_emb] at e
  exact e

/-- The state stored at a last block. -/
theorem read_finSt (i : grid0.Coords) (arg6 arg7 : Memref sig .tc .vmem S8x2x64x128 .f32) (f6 : arg6.view.ty.Contents (Elt F)) (f7 : arg7.view.ty.Contents (Elt F))
    (h : k0_cond2 i = 1#1) (j : S8x2x64x128.Idx) : arg6.view.read (Elt F) (finSt i arg6 arg7 f6 f7) j = arg7.view.read (Elt F) f7 j := by
  unfold finSt
  rw [if_pos h, read_all]
  show arg7.view.read (Elt F) f7 (allRect.emb j) = _
  rw [allRect_emb]

section point
variable {arg2 : Memref sig .tc .vmem S8x64x1280 .f32} {arg3 : Memref sig .tc .vmem S8x2x1x64x128 .f32}
variable {arg7 arg8 arg9 : Memref sig .tc .vmem S8x2x64x128 .f32}
variable {G : Fin 8 → Fin 4 → Seqs} {T : ℕ} {f2 : arg2.view.ty.Contents (Elt Ideal)} {f3 : arg3.view.ty.Contents (Elt Ideal)}

/-- The contents the trips start from hold the state at the point's start. -/
theorem startSt_inv (i : grid0.Coords) (x : St Ideal arg7 arg8 arg9) (h0 : isFirst i → T = 0)
    (hx : ¬ isFirst i → ∀ b p i l, arg7.view.read (Elt Ideal) x.s (ix4 b p i l) = (G b (hd p l)).mem T i (ky l)) : Inv G T 0 (startSt i x) where
  s b p i' l := by
    unfold startSt
    by_cases h : isFirst i
    · rw [if_pos h]
      unfold zeroSt tl
      rw [read_all, h0 h]
      exact Ideal.ofBits_zero_f32
    · rw [if_neg h]
      exact hx h b p i' l
  sa b p i l h := absurd h (Nat.not_lt_zero _)
  yp b p i l h := absurd h (Nat.not_lt_zero _)

/-- The contents at the point's end. -/
theorem pointSt_inv (hG : ∀ b h, (G b h).Fine)
    (h2 : ∀ b τ p q l, arg2.view.read (Elt Ideal) f2 (ix3 b τ (col q p l)) = (G b (hd p l)).x q (T + τ.val) (ky l))
    (h3 : ∀ b p i l, arg3.view.read (Elt Ideal) f3 (ix5 b p 0 i l) = (G b (hd p l)).v (T + (ky l).val) i)
    (i : grid0.Coords) (x : St Ideal arg7 arg8 arg9) (h0 : isFirst i → T = 0)
    (hx : ¬ isFirst i → ∀ b p i l, arg7.view.read (Elt Ideal) x.s (ix4 b p i l) = (G b (hd p l)).mem T i (ky l)) :
    Inv G T 64 (pointSt arg2 arg3 f2 f3 i x) := by
  have e := Inv.trips arg2 arg3 f2 f3 hG h2 h3 (startSt_inv i x h0 hx) k0_t1_loop.trips le_rfl
  have t := trips_eq
  rw [show 8 * k0_t1_loop.trips = 64 by omega] at e
  exact e

/-- The sums as an output block shows them. -/
theorem out_of (M : Memref sig .tc .vmem S8x64x256 .f32) (src : Memref sig .tc .vmem S8x2x64x128 .f32) (f : src.view.ty.Contents (Elt Ideal))
    (g : M.view.ty.Contents (Elt Ideal)) (y : Seqs → ℕ → Fin 64 → EReal)
    (h : ∀ b p i l, (ky l).val < 64 → tl src f b p i l = y (G b (hd p l)) (T + (ky l).val) i) (b : Fin 8) (s : Fin 64) (p : Fin 2) (l : Fin 128) :
    M.view.read (Elt Ideal) (outSt src M f g 8 le_rfl) (ix3 b s (oc p l)) = y (G b (hd p l)) (T + s.val) (ky l) := by
  refine (ol_outSt src M f g b s p l 8 le_rfl b.isLt).trans ?_
  rw [h _ _ _ _ (ky (inHead l s)).isLt, hd_inHead, ky_inHead]

end point

end Cert.KernelIdeal.Scan

end
-- ==== Proof.Blocks.lean ====
/-
  The arrays that the kernel reads, element by element, from the six arguments: the five rows packed side by side and the
  values regrouped by block of time steps.
-/
module

public import proofs.«01_k».proof.Proof.Point
public import proofs.«01_k».proof.Proof.Frames
public import Idealize.ShloMosaic.Lib.ValueIdxRank6
public import Idealize.ShloMosaic.Lib.StableHlo.Run
public import Idealize.ShloMosaic.Lib.Claim

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic

/-- An argument: sequence, time, head, index within the head. -/
abbrev Arr : Type := (⟨4, ![16, 2048, 4, 64]⟩ : Shape).Idx → EReal

/-- The inputs of one head of one sequence, zero past the last time step. -/
def seqsOf (r w k v kk a : Arr) (B : Fin 16) (h : Fin 4) : Seqs where
  x q n j := if hn : n < 2048 then
      (![w (ix4 B ⟨n, hn⟩ h j), -kk (ix4 B ⟨n, hn⟩ h j), kk (ix4 B ⟨n, hn⟩ h j) * a (ix4 B ⟨n, hn⟩ h j), k (ix4 B ⟨n, hn⟩ h j),
        w (ix4 B ⟨n, hn⟩ h j) * r (ix4 B ⟨n, hn⟩ h j)] : Fin 5 → EReal) q
    else 0
  v n i := if hn : n < 2048 then v (ix4 B ⟨n, hn⟩ h i) else 0

/-- Finite arguments give finite inputs. -/
theorem seqsOf_fine (r w k v kk a : Arr) (hr : ∀ i, IsR (r i)) (hw : ∀ i, IsR (w i)) (hk : ∀ i, IsR (k i)) (hv : ∀ i, IsR (v i))
    (hkk : ∀ i, IsR (kk i)) (ha : ∀ i, IsR (a i)) (B : Fin 16) (h : Fin 4) : (seqsOf r w k v kk a B h).Fine := by
  refine ⟨fun q n j => ?_, fun n i => ?_⟩
  · unfold seqsOf
    dsimp only
    split
    · fin_cases q
      · exact hw _
      · exact (hkk _).neg
      · exact (hkk _).mul (ha _)
      · exact hk _
      · exact (hw _).mul (hr _)
    · exact IsR.zero
  · unfold seqsOf
    dsimp only
    split
    · exact hv _
    · exact IsR.zero

/-- The head pair of a column. -/
def pOf (k : Fin 256) : Fin 2 := ⟨k.val / 128, by omega⟩

/-- The lane of a column. -/
def lOf (k : Fin 256) : Fin 128 := ⟨k.val % 128, by omega⟩

/-- A column from its head pair and lane. -/
theorem oc_of (k : Fin 256) : oc (pOf k) (lOf k) = k := Fin.ext (by show 128 * (k.val / 128) + k.val % 128 = k.val; omega)

/-- A result with one number per sequence, time and column. -/
def perTime (I : Fin 16 → Fin 4 → Seqs) (y : Seqs → ℕ → Fin 64 → EReal) (B : Fin 16) (n : Fin 2048) (k : Fin 256) : EReal :=
  y (I B (hd (pOf k) (lOf k))) n.val (ky (lOf k))

/-- The state after the last time step. -/
def atEnd (I : Fin 16 → Fin 4 → Seqs) (B : Fin 16) (p : Fin 2) (i : Fin 64) (l : Fin 128) : EReal := (I B (hd p l)).mem 2048 i (ky l)

variable (m : (ℓ : Loc nD τ sig) → Buf (Elt Ideal) ℓ) (c : Dev nD)

/-- The inputs of the kernel's heads. -/
def inp : Fin 16 → Fin 4 → Seqs :=
  seqsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The heads side by side. -/
theorem flat_apply {α : Type} (x : S16x2048x4x64.Idx → α) (h : S16x2048x4x64.ShapeCasts S16x2048x256) (B : Fin 16) (t : Fin 2048) (p : Fin 2) (l : Fin 128) :
    shapeCast S16x2048x256 x h (ix3 B t (oc p l)) = x (ix4 B t (hd p l) (ky l)) := by
  refine shapeCast_apply x h _ _ ?_
  rw [Shape.rowMajor_val_four, Shape.rowMajor_val_three]
  show ((B.val * 2048 + t.val) * 4 + (2 * p.val + l.val / 64)) * 64 + l.val % 64 = (B.val * 2048 + t.val) * 256 + (128 * p.val + l.val)
  omega

/-- Five arrays side by side. -/
theorem cat5_apply {α : Type} (y : Fin 5 → S16x2048x256.Idx → α)
    (h : Shape.Concatenates [S16x2048x256, S16x2048x256, S16x2048x256, S16x2048x256, S16x2048x256] S16x2048x1280 2)
    (B : Fin 16) (t : Fin 2048) (q : Fin 5) (p : Fin 2) (l : Fin 128) :
    concatenate S16x2048x1280 2 [⟨S16x2048x256, y 0⟩, ⟨S16x2048x256, y 1⟩, ⟨S16x2048x256, y 2⟩, ⟨S16x2048x256, y 3⟩, ⟨S16x2048x256, y 4⟩] h
      (ix3 B t (col q p l)) = y q (ix3 B t (oc p l)) := by
  refine concatenate_apply_piece (t := S16x2048x1280) 2 [⟨S16x2048x256, y 0⟩, ⟨S16x2048x256, y 1⟩, ⟨S16x2048x256, y 2⟩, ⟨S16x2048x256, y 3⟩, ⟨S16x2048x256, y 4⟩]
    _ _ q.val q.isLt S16x2048x256 (y q) ?_ rfl (256 * q.val) ?_ (ix3 B t (oc p l)) ?_ ?_
  · fin_cases q <;> rfl
  · fin_cases q <;> rfl
  · intro b hb
    match b with
    | ⟨0, _⟩ => rfl
    | ⟨1, _⟩ => rfl
    | ⟨2, _⟩ => exact absurd rfl hb
  · show 256 * q.val + (128 * p.val + l.val) = 256 * q.val + 128 * p.val + l.val
    omega

/-- Argument 0. -/
abbrev arr0 : FVec Ideal S16x2048x4x64 .f32 := m ((c : Thread nD τ).loc main_arg0)

/-- Argument 1. -/
abbrev arr1 : FVec Ideal S16x2048x4x64 .f32 := m ((c : Thread nD τ).loc main_arg1)

/-- Argument 2. -/
abbrev arr2 : FVec Ideal S16x2048x4x64 .f32 := m ((c : Thread nD τ).loc main_arg2)

/-- Argument 3. -/
abbrev arr3 : FVec Ideal S16x2048x4x64 .f32 := m ((c : Thread nD τ).loc main_arg3)

/-- Argument 4. -/
abbrev arr4 : FVec Ideal S16x2048x4x64 .f32 := m ((c : Thread nD τ).loc main_arg4)

/-- Argument 5. -/
abbrev arr5 : FVec Ideal S16x2048x4x64 .f32 := m ((c : Thread nD τ).loc main_arg5)

/-- The packed rows. -/
theorem V_rows (B : Fin 16) (t : Fin 2048) (q : Fin 5) (p : Fin 2) (l : Fin 128) :
    (V m c main_v8 : FVec Ideal S16x2048x1280 .f32) (ix3 B t (col q p l)) = (inp m c B (hd p l)).x q t.val (ky l) := by
  have e : (V m c main_v8 : FVec Ideal S16x2048x1280 .f32) = concatenate S16x2048x1280 2
      [⟨S16x2048x256, shapeCast S16x2048x256 (arr1 m c) shapeCasts_S16x2048x4x64_S16x2048x256⟩,
       ⟨S16x2048x256, shapeCast S16x2048x256 (Host.negf (arr4 m c)) shapeCasts_S16x2048x4x64_S16x2048x256⟩,
       ⟨S16x2048x256, shapeCast S16x2048x256 (mulf (arr4 m c) (arr5 m c)) shapeCasts_S16x2048x4x64_S16x2048x256⟩,
       ⟨S16x2048x256, shapeCast S16x2048x256 (arr2 m c) shapeCasts_S16x2048x4x64_S16x2048x256⟩,
       ⟨S16x2048x256, shapeCast S16x2048x256 (mulf (arr1 m c) (arr0 m c)) shapeCasts_S16x2048x4x64_S16x2048x256⟩]
      concatenates_S16x2048x256_S16x2048x256_S16x2048x256_S16x2048x256_S16x2048x256_S16x2048x1280_d2 := by
    unfold_abbrev_sides
    after_results
    rfl
  rw [e]
  refine (cat5_apply (![shapeCast S16x2048x256 (arr1 m c) shapeCasts_S16x2048x4x64_S16x2048x256,
    shapeCast S16x2048x256 (Host.negf (arr4 m c)) shapeCasts_S16x2048x4x64_S16x2048x256,
    shapeCast S16x2048x256 (mulf (arr4 m c) (arr5 m c)) shapeCasts_S16x2048x4x64_S16x2048x256,
    shapeCast S16x2048x256 (arr2 m c) shapeCasts_S16x2048x4x64_S16x2048x256,
    shapeCast S16x2048x256 (mulf (arr1 m c) (arr0 m c)) shapeCasts_S16x2048x4x64_S16x2048x256]
      : Fin 5 → S16x2048x256.Idx → EReal) _ B t q p l).trans ?_
  unfold inp seqsOf
  dsimp only
  rw [dif_pos t.isLt]
  fin_cases q
  · exact flat_apply (arr1 m c) _ B t p l
  · exact flat_apply (Host.negf (arr4 m c)) _ B t p l
  · exact flat_apply (mulf (arr4 m c) (arr5 m c)) _ B t p l
  · exact flat_apply (arr2 m c) _ B t p l
  · exact flat_apply (mulf (arr1 m c) (arr0 m c)) _ B t p l

/-- The values regrouped. -/
theorem V_vals (B : Fin 16) (p : Fin 2) (k : Fin 32) (i : Fin 64) (l : Fin 128) :
    (V m c main_v11 : FVec Ideal S16x2x32x64x128 .f32) (ix5 B p k i l) = (inp m c B (hd p l)).v (64 * k.val + (ky l).val) i := by
  have e : (V m c main_v11 : FVec Ideal S16x2x32x64x128 .f32) = shapeCast S16x2x32x64x128 (transpose S16x2x32x64x2x64 [0, 3, 1, 5, 4, 2]
      (shapeCast S16x32x64x2x2x64 (arr3 m c) shapeCasts_S16x2048x4x64_S16x32x64x2x2x64)
      transposes_S16x32x64x2x2x64_S16x2x32x64x2x64_0_3_1_5_4_2) shapeCasts_S16x2x32x64x2x64_S16x2x32x64x128 := by
    unfold_abbrev_sides
    after_results
    rfl
  rw [e]
  refine (shapeCast_apply (s := S16x2x32x64x2x64) _ _ _ (ix6 B p k i ⟨l.val / 64, by omega⟩ (ky l)) ?_).trans ?_
  · rw [Shape.rowMajor_val_six, Shape.rowMajor_val_five]
    show ((((B.val * 2 + p.val) * 32 + k.val) * 64 + i.val) * 2 + l.val / 64) * 64 + l.val % 64 = (((B.val * 2 + p.val) * 32 + k.val) * 64 + i.val) * 128 + l.val
    omega
  refine (transpose_apply _ _ _ _ (ix6 B k (ky l) p ⟨l.val / 64, by omega⟩ i) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
  have hn : 64 * k.val + (ky l).val < 2048 := by omega
  refine (shapeCast_apply (s := S16x2048x4x64) _ _ _ (ix4 B ⟨64 * k.val + (ky l).val, hn⟩ (hd p l) i) ?_).trans ?_
  · rw [Shape.rowMajor_val_six, Shape.rowMajor_val_four]
    show ((B.val * 2048 + (64 * k.val + (ky l).val)) * 4 + (2 * p.val + l.val / 64)) * 64 + i.val
      = ((((B.val * 32 + k.val) * 64 + (ky l).val) * 2 + p.val) * 2 + l.val / 64) * 64 + i.val
    omega
  unfold inp seqsOf
  dsimp only
  rw [dif_pos hn]

/-- The points of the grid. -/
theorem points : cfg0.N = 64 := rfl

/-- The sequence of row `b` of a point's block. -/
def bat (t : Fin cfg0.N) (b : Fin 8) : Fin 16 := ⟨8 * (t.val / 32) + b.val, by have h : t.val < 64 := t.isLt; omega⟩

/-- A point's coordinates. -/
theorem coords_val : ∀ t : Fin cfg0.N, (grid0.coords t 0).val = t.val / 32 ∧ (grid0.coords t 1).val = t.val % 32 := by
  exact (by decide +kernel : ∀ t : Fin grid0.N, (grid0.coords t 0).val = t.val / 32 ∧ (grid0.coords t 1).val = t.val % 32)

/-- Where the first input's block stands. -/
theorem index0 : ∀ t : Fin cfg0.N, win0_0.index t = ![t.val / 32, t.val % 32, 0] :=
  (by decide +kernel : ∀ t : Fin grid0.N, win0_0.index t = ![t.val / 32, t.val % 32, 0])

/-- Where the second input's block stands. -/
theorem index1 : ∀ t : Fin cfg0.N, win0_1.index t = ![t.val / 32, 0, t.val % 32, 0, 0] :=
  (by decide +kernel : ∀ t : Fin grid0.N, win0_1.index t = ![t.val / 32, 0, t.val % 32, 0, 0])

/-- The first input's block at a point. -/
theorem iblk_rows (t : Fin cfg0.N) (b : Fin 8) (τ : Fin 64) (p : Fin 2) (q : Fin 5) (l : Fin 128) :
    (iblk m c 0 t : FVec Ideal S8x64x1280 .f32) (ix3 b τ (col q p l)) = (inp m c (bat t b) (hd p l)).x q (64 * (t.val % 32) + τ.val) (ky l) := by
  have ht : t.val < 64 := t.isLt
  have e := V_rows m c (bat t b) ⟨64 * (t.val % 32) + τ.val, by omega⟩ q p l
  refine Eq.trans ?_ e
  show (V m c main_v8 : FVec Ideal S16x2048x1280 .f32) ((win0_0.blk t).view.emb (ix3 b τ (col q p l))) = _
  refine congrArg _ ?_
  funext a
  apply Fin.ext
  match a with
  | ⟨0, _⟩ => blk_simp [index0]; show t.val / 32 * 8 + b.val = 8 * (t.val / 32) + b.val; omega
  | ⟨1, _⟩ => blk_simp [index0]; show t.val % 32 * 64 + τ.val = 64 * (t.val % 32) + τ.val; omega
  | ⟨2, _⟩ => blk_simp [index0]

/-- The second input's block at a point. -/
theorem iblk_vals (t : Fin cfg0.N) (b : Fin 8) (p : Fin 2) (i : Fin 64) (l : Fin 128) :
    (iblk m c 1 t : FVec Ideal S8x2x1x64x128 .f32) (ix5 b p 0 i l) = (inp m c (bat t b) (hd p l)).v (64 * (t.val % 32) + (ky l).val) i := by
  have ht : t.val < 64 := t.isLt
  have e := V_vals m c (bat t b) p ⟨t.val % 32, by omega⟩ i l
  refine Eq.trans ?_ e
  show (V m c main_v11 : FVec Ideal S16x2x32x64x128 .f32) ((win0_1.blk t).view.emb (ix5 b p 0 i l)) = _
  refine congrArg _ ?_
  funext a
  apply Fin.ext
  match a with
  | ⟨0, _⟩ => blk_simp [index1]; show t.val / 32 * 8 + b.val = 8 * (t.val / 32) + b.val; omega
  | ⟨1, _⟩ => blk_simp [index1]
  | ⟨2, _⟩ => blk_simp [index1]; exact Nat.add_zero _
  | ⟨3, _⟩ => blk_simp [index1]
  | ⟨4, _⟩ => blk_simp [index1]

end Cert.KernelIdeal.Scan

end
-- ==== Proof.Values.lean ====
/-
  The kernel's three results, element by element: the removal sums and the readout sums of every time step, and the state
  after the last.
-/
module

public import proofs.«01_k».proof.Proof.Blocks

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (RDat Dat Cfg Window)

variable (m : (ℓ : Loc nD τ sig) → Buf (Elt Ideal) ℓ) (ρ : Dev nD → PrngReg)

/-- Which points start a pair of batches. -/
theorem isFirst_iff : ∀ t : Fin cfg0.N, isFirst (grid0.coords t) ↔ t.val % 32 = 0 :=
  (by decide +kernel : ∀ t : Fin grid0.N, isFirst (grid0.coords t) ↔ t.val % 32 = 0)

/-- Which points store the state. -/
theorem isLast_iff : ∀ t : Fin cfg0.N, k0_cond2 (grid0.coords t) = 1#1 ↔ t.val % 32 = 31 :=
  (by decide +kernel : ∀ t : Fin grid0.N, k0_cond2 (grid0.coords t) = 1#1 ↔ t.val % 32 = 31)

/-- What is claimed of every point. -/
def scanSays : Says Ideal where
  inv c t X := ∀ s : Fin cfg0.N, s.val + 1 = t.val → ∀ b p i l, X (ix4 b p i l) = (inp m c (bat s b) (hd p l)).mem (64 * (s.val % 32) + 64) i (ky l)
  sa c t X := ∀ b s p l, X (ix3 b s (oc p l)) = (inp m c (bat t b) (hd p l)).sa (64 * (t.val % 32) + s.val) (ky l)
  yp c t X := ∀ b s p l, X (ix3 b s (oc p l)) = (inp m c (bat t b) (hd p l)).yp (64 * (t.val % 32) + s.val) (ky l)
  fin c t X := t.val % 32 = 31 → ∀ b p i l, X (ix4 b p i l) = (inp m c (bat t b) (hd p l)).mem 2048 i (ky l)

/-- Every point carries it on. -/
theorem scanSays_holds (hF : ∀ c B h, (inp m c B h).Fine) : (scanSays m).Holds m where
  start c X s h := absurd h (Nat.succ_ne_zero _)
  step c t arg2 arg3 arg4 arg5 arg6 arg7 arg8 arg9 f2 f3 f4 f5 f6 x e2 e3 hx := by
    have P : Inv (fun b h => inp m c (bat t b) h) (64 * (t.val % 32)) 64 (pointSt arg2 arg3 f2 f3 (grid0.coords t) x) := by
      refine pointSt_inv (fun b h => hF c _ h) (fun b τ p q l => ?_) (fun b p i l => ?_) (grid0.coords t) x (fun h => ?_) (fun h b p i l => ?_)
      · rw [e2]; exact iblk_rows m c t b τ p q l
      · rw [e3]; exact iblk_vals m c t b p i l
      · rw [(isFirst_iff t).mp h]
      · have h0 : t.val % 32 ≠ 0 := fun a => h ((isFirst_iff t).mpr a)
        have ht : t.val < 64 := t.isLt
        have hs := hx ⟨t.val - 1, by show t.val - 1 < 64; omega⟩ (by show t.val - 1 + 1 = t.val; omega) b p i l
        rw [hs]
        have b1 : bat ⟨t.val - 1, by show t.val - 1 < 64; omega⟩ b = bat t b := Fin.ext (by show 8 * ((t.val - 1) / 32) + b.val = 8 * (t.val / 32) + b.val; omega)
        rw [b1]
        have b2 : 64 * ((t.val - 1) % 32) + 64 = 64 * (t.val % 32) := by omega
        exact congrArg (fun n => (inp m c (bat t b) (hd p l)).mem n i (ky l)) b2
    refine ⟨fun s hs b p i l => ?_, fun b s p l => ?_, fun b s p l => ?_, fun h b p i l => ?_⟩
    · have hs' : s = t := Fin.ext (Nat.succ.inj hs)
      rw [hs']
      exact P.s b p i l
    · exact out_of arg4 arg8 _ f4 Seqs.sa P.sa b s p l
    · exact out_of arg5 arg9 _ f5 Seqs.yp P.yp b s p l
    · rw [read_finSt (grid0.coords t) arg6 arg7 f6 _ ((isLast_iff t).mpr h)]
      refine (P.s b p i l).trans ?_
      rw [h]

/-- Where the first result's block stands. -/
theorem index2 : ∀ t : Fin cfg0.N, win0_2.index t = ![t.val / 32, t.val % 32, 0] :=
  (by decide +kernel : ∀ t : Fin grid0.N, win0_2.index t = ![t.val / 32, t.val % 32, 0])

/-- Where the second result's block stands. -/
theorem index3 : ∀ t : Fin cfg0.N, win0_3.index t = ![t.val / 32, t.val % 32, 0] :=
  (by decide +kernel : ∀ t : Fin grid0.N, win0_3.index t = ![t.val / 32, t.val % 32, 0])

/-- Where the last result's block stands. -/
theorem index4 : ∀ t : Fin cfg0.N, win0_4.index t = ![t.val / 32, 0, 0, 0] :=
  (by decide +kernel : ∀ t : Fin grid0.N, win0_4.index t = ![t.val / 32, 0, 0, 0])

/-- The last result's block leaves at the last block of time steps. -/
theorem flush4 : ∀ t : Fin cfg0.N, (cfg0.win 4).flush t = true → t.val % 32 = 31 :=
  (by decide +kernel : ∀ t : Fin grid0.N, (cfg0.win 4).flush t = true → t.val % 32 = 31)

variable {m} (c : Dev nD)

/-- A result with one number per time step, from its blocks. -/
theorem block_perTime (t : Fin cfg0.N) (y : Seqs → ℕ → Fin 64 → EReal) (X : FVec Ideal S8x64x256 .f32)
    (h : ∀ b s p l, X (ix3 b s (oc p l)) = y (inp m c (bat t b) (hd p l)) (64 * (t.val % 32) + s.val) (ky l)) (j : S8x64x256.Idx)
    (i : S16x2048x256.Idx) (h0 : (i 0).val = t.val / 32 * 8 + (j 0).val) (h1 : (i 1).val = t.val % 32 * 64 + (j 1).val) (h2 : (i 2).val = (j 2).val) :
    X j = perTime (inp m c) y (i 0) (i 1) (i 2) := by
  have e : j = ix3 (j 0) (j 1) (oc (pOf (j 2)) (lOf (j 2))) :=
    (ix3_eta j).symm.trans (congrArg (ix3 (n0 := 8) (n1 := 64) (n2 := 256) (j 0) (j 1)) (oc_of (j 2)).symm)
  refine (congrArg X e).trans ((h _ _ _ _).trans ?_)
  have e2 : i 2 = j 2 := Fin.ext h2
  have e0 : bat t (j 0) = i 0 := Fin.ext (by show 8 * (t.val / 32) + (j 0).val = (i 0).val; omega)
  have e1 : 64 * (t.val % 32) + (j 1).val = (i 1).val := by omega
  unfold perTime
  rw [e0, e1, e2]

/-- The state result, from its blocks. -/
theorem block_atEnd (t : Fin cfg0.N) (X : FVec Ideal S8x2x64x128 .f32)
    (h : ∀ b p i l, X (ix4 b p i l) = (inp m c (bat t b) (hd p l)).mem 2048 i (ky l)) (j : S8x2x64x128.Idx)
    (i : S16x2x64x128.Idx) (h0 : (i 0).val = t.val / 32 * 8 + (j 0).val) (h1 : (i 1).val = (j 1).val) (h2 : (i 2).val = (j 2).val) (h3 : (i 3).val = (j 3).val) :
    X j = atEnd (inp m c) (i 0) (i 1) (i 2) (i 3) := by
  refine (congrArg X (ix4_eta j).symm).trans ((h _ _ _ _).trans ?_)
  have e0 : bat t (j 0) = i 0 := Fin.ext (by show 8 * (t.val / 32) + (j 0).val = (i 0).val; omega)
  have e1 : i 1 = j 1 := Fin.ext h1
  have e2 : i 2 = j 2 := Fin.ext h2
  have e3 : i 3 = j 3 := Fin.ext h3
  unfold atEnd
  rw [e0, e1, e2, e3]

/-- The three results after a run. -/
theorem results_of {r : Unit × MemSt nD τ sig (Elt Ideal)} (h : RDat.FramePost cfg0 (fun c => rdat m (scanSays m) c) (V m) r) :
    (r.2.mem ((c.tc : Thread nD τ).loc main_v12_0) : FVec Ideal S16x2048x256 .f32) = (fun i => perTime (inp m c) Seqs.sa (i 0) (i 1) (i 2))
      ∧ (r.2.mem ((c.tc : Thread nD τ).loc main_v12_1) : FVec Ideal S16x2048x256 .f32) = (fun i => perTime (inp m c) Seqs.yp (i 0) (i 1) (i 2))
      ∧ (r.2.mem ((c.tc : Thread nD τ).loc main_v12_2) : FVec Ideal S16x2x64x128 .f32) = (fun i => atEnd (inp m c) (i 0) (i 1) (i 2) (i 3)) := by
  obtain ⟨after, hL, hA⟩ := h.exists_exact c
  refine ⟨(hA 2).trans ?_, (hA 3).trans ?_, (hA 4).trans ?_⟩
  · refine Dat.arrAt_eq_of_covers _ 2 _ (by decide +kernel) fun t hf y => ?_
    obtain ⟨Y, _, hX⟩ := hL 2 t hf
    refine block_perTime c t Seqs.sa (after 2 t) hX y _ ?_ ?_ ?_
    · blk_simp [index2]
    · blk_simp [index2]
    · blk_simp [index2]
  · refine Dat.arrAt_eq_of_covers _ 3 _ (by decide +kernel) fun t hf y => ?_
    obtain ⟨Y, _, hX⟩ := hL 3 t hf
    refine block_perTime c t Seqs.yp (after 3 t) hX y _ ?_ ?_ ?_
    · blk_simp [index3]
    · blk_simp [index3]
    · blk_simp [index3]
  · refine Dat.arrAt_eq_of_covers _ 4 _ (by decide +kernel) fun t hf y => ?_
    obtain ⟨Y, _, hX⟩ := hL 4 t hf
    refine block_atEnd c t (after 4 t) (hX (flush4 t hf)) y _ ?_ ?_ ?_ ?_
    · blk_simp [index4]
    · blk_simp [index4]
    · blk_simp [index4]
    · blk_simp [index4]

end Cert.KernelIdeal.Scan

end
-- ==== Proof.RefOps.lean ====
/-
  The reference's tensor operations in one time step, element by element: the row it takes at the counter, the two
  products with the state, the stretches along rows and columns, and the row it writes back.
-/
module

public import proofs.«01_k».proof.Proof.Gen.ReferenceIdeal.Run
public import proofs.«01_k».proof.Proof.Blocks
public import Idealize.ShloMosaic.Lib.WordCmp

@[expose] public section

set_option maxRecDepth 16384

noncomputable section

namespace Cert.ReferenceIdeal.Scan

open Cert.ReferenceIdeal Cert.ReferenceIdeal.Gen Cert.ReferenceIdeal.Facts Cert.ReferenceIdeal.Facts₀
open Idealize.ShloMosaic Idealize.ShloMosaic.TcCoe Idealize.ShloMosaic.WordCmp
open Idealize.ShloMosaic.ValueIdx (contrEquiv1 contrEquiv1_symm_val)

/-- The offsets of the row of one time step. -/
abbrev off (n : ℕ) : Fin 4 → ℕ := ![n, 0, 0, 0]

/-- The row of time step `n` lies inside. -/
theorem off_fits {n : ℕ} (hn : n < 2048) : S2048x16x4x64.Slices (off n) S1x16x4x64 :=
  ⟨rfl, fun a => by
    match a with
    | ⟨0, _⟩ => show n + 1 ≤ 2048; omega
    | ⟨1, _⟩ => show 0 + 16 ≤ 16; omega
    | ⟨2, _⟩ => show 0 + 4 ≤ 4; omega
    | ⟨3, _⟩ => show 0 + 64 ≤ 64; omega⟩

/-- The row taken at start `n` is the array at time step `n`. -/
theorem row_at (x : S2048x16x4x64.Idx → EReal) (start : Fin 4 → ℤ) (n : ℕ) (hn : n < 2048)
    (e : ∀ a, start a = (off n a : ℤ)) (h) (hc) (B : Fin 16) (hh : Fin 4) (j : Fin 64) :
    shapeCast S16x4x64 (Host.dynamicSlice S1x16x4x64 x start h) hc (ix3 B hh j) = x (ix4 ⟨n, hn⟩ B hh j) := by
  refine (shapeCast_apply _ _ _ (ix4 (n0 := 1) 0 B hh j) ?_).trans ?_
  · rw [Shape.rowMajor_val_four, Shape.rowMajor_val_three]
    show ((0 * 16 + B.val) * 4 + hh.val) * 64 + j.val = (B.val * 4 + hh.val) * 64 + j.val
    omega
  · refine (congrFun (dynamicSlice_eq_extract S1x16x4x64 x start h (off n) (off_fits hn) e) _).trans ?_
    refine extractStridedSlice_apply _ _ _ _ _ fun a => ?_
    match a with
    | ⟨0, _⟩ => show n = n + 0; omega
    | ⟨1, _⟩ => show B.val = 0 + B.val; omega
    | ⟨2, _⟩ => show hh.val = 0 + hh.val; omega
    | ⟨3, _⟩ => show j.val = 0 + j.val; omega

/-- The row written at start `n`: the new row at time step `n`, the array elsewhere. -/
theorem row_put (x : S2048x16x4x64.Idx → EReal) (y : S16x4x64.Idx → EReal) (start : Fin 4 → ℤ) (n : ℕ) (hn : n < 2048)
    (e : ∀ a, start a = (off n a : ℤ)) (h) (hb : S16x4x64.BroadcastsInDim S1x16x4x64 (![1, 2, 3] : Fin 3 → Fin 4)) (n' : Fin 2048) (B : Fin 16)
    (hh : Fin 4) (j : Fin 64) :
    Host.dynamicUpdateSlice x (broadcastInDim S1x16x4x64 ![1, 2, 3] hb y) start h (ix4 n' B hh j)
      = if n'.val = n then y (ix3 B hh j) else x (ix4 n' B hh j) := by
  refine (congrFun (dynamicUpdateSlice_eq_update x _ start h (off n) (off_fits hn) e) _).trans ?_
  unfold updateSlice
  by_cases hin : n'.val = n
  · rw [if_pos hin, dif_pos fun a => ?_]
    · refine broadcastInDim_apply _ _ _ _ _ fun a => ?_
      match a with
      | ⟨0, _⟩ => show B.val = B.val - 0; omega
      | ⟨1, _⟩ => show hh.val = hh.val - 0; omega
      | ⟨2, _⟩ => show j.val = j.val - 0; omega
    · match a with
      | ⟨0, _⟩ => show n ≤ n'.val ∧ n'.val < n + 1; omega
      | ⟨1, _⟩ => show 0 ≤ B.val ∧ B.val < 0 + 16; omega
      | ⟨2, _⟩ => show 0 ≤ hh.val ∧ hh.val < 0 + 4; omega
      | ⟨3, _⟩ => show 0 ≤ j.val ∧ j.val < 0 + 64; omega
  · rw [if_neg hin, dif_neg fun H => hin ?_]
    have h0 : n ≤ n'.val ∧ n'.val < n + 1 := H (0 : Fin 4)
    omega

/-- The product of the state with one row per head: the sum over the columns. -/
theorem dot_at (A : FVec Ideal S16x4x64x64 .f32) (y : FVec Ideal S16x4x64 .f32) (B : Fin 16) (hh : Fin 4) (i : Fin 64) :
    (Host.dotGeneral dot_S16x4x64x64_S16x4x64_S16x4x64_3_2_2_n_01_01 none A y : FVec Ideal S16x4x64 .f32) (ix3 B hh i)
      = ∑ j : Fin 64, (A (ix4 B hh i j) : EReal) * y (ix3 B hh j) := by
  show FloatOps.dotGeneral _ none _ A y (ix3 B hh i) = _
  rw [Ideal.dotGeneral_apply,
    ← Equiv.sum_comp (contrEquiv1 dot_S16x4x64x64_S16x4x64_S16x4x64_3_2_2_n_01_01 64 rfl rfl).symm]
  refine Finset.sum_congr rfl fun c _ => ?_
  have c3 := contrEquiv1_symm_val dot_S16x4x64x64_S16x4x64_S16x4x64_3_2_2_n_01_01 64 rfl rfl c
  refine congrArg₂ (· * ·) (congrArg A ?_) (congrArg y ?_)
  · funext ax; apply Fin.ext
    match ax with
    | ⟨0, _⟩ => rfl
    | ⟨1, _⟩ => rfl
    | ⟨2, _⟩ => rfl
    | ⟨3, _⟩ => exact c3
  · funext ax; apply Fin.ext
    match ax with
    | ⟨0, _⟩ => rfl
    | ⟨1, _⟩ => rfl
    | ⟨2, _⟩ => exact c3

/-- A row per head, repeated over the state's rows. -/
theorem along_row (y : S16x4x64.Idx → EReal) (h1 : S16x4x64.BroadcastsInDim S16x4x1x64 (![0, 1, 3] : Fin 3 → Fin 4))
    (h2 : S16x4x1x64.BroadcastsInDim S16x4x64x64 (![0, 1, 2, 3] : Fin 4 → Fin 4)) (B : Fin 16) (hh : Fin 4) (i j : Fin 64) :
    broadcastInDim S16x4x64x64 ![0, 1, 2, 3] h2 (broadcastInDim S16x4x1x64 ![0, 1, 3] h1 y) (ix4 B hh i j) = y (ix3 B hh j) := by
  refine (broadcastInDim_apply _ _ _ _ (ix4 (n2 := 1) B hh 0 j) fun a => ?_).trans (broadcastInDim_apply _ _ _ _ _ fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- A row per head, repeated over the state's columns. -/
theorem along_col (y : S16x4x64.Idx → EReal) (h1 : S16x4x64.BroadcastsInDim S16x4x64x1 (![0, 1, 2] : Fin 3 → Fin 4))
    (h2 : S16x4x64x1.BroadcastsInDim S16x4x64x64 (![0, 1, 2, 3] : Fin 4 → Fin 4)) (B : Fin 16) (hh : Fin 4) (i j : Fin 64) :
    broadcastInDim S16x4x64x64 ![0, 1, 2, 3] h2 (broadcastInDim S16x4x64x1 ![0, 1, 2] h1 y) (ix4 B hh i j) = y (ix3 B hh i) := by
  refine (broadcastInDim_apply _ _ _ _ (ix4 (n3 := 1) B hh i 0) fun a => ?_).trans (broadcastInDim_apply _ _ _ _ _ fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The first two axes exchanged. -/
theorem swap_at (x : S16x2048x4x64.Idx → EReal) (h) (n : Fin 2048) (B : Fin 16) (hh : Fin 4) (j : Fin 64) :
    transpose S2048x16x4x64 [1, 0, 2, 3] x h (ix4 n B hh j) = x (ix4 B n hh j) := by
  refine transpose_apply _ _ _ _ _ fun a => ?_
  match a with
  | ⟨0, _⟩ => rfl
  | ⟨1, _⟩ => rfl
  | ⟨2, _⟩ => rfl
  | ⟨3, _⟩ => rfl

/-- The first two axes exchanged back. -/
theorem swap_back (x : S2048x16x4x64.Idx → EReal) (h) (B : Fin 16) (n : Fin 2048) (hh : Fin 4) (j : Fin 64) :
    transpose S16x2048x4x64 [1, 0, 2, 3] x h (ix4 B n hh j) = x (ix4 n B hh j) := by
  refine transpose_apply _ _ _ _ _ fun a => ?_
  match a with
  | ⟨0, _⟩ => rfl
  | ⟨1, _⟩ => rfl
  | ⟨2, _⟩ => rfl
  | ⟨3, _⟩ => rfl

end Cert.ReferenceIdeal.Scan

end
-- ==== Proof.RefVal.lean ====
/-
  The reference's loop, time step by time step: after `n` steps its state is the recurrence's after `n` steps and its two
  series hold the first `n` entries. Then its three results.
-/
module

public import proofs.«01_k».proof.Proof.RefOps

@[expose] public section

set_option maxRecDepth 16384

noncomputable section

namespace Cert.ReferenceIdeal.Scan

open Cert.ReferenceIdeal Cert.ReferenceIdeal.Gen Cert.ReferenceIdeal.Value Cert.ReferenceIdeal.Facts
open Idealize.ShloMosaic Idealize.ShloMosaic.TcCoe Idealize.ShloMosaic.Tactic Idealize.ShloMosaic.StableHlo
open Cert.KernelIdeal.Scan (Arr Seqs seqsOf perTime atEnd)

/-- The contents of every array the reference holds. -/
abbrev Vals : Type := Valuation τ sig (Elt Ideal)

/-- An array with the time step first. -/
abbrev Row : Type := S2048x16x4x64.Idx → EReal

/-- The carried r. -/
abbrev c0 (V : Vals) : Row := V (Proc.devRef .tc main_v10_0)
/-- The carried w. -/
abbrev c1 (V : Vals) : Row := V (Proc.devRef .tc main_v10_1)
/-- The carried k. -/
abbrev c2 (V : Vals) : Row := V (Proc.devRef .tc main_v10_2)
/-- The carried v. -/
abbrev c3 (V : Vals) : Row := V (Proc.devRef .tc main_v10_3)
/-- The carried kk. -/
abbrev c4 (V : Vals) : Row := V (Proc.devRef .tc main_v10_4)
/-- The carried kk * a. -/
abbrev c5 (V : Vals) : Row := V (Proc.devRef .tc main_v10_5)
/-- The counter. -/
abbrev c6 (V : Vals) : S_.Idx → BitVec 32 := V (Proc.devRef .tc main_v10_6)
/-- The state. -/
abbrev c7 (V : Vals) : S16x4x64x64.Idx → EReal := V (Proc.devRef .tc main_v10_7)
/-- The first series. -/
abbrev c8 (V : Vals) : Row := V (Proc.devRef .tc main_v10_8)
/-- The second series. -/
abbrev c9 (V : Vals) : Row := V (Proc.devRef .tc main_v10_9)

/-- The product of the state with the negated kk, within one step. -/
abbrev prod (V : Vals) : S16x4x64.Idx → EReal := res_main_while0b_v25 V
/-- The decayed state within one step. -/
abbrev decay (V : Vals) : S16x4x64x64.Idx → EReal := res_main_while0b_v28 V

/-- The inputs the reference carries, with the arguments' axes exchanged. -/
structure Ins (r w k v kk a : Arr) (V : Vals) : Prop where
  hr : ∀ n B h j, c0 V (ix4 n B h j) = r (ix4 B n h j)
  hw : ∀ n B h j, c1 V (ix4 n B h j) = w (ix4 B n h j)
  hk : ∀ n B h j, c2 V (ix4 n B h j) = k (ix4 B n h j)
  hv : ∀ n B h j, c3 V (ix4 n B h j) = v (ix4 B n h j)
  hkk : ∀ n B h j, c4 V (ix4 n B h j) = kk (ix4 B n h j)
  hka : ∀ n B h j, c5 V (ix4 n B h j) = kk (ix4 B n h j) * a (ix4 B n h j)

/-- What the reference holds after `n` time steps. -/
structure After (r w k v kk a : Arr) (V : Vals) (n : ℕ) : Prop where
  ins : Ins r w k v kk a V
  ctr : c6 V = fun _ => BitVec.ofNat 32 n
  st : ∀ B h i j, c7 V (ix4 B h i j) = (seqsOf r w k v kk a B h).mem n i j
  sa : ∀ (n' : Fin 2048) B h i, n'.val < n → c8 V (ix4 n' B h i) = (seqsOf r w k v kk a B h).sa n'.val i
  yp : ∀ (n' : Fin 2048) B h i, n'.val < n → c9 V (ix4 n' B h i) = (seqsOf r w k v kk a B h).yp n'.val i

variable {r w k v kk a : Arr} {V : Vals} {n : ℕ}

/-- The start read off the counter is the time step's. -/
theorem start_eq (hn : n < 2048) (x : S_.Idx → BitVec 32) (hx : x = fun _ => BitVec.ofNat 32 n) (b : Fin 4) :
    (((![x, constantI S_ 32 0#32, constantI S_ 32 0#32, constantI S_ 32 0#32] : Fin 4 → (⟨S_, .i32⟩ : BufTy).Contents (Elt Ideal))) b
      (Shape.Idx.first h_S_)).toInt = (off n b : ℤ) := by
  subst hx
  match b with
  | ⟨0, _⟩ => exact WordCmp.toInt_ofNat_of_lt (w := 32) (by omega)
  | ⟨1, _⟩ => rfl
  | ⟨2, _⟩ => rfl
  | ⟨3, _⟩ => rfl

/-- The inputs of one time step, as the recurrence names them. -/
theorem seqs_at (hn : n < 2048) (B : Fin 16) (h : Fin 4) (j : Fin 64) :
    (seqsOf r w k v kk a B h).x 0 n j = w (ix4 B ⟨n, hn⟩ h j) ∧ (seqsOf r w k v kk a B h).x 1 n j = -kk (ix4 B ⟨n, hn⟩ h j)
    ∧ (seqsOf r w k v kk a B h).x 2 n j = kk (ix4 B ⟨n, hn⟩ h j) * a (ix4 B ⟨n, hn⟩ h j)
    ∧ (seqsOf r w k v kk a B h).x 3 n j = k (ix4 B ⟨n, hn⟩ h j)
    ∧ (seqsOf r w k v kk a B h).x 4 n j = w (ix4 B ⟨n, hn⟩ h j) * r (ix4 B ⟨n, hn⟩ h j)
    ∧ (seqsOf r w k v kk a B h).v n j = v (ix4 B ⟨n, hn⟩ h j) := by
  refine ⟨?_, ?_, ?_, ?_, ?_, ?_⟩ <;> exact dif_pos hn

/-- The product of the state with the negated kk is the recurrence's `sa`. -/
theorem sa_at (H : After r w k v kk a V n) (hn : n < 2048) (B : Fin 16) (h : Fin 4) (i : Fin 64) :
    prod V (ix3 B h i) = (seqsOf r w k v kk a B h).sa n i := by
  unfold prod res_main_while0b_v25
  refine (dot_at _ _ B h i).trans (Finset.sum_congr rfl fun j _ => congrArg₂ (· * ·) (H.st B h i j) ?_)
  refine (congrArg Neg.neg (row_at (c4 V) _ n hn (start_eq hn _ H.ctr) _ _ B h j)).trans ?_
  rw [H.ins.hkk, (seqs_at hn B h j).2.1]

/-- The decayed state. -/
theorem decay_at (H : After r w k v kk a V n) (hn : n < 2048) (B : Fin 16) (h : Fin 4) (i j : Fin 64) :
    decay V (ix4 B h i j) = (seqsOf r w k v kk a B h).mem n i j * w (ix4 B ⟨n, hn⟩ h j) := by
  unfold decay res_main_while0b_v28
  refine congrArg₂ (· * ·) (H.st B h i j) ?_
  refine (along_row _ _ _ B h i j).trans ((row_at (c1 V) _ n hn (start_eq hn _ H.ctr) _ _ B h j).trans ?_)
  rw [H.ins.hw]

/-- The next state. -/
theorem st_next (H : After r w k v kk a V n) (hn : n < 2048) (B : Fin 16) (h : Fin 4) (i j : Fin 64) :
    c7 (STEP V) (ix4 B h i j) = (seqsOf r w k v kk a B h).mem (n + 1) i j := by
  have e2 := (row_at (c5 V) _ n hn (start_eq hn _ H.ctr) sliceFits_S2048x16x4x64_S1x16x4x64 shapeCasts_S1x16x4x64_S16x4x64 B h j)
  have e3 := (row_at (c3 V) _ n hn (start_eq hn _ H.ctr) sliceFits_S2048x16x4x64_S1x16x4x64 shapeCasts_S1x16x4x64_S16x4x64 B h i)
  have e4 := (row_at (c2 V) _ n hn (start_eq hn _ H.ctr) sliceFits_S2048x16x4x64_S1x16x4x64 shapeCasts_S1x16x4x64_S16x4x64 B h j)
  obtain ⟨s0, s1, s2, s3, s4, -⟩ := seqs_at (r := r) (w := w) (k := k) (v := v) (kk := kk) (a := a) hn B h j
  have sv := (seqs_at (r := r) (w := w) (k := k) (v := v) (kk := kk) (a := a) hn B h i).2.2.2.2.2
  refine (congrFun (STEP_main_v10_7 V) _).trans ?_
  unfold step_main_v10_7
  refine (congrArg₂ (· + ·) (congrArg₂ (· + ·) (decay_at H hn B h i j) (congrArg₂ (· * ·)
    ((along_col _ _ _ B h i j).trans (sa_at H hn B h i)) ((along_row _ _ _ B h i j).trans e2)))
    (congrArg₂ (· * ·) ((along_col _ _ _ B h i j).trans e3) ((along_row _ _ _ B h i j).trans e4))).trans ?_
  rw [H.ins.hka, H.ins.hv, H.ins.hk, ← s0, ← s2, ← s3, ← sv]
  rfl

/-- The reading of the decayed state is the recurrence's `yp`. -/
theorem yp_at (H : After r w k v kk a V n) (hn : n < 2048) (B : Fin 16) (h : Fin 4) (i : Fin 64) (y : S16x4x64.Idx → EReal)
    (hy : ∀ j, y (ix3 B h j) = r (ix4 B ⟨n, hn⟩ h j)) :
    (Host.dotGeneral (F := Ideal) (φ₁ := .f32) (φ₂ := .f32) dot_S16x4x64x64_S16x4x64_S16x4x64_3_2_2_n_01_01 none (decay V : FVec Ideal S16x4x64x64 .f32)
      (y : FVec Ideal S16x4x64 .f32) : FVec Ideal S16x4x64 .f32) (ix3 B h i) = (seqsOf r w k v kk a B h).yp n i := by
  refine (dot_at _ _ B h i).trans (Finset.sum_congr rfl fun j _ => ?_)
  refine (congrArg₂ (· * ·) (decay_at H hn B h i j) (hy j)).trans ?_
  rw [(seqs_at hn B h j).2.2.2.2.1]
  exact mul_assoc _ _ _

/-- One time step. -/
theorem After.step (H : After r w k v kk a V n) (hn : n < 2048) : After r w k v kk a (STEP V) (n + 1) where
  ins := ⟨fun n B h j => (congrFun (STEP_main_v10_0 V) _).trans (H.ins.hr n B h j),
    fun n B h j => (congrFun (STEP_main_v10_1 V) _).trans (H.ins.hw n B h j),
    fun n B h j => (congrFun (STEP_main_v10_2 V) _).trans (H.ins.hk n B h j),
    fun n B h j => (congrFun (STEP_main_v10_3 V) _).trans (H.ins.hv n B h j),
    fun n B h j => (congrFun (STEP_main_v10_4 V) _).trans (H.ins.hkk n B h j),
    fun n B h j => (congrFun (STEP_main_v10_5 V) _).trans (H.ins.hka n B h j)⟩
  ctr := by
    refine (STEP_main_v10_6 V).trans ?_
    unfold step_main_v10_6
    funext i
    refine (congrArg (· + 1#32) (congrFun H.ctr i)).trans ?_
    show BitVec.ofNat 32 n + 1#32 = BitVec.ofNat 32 (n + 1)
    exact (BitVec.ofNat_add n 1).symm
  st := st_next H hn
  sa := fun n' B h i hlt => by
    refine (congrFun (STEP_main_v10_8 V) _).trans ?_
    unfold step_main_v10_8
    refine (row_put (c8 V) _ _ n hn (start_eq hn _ H.ctr) _ _ n' B h i).trans ?_
    split
    · next e => exact (sa_at H hn B h i).trans (by rw [e])
    · next e => exact H.sa n' B h i (by omega)
  yp := fun n' B h i hlt => by
    refine (congrFun (STEP_main_v10_9 V) _).trans ?_
    unfold step_main_v10_9
    refine (row_put (c9 V) _ _ n hn (start_eq hn _ H.ctr) _ _ n' B h i).trans ?_
    split
    · next e => exact (yp_at H hn B h i _ fun j => (row_at (c0 V) _ n hn (start_eq hn _ H.ctr) _ _ B h j).trans (H.ins.hr _ _ _ _)).trans (by rw [e])
    · next e => exact H.yp n' B h i (by omega)

/-- Any number of time steps. -/
theorem After.steps (H : After r w k v kk a V 0) : ∀ n, n ≤ 2048 → After r w k v kk a (STEP^[n] V) n
  | 0, _ => H
  | n + 1, hn => by
    rw [Function.iterate_succ_apply']
    exact (After.steps H n (by omega)).step (by omega)

variable (m : (ℓ : Loc nD τ sig) → Buf (Elt Ideal) ℓ) (c : Dev nD)

/-- The reference's first argument. -/
abbrev a0 : Arr := m ((c : Thread nD τ).loc main_arg0)
/-- The second argument. -/
abbrev a1 : Arr := m ((c : Thread nD τ).loc main_arg1)
/-- The third argument. -/
abbrev a2 : Arr := m ((c : Thread nD τ).loc main_arg2)
/-- The fourth argument. -/
abbrev a3 : Arr := m ((c : Thread nD τ).loc main_arg3)
/-- The fifth argument. -/
abbrev a4 : Arr := m ((c : Thread nD τ).loc main_arg4)
/-- The sixth argument. -/
abbrev a5 : Arr := m ((c : Thread nD τ).loc main_arg5)

/-- What the reference holds before its loop. -/
abbrev entry : Vals := entryContents preI m c

/-- Before the loop the first argument's axes are exchanged. -/
theorem entry0 : c0 (entry m c) = transpose S2048x16x4x64 [1, 0, 2, 3] (a0 m c) transposes_S16x2048x4x64_S2048x16x4x64_1_0_2_3 := by
  unfold c0 entry
  simp only [entryContents, afterL_cons, afterL_nil]
  after_reads_simp
  rfl

/-- The second's. -/
theorem entry1 : c1 (entry m c) = transpose S2048x16x4x64 [1, 0, 2, 3] (a1 m c) transposes_S16x2048x4x64_S2048x16x4x64_1_0_2_3 := by
  unfold c1 entry
  simp only [entryContents, afterL_cons, afterL_nil]
  after_reads_simp
  rfl

/-- The third's. -/
theorem entry2 : c2 (entry m c) = transpose S2048x16x4x64 [1, 0, 2, 3] (a2 m c) transposes_S16x2048x4x64_S2048x16x4x64_1_0_2_3 := by
  unfold c2 entry
  simp only [entryContents, afterL_cons, afterL_nil]
  after_reads_simp
  rfl

/-- The fourth's. -/
theorem entry3 : c3 (entry m c) = transpose S2048x16x4x64 [1, 0, 2, 3] (a3 m c) transposes_S16x2048x4x64_S2048x16x4x64_1_0_2_3 := by
  unfold c3 entry
  simp only [entryContents, afterL_cons, afterL_nil]
  after_reads_simp
  rfl

/-- The fifth's. -/
theorem entry4 : c4 (entry m c) = transpose S2048x16x4x64 [1, 0, 2, 3] (a4 m c) transposes_S16x2048x4x64_S2048x16x4x64_1_0_2_3 := by
  unfold c4 entry
  simp only [entryContents, afterL_cons, afterL_nil]
  after_reads_simp
  rfl

/-- And those of the product of the fifth and the sixth. -/
theorem entry5 : c5 (entry m c) = transpose S2048x16x4x64 [1, 0, 2, 3] (fun i => a4 m c i * a5 m c i)
    transposes_S16x2048x4x64_S2048x16x4x64_1_0_2_3 := by
  unfold c5 entry
  simp only [entryContents, afterL_cons, afterL_nil]
  after_reads_simp
  rfl

/-- Before the loop the state is zero. -/
theorem entry7 (i : S16x4x64x64.Idx) : c7 (entry m c) i = 0 := by
  unfold c7 entry
  simp only [entryContents, afterL_cons, afterL_nil]
  after_reads_simp
  exact Ideal.ofBits_zero_f32

/-- What the reference holds before its loop is what it holds after no time step. -/
theorem entry_after : After (a0 m c) (a1 m c) (a2 m c) (a3 m c) (a4 m c) (a5 m c) (entry m c) 0 where
  ins := ⟨fun n B h j => (congrFun (entry0 m c) _).trans (swap_at _ _ n B h j), fun n B h j => (congrFun (entry1 m c) _).trans (swap_at _ _ n B h j),
    fun n B h j => (congrFun (entry2 m c) _).trans (swap_at _ _ n B h j), fun n B h j => (congrFun (entry3 m c) _).trans (swap_at _ _ n B h j),
    fun n B h j => (congrFun (entry4 m c) _).trans (swap_at _ _ n B h j), fun n B h j => (congrFun (entry5 m c) _).trans (swap_at _ _ n B h j)⟩
  ctr := ctr_entry m c
  st := fun B h i j => entry7 m c _
  sa := fun n' B h i hlt => absurd hlt (Nat.not_lt_zero _)
  yp := fun n' B h i hlt => absurd hlt (Nat.not_lt_zero _)

/-- The inputs of the reference's heads. -/
def inp : Fin 16 → Fin 4 → Seqs := seqsOf (a0 m c) (a1 m c) (a2 m c) (a3 m c) (a4 m c) (a5 m c)

/-- What the reference holds after its loop. -/
def last : Vals := STEP^[2048] (entry m c)

/-- After the loop. -/
theorem last_after : After (a0 m c) (a1 m c) (a2 m c) (a3 m c) (a4 m c) (a5 m c) (last m c) 2048 :=
  (entry_after m c).steps 2048 le_rfl

/-- An array with the time step first whose rows are a series of the recurrence, its axes exchanged back and its heads laid
    side by side. -/
theorem series_at (x : Row) (y : Seqs → ℕ → Fin 64 → EReal) (hx : ∀ (n : Fin 2048) B h i, x (ix4 n B h i) = y (inp m c B h) n.val i) (ht) (hs)
    (i : S16x2048x256.Idx) :
    shapeCast S16x2048x256 (transpose S16x2048x4x64 [1, 0, 2, 3] x ht) hs i = perTime (inp m c) y (i 0) (i 1) (i 2) := by
  refine (congrArg _ ((ix3_eta i).symm.trans (congrArg (ix3 (n0 := 16) (n1 := 2048) (n2 := 256) (i 0) (i 1))
    (Cert.KernelIdeal.Scan.oc_of (i 2)).symm))).trans ?_
  exact (Cert.KernelIdeal.Scan.flat_apply _ hs _ _ _ _).trans ((swap_back x ht _ _ _ _).trans (hx _ _ _ _))

/-- The reference's first result. -/
theorem out_sa : (out_main_v12 (last m c) : S16x2048x256.Idx → EReal) = fun i => perTime (inp m c) Seqs.sa (i 0) (i 1) (i 2) := by
  unfold out_main_v12
  exact funext fun i => series_at m c (c8 (last m c)) Seqs.sa (fun n B h i => (last_after m c).sa n B h i n.isLt) _ _ i

/-- The reference's second result. -/
theorem out_yp : (out_main_v14 (last m c) : S16x2048x256.Idx → EReal) = fun i => perTime (inp m c) Seqs.yp (i 0) (i 1) (i 2) := by
  unfold out_main_v14
  exact funext fun i => series_at m c (c9 (last m c)) Seqs.yp (fun n B h i => (last_after m c).yp n B h i n.isLt) _ _ i

/-- The heads' states, two side by side. -/
theorem pair_at (x : S16x4x64x64.Idx → EReal) (h1) (h2) (h3) (B : Fin 16) (p : Fin 2) (i : Fin 64) (l : Fin 128) :
    shapeCast S16x2x64x128 (transpose S16x2x64x2x64 [0, 1, 3, 2, 4] (shapeCast S16x2x2x64x64 x h1) h2) h3 (ix4 B p i l)
      = x (ix4 B (Cert.KernelIdeal.Scan.hd p l) i (Cert.KernelIdeal.Scan.ky l)) := by
  refine (shapeCast_apply _ _ _ (ix5 (n3 := 2) (n4 := 64) B p i ⟨l.val / 64, by omega⟩ ⟨l.val % 64, by omega⟩) ?_).trans
    ((transpose_apply _ _ _ _ (ix5 (n2 := 2) (n4 := 64) B p ⟨l.val / 64, by omega⟩ i ⟨l.val % 64, by omega⟩) fun a => ?_).trans
    (shapeCast_apply _ _ _ _ ?_))
  · rw [Shape.rowMajor_val_five, Shape.rowMajor_val_four]
    show (((B.val * 2 + p.val) * 64 + i.val) * 2 + l.val / 64) * 64 + l.val % 64 = ((B.val * 2 + p.val) * 64 + i.val) * 128 + l.val
    omega
  · match a with
    | ⟨0, _⟩ => rfl
    | ⟨1, _⟩ => rfl
    | ⟨2, _⟩ => rfl
    | ⟨3, _⟩ => rfl
    | ⟨4, _⟩ => rfl
  · rw [Shape.rowMajor_val_five, Shape.rowMajor_val_four]
    show ((B.val * 4 + (2 * p.val + l.val / 64)) * 64 + i.val) * 64 + l.val % 64
      = (((B.val * 2 + p.val) * 2 + l.val / 64) * 64 + i.val) * 64 + l.val % 64
    omega

/-- The reference's third result. -/
theorem out_st : (out_main_v17 (last m c) : S16x2x64x128.Idx → EReal) = fun i => atEnd (inp m c) (i 0) (i 1) (i 2) (i 3) := by
  unfold out_main_v17
  refine funext fun i => (congrArg _ (ix4_eta i).symm).trans ?_
  exact (pair_at (c7 (last m c)) _ _ _ _ _ _ _).trans ((last_after m c).st _ _ _ _)

end Cert.ReferenceIdeal.Scan

end
-- ==== Proof.Finite.lean ====
/-
  The precondition: where `finite` holds of six arguments, each of their elements is a finite number.
-/
module

public import proofs.«01_k».proof.Pre_finite
public import proofs.«01_k».proof.Proof.Sums
public import Idealize.ShloMosaic.Lib.ReduceAll
public import Idealize.ShloMosaic.Lib.Affine

@[expose] public section

noncomputable section

namespace Cert.Pre_finite

open Idealize.ShloMosaic
open Cert.KernelIdeal.Scan (IsR)

/-- The shapes of the precondition's operations fit. -/
instance facts : Facts where
  bcast_S_S16x2048x4x64 := by decide
  reducesTo_S16x2048x4x64_S_d0_1_2_3 := by decide
  h_S_ := by decide

/-- A number whose absolute value is below infinity is finite. -/
theorem isR_of_lt {x : Ideal .f32} (h : FloatOps.cmpf .olt (FloatOps.hostAbsf x) (FloatOps.ofBits (F := Ideal) .f32 0x7F800000#32) = 1#1) :
    IsR x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine ⟨EReal.toReal x, EReal.coe_toReal hlt.1.ne fun e => ?_⟩
  rw [e] at hlt
  exact absurd hlt.2 (by simp)

/-- A single number has one index. -/
instance : Subsingleton S_.Idx := ⟨fun a b => funext fun x => x.elim0⟩

/-- An array all of whose absolute values are below infinity is finite. -/
theorem all_isR (x : FVec Ideal S16x2048x4x64 .f32) (hr : S16x2048x4x64.ReducesTo [0, 1, 2, 3] S_) (hu : 0 < S_.numel)
    (hb : S_.BroadcastsInDim S16x2048x4x64 (![] : Fin 0 → Fin 4)) (j : S_.Idx)
    (e : Host.reduce IntOp.andi (cmpf .olt (Host.absf x) (broadcastInDim S16x2048x4x64 ![] hb (constant (F := Ideal) S_ .f32 0x7F800000#32)))
      (constantI S_ 1 1#1) hr hu j = 1#1) (i : S16x2048x4x64.Idx) : IsR (x i) :=
  isR_of_lt (Host.reduce_andi_all _ _ hr hu j e i)

/-- `finite` says that all six arguments are. -/
theorem all_of (r w k v kk a : FVec Ideal S16x2048x4x64 .f32) (h : fn (F := Ideal) r w k v kk a = fun _ => 1#1) :
    (∀ i, IsR (r i)) ∧ (∀ i, IsR (w i)) ∧ (∀ i, IsR (k i)) ∧ (∀ i, IsR (v i)) ∧ (∀ i, IsR (kk i)) ∧ (∀ i, IsR (a i)) := by
  have h0 := congrFun h (Shape.Idx.first facts.h_S_)
  unfold fn fn_part1 at h0
  obtain ⟨h0, ha⟩ := IntOp.andi_eq_one.1 h0
  obtain ⟨h0, hkk⟩ := IntOp.andi_eq_one.1 h0
  obtain ⟨h0, hv⟩ := IntOp.andi_eq_one.1 h0
  obtain ⟨h0, hk⟩ := IntOp.andi_eq_one.1 h0
  obtain ⟨hr, hw⟩ := IntOp.andi_eq_one.1 h0
  exact ⟨all_isR r _ _ _ _ hr, all_isR w _ _ _ _ hw, all_isR k _ _ _ _ hk, all_isR v _ _ _ _ hv, all_isR kk _ _ _ _ hkk,
    all_isR a _ _ _ _ ha⟩

end Cert.Pre_finite

end
-- ==== Proof.LayerOps.lean ====
/-
  One token of the layer's feed-forward part as a function of its row, and the vector operations it is computed with on a
  block of rows, element by element.
-/
module

public import Idealize.ShloMosaic.Lib.MatmulPlain
public import Idealize.ShloMosaic.Lib.IdealHost
public import Idealize.ShloMosaic.Lib.Pipeline.Value
public import Idealize.ShloMosaic.Lib.Pointwise.Reduce

@[expose] public section

set_option maxRecDepth 16384

noncomputable section

namespace Layer

open Idealize.ShloMosaic
open Idealize.ShloMosaic.ValueIdx (contrEquiv1 contrEquiv1_symm_val)

/-- A row of the model's width. -/
abbrev Row : Type := Fin 1024 → EReal

/-- The width, as the number that the mean divides by. -/
def width : EReal := Ideal.ofBits .f32 0x44800000#32

/-- The small number under the root. -/
def tiny : EReal := Ideal.ofBits .f32 0x358637BD#32

/-- One half. -/
def half : EReal := Ideal.ofBits .f32 0x3F000000#32

/-- A row over the root of its mean square, times the gains. -/
def norm (x g : Row) : Row := fun d => x d * Ideal.rsqrt (Ideal.div (∑ e, x e * x e) width + tiny) * g d

/-- A row times one column of a matrix. -/
def along {K N : ℕ} (h : Fin K → EReal) (w : Fin K → Fin N → EReal) (k : Fin N) : EReal := ∑ e, h e * w e k

/-- A row times a column, and the same numbers elsewhere. -/
theorem along_congr {K N N' : ℕ} {h h' : Fin K → EReal} {w : Fin K → Fin N → EReal} {w' : Fin K → Fin N' → EReal} {k : Fin N} {k' : Fin N'}
    (eh : ∀ e, h e = h' e) (ew : ∀ e, w e k = w' e k') : along h w k = along h' w' k' :=
  Finset.sum_congr rfl fun e _ => congrArg₂ (· * ·) (eh e) (ew e)

/-- The gated unit: the first number times its logistic function, times the second. -/
def glu (a b : EReal) : EReal := a * Ideal.logistic a * b

/-- The place of hidden unit `k` in the first half of the first matrix's columns. -/
def lo (k : Fin 2816) : Fin 5632 := ⟨k.val, by omega⟩

/-- The place of hidden unit `k` in the second half. -/
def hi (k : Fin 2816) : Fin 5632 := ⟨2816 + k.val, by omega⟩

/-- A hidden unit of a normalised row. -/
def hid (h : Row) (win : Fin 1024 → Fin 5632 → EReal) (k : Fin 2816) : EReal := glu (along h win (lo k)) (along h win (hi k))

/-- The feed-forward part of the layer: the row plus half of what the hidden units give. -/
def ffn (x g : Row) (win : Fin 1024 → Fin 5632 → EReal) (wout : Fin 2816 → Fin 1024 → EReal) : Row :=
  fun d => x d + half * along (hid (norm x g) win) wout d

/-- A sum over the hidden units, the first half and then the second. -/
theorem sum_halves (f : Fin 2816 → EReal) :
    ∑ k, f k = (∑ k : Fin 1408, f ⟨k.val, by omega⟩) + ∑ k : Fin 1408, f ⟨1408 + k.val, by omega⟩ :=
  Fin.sum_univ_add (a := 1408) (b := 1408) f

/-- A product of two matrices onto zeros. -/
theorem mm {M K N : ℕ} {φ₁ φ₂ : FTy} (a : FVec Ideal ⟨2, ![M, K]⟩ φ₁) (b : FVec Ideal ⟨2, ![K, N]⟩ φ₂) (r : Fin M) (c : Fin N) :
    (matmul (DotDims.plain M K N) none a b (constant ⟨2, ![M, N]⟩ .f32 0x00000000#32 : FVec Ideal ⟨2, ![M, N]⟩ .f32) : FVec Ideal ⟨2, ![M, N]⟩ .f32) (ix2 r c)
      = along (fun k => a (ix2 r k)) (fun k n => b (ix2 k n)) c := by
  refine (Ideal.matmul_plain_apply none a b _ r c).trans ?_
  have z : (constant ⟨2, ![M, N]⟩ .f32 0x00000000#32 : FVec Ideal ⟨2, ![M, N]⟩ .f32) (ix2 r c) = 0 := Ideal.ofBits_zero_f32
  refine (congrArg (· + _) z).trans (zero_add _)

/-- A block of rows, each over the root of its mean square, times the gains. -/
theorem norm_rows (x : FVec Ideal ⟨2, ![512, 1024]⟩ .f32) (g : FVec Ideal ⟨2, ![1, 1024]⟩ .f32)
    (h1 : (⟨2, ![512, 1024]⟩ : Shape).Reduces [1] ⟨1, ![512]⟩) (hφ) (hacc) (h2 : (⟨1, ![512]⟩ : Shape).ShapeCasts ⟨2, ![512, 1]⟩)
    (h3 : (⟨2, ![512, 1]⟩ : Shape).Broadcasts ⟨2, ![512, 1024]⟩) (h4 : (⟨2, ![1, 1024]⟩ : Shape).Broadcasts ⟨2, ![512, 1024]⟩) (i : Fin 512) (d : Fin 1024) :
    mulf (mulf x (broadcastTo ⟨2, ![512, 1024]⟩ (rsqrt (addf (divf (shapeCast ⟨2, ![512, 1]⟩
        (multiReduction .add [1] ⟨1, ![512]⟩ (mulf x x) 0x00000000#32 h1 hφ hacc) h2)
        (broadcast ⟨2, ![512, 1]⟩ (Scalar.ofBits .f32 0x44800000#32 : Ideal .f32)))
        (broadcast ⟨2, ![512, 1]⟩ (Scalar.ofBits .f32 0x358637BD#32 : Ideal .f32)))) h3)) (broadcastTo ⟨2, ![512, 1024]⟩ g h4) (ix2 i d)
      = norm (fun e => x (ix2 i e)) (fun e => g (ix2 0 e)) d := by
  refine congrArg₂ (· * ·) (congrArg (x (ix2 i d) * ·) ?_) ?_
  · refine (broadcastTo_apply _ _ _ (ix2 i 0) fun a => by match a with | ⟨0, _⟩ => rfl | ⟨1, _⟩ => rfl).trans ?_
    refine congrArg (fun s => Ideal.rsqrt (Ideal.div s width + tiny)) ?_
    refine (shapeCast_apply _ _ _ (ix1 i) ?_).trans ?_
    · rw [Shape.rowMajor_val_one, Shape.rowMajor_val_two]
      show i.val = i.val * 1 + 0
      omega
    · exact Ideal.reduceAdd_r2_a1 h1 (mulf x x) (ix1 i)
  · exact broadcastTo_apply _ _ _ (ix2 0 d) fun a => by match a with | ⟨0, _⟩ => rfl | ⟨1, _⟩ => rfl

end Layer

end
-- ==== Proof.FfnBlock.lean ====
/-
  What the first feed-forward call leaves in one block of rows: every row's feed-forward part.
-/
module

public import proofs.«01_k».proof.Proof.Gen.FfnIdeal.Value
public import proofs.«01_k».proof.Proof.LayerOps

@[expose] public section

set_option maxRecDepth 16384

noncomputable section

namespace Cert.FfnIdeal.Rows

open Cert.FfnIdeal Cert.FfnIdeal.Gen
open Idealize.ShloMosaic Idealize.ShloMosaic.TcCoe
open Layer

/-- One row of a block. -/
abbrev rowOf (x : FVec Ideal S512x1024 .f32) (i : Fin 512) : Row := fun e => x (ix2 i e)

/-- The gains. -/
abbrev gains (g : FVec Ideal S1x1024 .f32) : Row := fun e => g (ix2 0 e)

variable (x : FVec Ideal S512x1024 .f32) (g : FVec Ideal S1x1024 .f32)

/-- The normalised rows. -/
theorem pay3_at (i : Fin 512) (d : Fin 1024) : (k0_pay3 (F := Ideal) x g (ix2 i d) : EReal) = norm (rowOf x i) (gains g) d := by
  unfold k0_pay3 k0_pay2
  simp only [shapeCast_self]
  exact norm_rows x g _ _ _ _ _ _ i d

/-- The normalised rows times a block of columns of the first matrix. -/
theorem pay5_at (w : FVec Ideal S1024x1408 .bf16) (i : Fin 512) (k : Fin 1408) :
    (k0_pay5 (F := Ideal) x g w (ix2 i k) : EReal) = along (norm (rowOf x i) (gains g)) (fun e n => w (ix2 e n)) k := by
  unfold k0_pay5
  simp only [shapeCast_self]
  refine (mm (k0_pay3 (F := Ideal) x g) w i k).trans ?_
  exact congrArg (fun h => along h (fun e n => w (ix2 e n)) k) (funext fun d => pay3_at x g i d)

/-- The first half of the hidden units, times the first half of the second matrix's rows. -/
theorem pay4_at (w1 w2 : FVec Ideal S1024x1408 .bf16) (w3 : FVec Ideal S1408x1024 .bf16) (i : Fin 512) (d : Fin 1024) :
    (k0_pay4 (F := Ideal) x g w1 w2 w3 (ix2 i d) : EReal)
      = along (fun k => glu (along (norm (rowOf x i) (gains g)) (fun e n => w1 (ix2 e n)) k) (along (norm (rowOf x i) (gains g)) (fun e n => w2 (ix2 e n)) k))
          (fun k n => w3 (ix2 k n)) d := by
  unfold k0_pay4
  simp only [shapeCast_self w3]
  refine (mm (φ₁ := .bf16) _ w3 i d).trans ?_
  refine congrArg (fun h => along h (fun e n => w3 (ix2 e n)) d) (funext fun k => ?_)
  exact congrArg₂ glu (pay5_at x g w1 i k) (pay5_at x g w2 i k)

/-- The block written, from the products of the two halves. -/
theorem pay1_at (v1 v29 : FVec Ideal S512x1024 .f32) (v32 v35 : FVec Ideal S512x1408 .f32) (w3 : FVec Ideal S1408x1024 .bf16) (i : Fin 512) (d : Fin 1024) :
    (k0_pay1 (F := Ideal) v1 v29 v32 v35 (logistic v32) w3 (ix2 i d) : EReal)
      = v1 (ix2 i d) + half * (v29 (ix2 i d) + along (fun k => glu (v32 (ix2 i k)) (v35 (ix2 i k))) (fun k n => w3 (ix2 k n)) d) := by
  unfold k0_pay1
  simp only [shapeCast_self w3]
  exact congrArg (fun s => (v1 (ix2 i d) : EReal) + half * ((v29 (ix2 i d) : EReal) + s)) (mm (φ₁ := .bf16) _ w3 i d)

/-- A load of a stretch of columns of the first matrix. -/
theorem ld_cols (win : FVec Ideal S1024x5632 .bf16) (o : ℕ) (inb) (ho : o + 1408 ≤ 5632) (e : Fin 1024) (k : Fin 1408) :
    View.ld (Val := Elt Ideal) (e' := .bf16) win (Rect.unit (s := S1024x5632) ![0, o] S1024x1408.size inb) (ix2 e k) = win (ix2 e ⟨o + k.val, by omega⟩) := by
  rw [View.ld_unit]
  refine extractStridedSlice_apply _ _ _ _ _ fun a => ?_
  match a with
  | ⟨0, _⟩ => exact (Nat.zero_add _).symm
  | ⟨1, _⟩ => rfl

/-- A load of a stretch of rows of the second matrix. -/
theorem ld_rows (wout : FVec Ideal S2816x1024 .bf16) (o : ℕ) (inb) (ho : o + 1408 ≤ 2816) (k : Fin 1408) (d : Fin 1024) :
    View.ld (Val := Elt Ideal) (e' := .bf16) wout (Rect.unit (s := S2816x1024) ![o, 0] S1408x1024.size inb) (ix2 k d) = wout (ix2 ⟨o + k.val, by omega⟩ d) := by
  rw [View.ld_unit]
  refine extractStridedSlice_apply _ _ _ _ _ fun a => ?_
  match a with
  | ⟨0, _⟩ => rfl
  | ⟨1, _⟩ => exact (Nat.zero_add _).symm

/-- The offsets of a load of everything. -/
theorem zeros : (![0, 0] : Fin 2 → ℕ) = fun _ => 0 := by
  funext a
  match a with
  | ⟨0, _⟩ => rfl
  | ⟨1, _⟩ => rfl

/-- What the call leaves in a block of rows. -/
theorem out_at (win : FVec Ideal S1024x5632 .bf16) (wout : FVec Ideal S2816x1024 .bf16) (i : Fin 512) (d : Fin 1024) :
    (out0_4 (F := Ideal) x g win wout (ix2 i d) : EReal)
      = ffn (rowOf x i) (gains g) (fun e n => win (ix2 e n)) (fun k n => wout (ix2 k n)) d := by
  unfold out0_4
  rw [View.canon_unit_zero zeros, View.ld_unit_zero zeros, View.ld_unit_zero zeros]
  refine (pay1_at _ _ _ _ _ i d).trans ?_
  unfold k0_pay2
  rw [shapeCast_self]
  refine congrArg (fun s => (x (ix2 i d) : EReal) + half * s) ?_
  refine Eq.trans ?_ (sum_halves _).symm
  refine congrArg₂ (· + ·) ((pay4_at x g _ _ _ i d).trans ?_) ?_
  · refine Finset.sum_congr rfl fun k _ => ?_
    refine congrArg₂ (· * ·) (congrArg₂ glu (along_congr (fun _ => rfl) fun e => ?_) (along_congr (fun _ => rfl) fun e => ?_)) ?_
    · refine (ld_cols win 0 _ (by omega) e k).trans (congrArg (fun q => win (ix2 e q)) (Fin.ext (Nat.zero_add _)))
    · exact ld_cols win 2816 _ (by omega) e k
    · refine (ld_rows wout 0 _ (by omega) k d).trans (congrArg (fun q => wout (ix2 q d)) (Fin.ext (Nat.zero_add _)))
  · refine Finset.sum_congr rfl fun k _ => ?_
    refine congrArg₂ (· * ·) (congrArg₂ glu ((pay5_at x g _ i k).trans (along_congr (fun _ => rfl) fun e => ?_))
      ((pay5_at x g _ i k).trans (along_congr (fun _ => rfl) fun e => ?_))) ?_
    · exact ld_cols win 1408 _ (by omega) e k
    · refine (ld_cols win 4224 _ (by omega) e k).trans (congrArg (fun q => win (ix2 e q)) (Fin.ext ?_))
      show 4224 + k.val = 2816 + (1408 + k.val)
      omega
    · exact ld_rows wout 1408 _ (by omega) k d

end Cert.FfnIdeal.Rows

end
-- ==== Proof.FfnValue.lean ====
/-
  The first feed-forward call's result, element by element, and the run that leaves it.
-/
module

public import proofs.«01_k».proof.Proof.FfnBlock
public import Idealize.ShloMosaic.Lib.Pipeline.ValueKit
public import Idealize.ShloMosaic.Lib.KernelVsHost
public import Idealize.ShloMosaic.Lib.StableHlo.Run

@[expose] public section

set_option maxRecDepth 16384

noncomputable section

namespace Layer

open Idealize.ShloMosaic

/-- The sequence of a token of the flattened batch. -/
def sq (r : Fin 32768) : Fin 16 := ⟨r.val / 2048, by omega⟩

/-- The time of a token of the flattened batch. -/
def tm (r : Fin 32768) : Fin 2048 := ⟨r.val % 2048, by omega⟩

/-- The feed-forward part of every token of the batch. -/
def ffnAll (x : (⟨3, ![16, 2048, 1024]⟩ : Shape).Idx → EReal) (g : (⟨1, ![1024]⟩ : Shape).Idx → EReal) (win : (⟨2, ![1024, 5632]⟩ : Shape).Idx → EReal)
    (wout : (⟨2, ![2816, 1024]⟩ : Shape).Idx → EReal) : (⟨2, ![32768, 1024]⟩ : Shape).Idx → EReal := fun j =>
  ffn (fun e => x (ix3 (sq (j 0)) (tm (j 0)) e)) (fun e => g (ix1 e)) (fun e n => win (ix2 e n)) (fun k n => wout (ix2 k n)) (j 1)

/-- The batch flattened to its tokens. -/
theorem flat_at {α : Type} {n : ℕ} (x : (⟨3, ![16, 2048, n]⟩ : Shape).Idx → α) (h : (⟨3, ![16, 2048, n]⟩ : Shape).ShapeCasts ⟨2, ![32768, n]⟩)
    (r : Fin 32768) (d : Fin n) : shapeCast ⟨2, ![32768, n]⟩ x h (ix2 r d) = x (ix3 (sq r) (tm r) d) := by
  refine shapeCast_apply x h _ _ ?_
  rw [Shape.rowMajor_val_three, Shape.rowMajor_val_two]
  show (r.val / 2048 * 2048 + r.val % 2048) * n + d.val = r.val * n + d.val
  rw [Nat.div_add_mod' r.val 2048]

/-- A vector as a matrix of one row. -/
theorem row_at {α : Type} {n : ℕ} (g : (⟨1, ![n]⟩ : Shape).Idx → α) (h : (⟨1, ![n]⟩ : Shape).ShapeCasts ⟨2, ![1, n]⟩) (e : Fin n) :
    shapeCast ⟨2, ![1, n]⟩ g h (ix2 0 e) = g (ix1 e) := by
  refine shapeCast_apply g h _ _ ?_
  rw [Shape.rowMajor_val_one, Shape.rowMajor_val_two]
  show e.val = 0 * n + e.val
  omega

end Layer

namespace Cert.FfnIdeal.Rows

open Cert.FfnIdeal Cert.FfnIdeal.Gen
open Idealize.ShloMosaic Idealize.ShloMosaic.TcCoe Idealize.ShloMosaic.Tactic
open Idealize.SL.Sem
open Idealize.ShloMosaic.Pipeline (Dat)
open Layer

variable (m : (ℓ : Loc nD τ sig) → Buf (Elt Ideal) ℓ) (c : Dev nD)

/-- The activations. -/
abbrev a0 : FVec Ideal S16x2048x1024 .f32 := m ((c : Thread nD τ).loc main_arg0)

/-- The gains. -/
abbrev a1 : FVec Ideal S1024 .f32 := m ((c : Thread nD τ).loc main_arg1)

/-- The first matrix. -/
abbrev a2 : FVec Ideal S1024x5632 .f32 := m ((c : Thread nD τ).loc main_arg2)

/-- The second matrix. -/
abbrev a3 : FVec Ideal S2816x1024 .f32 := m ((c : Thread nD τ).loc main_arg3)

/-- The flattened activations. -/
theorem V_x : (V m c main_v0 : FVec Ideal S32768x1024 .f32) = shapeCast S32768x1024 (a0 m c) shapeCasts_S16x2048x1024_S32768x1024 := by
  unfold_abbrev_sides
  after_results
  rfl

/-- The first matrix, as passed. -/
theorem V_win : (V m c main_v1 : FVec Ideal S1024x5632 .bf16) = truncf (F := Ideal) .bf16 (a2 m c) bitsLt_bf16_f32 := by
  unfold_abbrev_sides
  after_results
  try rfl

/-- The second matrix, as passed. -/
theorem V_wout : (V m c main_v2 : FVec Ideal S2816x1024 .bf16) = truncf (F := Ideal) .bf16 (a3 m c) bitsLt_bf16_f32 := by
  unfold_abbrev_sides
  after_results
  try rfl

/-- The gains, as passed. -/
theorem V_g : (V m c main_v3 : FVec Ideal S1x1024 .f32) = shapeCast S1x1024 (a1 m c) shapeCasts_S1024_S1x1024 := by
  unfold_abbrev_sides
  after_results
  rfl

/-- Where the activations' block stands. -/
theorem index0 : ∀ t : Fin cfg0.N, win0_0.index t = ![t.val, 0] := (by decide +kernel : ∀ t : Fin grid0.N, win0_0.index t = ![t.val, 0])

/-- The gains stand still. -/
theorem index1 : ∀ t : Fin cfg0.N, win0_1.index t = ![0, 0] := (by decide +kernel : ∀ t : Fin grid0.N, win0_1.index t = ![0, 0])

/-- The first matrix stands still. -/
theorem index2 : ∀ t : Fin cfg0.N, win0_2.index t = ![0, 0] := (by decide +kernel : ∀ t : Fin grid0.N, win0_2.index t = ![0, 0])

/-- The second matrix stands still. -/
theorem index3 : ∀ t : Fin cfg0.N, win0_3.index t = ![0, 0] := (by decide +kernel : ∀ t : Fin grid0.N, win0_3.index t = ![0, 0])

/-- Where the result's block stands. -/
theorem index4 : ∀ t : Fin cfg0.N, win0_4.index t = ![t.val, 0] := (by decide +kernel : ∀ t : Fin grid0.N, win0_4.index t = ![t.val, 0])

/-- A row of a point's block, among all tokens. -/
def tok (t : Fin cfg0.N) (i : Fin 512) : Fin 32768 := ⟨512 * t.val + i.val, by have h : t.val < 64 := t.isLt; omega⟩

/-- The activations' block at a point. -/
theorem blk_x (t : Fin cfg0.N) (i : Fin 512) (d : Fin 1024) :
    (iblk m c 0 t : FVec Ideal S512x1024 .f32) (ix2 i d) = a0 m c (ix3 (sq (tok t i)) (tm (tok t i)) d) := by
  have e := (congrFun (V_x m c) (ix2 (tok t i) d)).trans (flat_at _ _ _ _)
  refine Eq.trans ?_ e
  show (V m c main_v0 : FVec Ideal S32768x1024 .f32) ((win0_0.blk t).view.emb (ix2 i d)) = _
  refine congrArg _ (funext fun a => Fin.ext ?_)
  match a with
  | ⟨0, _⟩ => blk_simp [index0]; show t.val * 512 + i.val = 512 * t.val + i.val; omega
  | ⟨1, _⟩ => blk_simp [index0]

/-- The gains at a point. -/
theorem blk_g (t : Fin cfg0.N) (e : Fin 1024) : (iblk m c 1 t : FVec Ideal S1x1024 .f32) (ix2 0 e) = a1 m c (ix1 e) := by
  refine Eq.trans ?_ ((congrFun (V_g m c) (ix2 0 e)).trans (row_at _ _ _))
  show (V m c main_v3 : FVec Ideal S1x1024 .f32) ((win0_1.blk t).view.emb (ix2 0 e)) = _
  refine congrArg _ (funext fun a => Fin.ext ?_)
  match a with
  | ⟨0, _⟩ => blk_simp [index1]
  | ⟨1, _⟩ => blk_simp [index1]

/-- The first matrix at a point. -/
theorem blk_win (t : Fin cfg0.N) (e : Fin 1024) (n : Fin 5632) : (iblk m c 2 t : FVec Ideal S1024x5632 .bf16) (ix2 e n) = a2 m c (ix2 e n) := by
  refine Eq.trans ?_ (congrFun (V_win m c) (ix2 e n))
  show (V m c main_v1 : FVec Ideal S1024x5632 .bf16) ((win0_2.blk t).view.emb (ix2 e n)) = _
  refine congrArg _ (funext fun a => Fin.ext ?_)
  match a with
  | ⟨0, _⟩ => blk_simp [index2]
  | ⟨1, _⟩ => blk_simp [index2]

/-- The second matrix at a point. -/
theorem blk_wout (t : Fin cfg0.N) (k : Fin 2816) (n : Fin 1024) : (iblk m c 3 t : FVec Ideal S2816x1024 .bf16) (ix2 k n) = a3 m c (ix2 k n) := by
  refine Eq.trans ?_ (congrFun (V_wout m c) (ix2 k n))
  show (V m c main_v2 : FVec Ideal S2816x1024 .bf16) ((win0_3.blk t).view.emb (ix2 k n)) = _
  refine congrArg _ (funext fun a => Fin.ext ?_)
  match a with
  | ⟨0, _⟩ => blk_simp [index3]
  | ⟨1, _⟩ => blk_simp [index3]

/-- The result array after the run. -/
theorem final : ((dats m 0 c).arrAt 4 cfg0.N : FVec Ideal S32768x1024 .f32) = ffnAll (a0 m c) (a1 m c) (a2 m c) (a3 m c) := by
  refine Dat.arrAt_eq_of_covers _ 4 _ (by decide +kernel) fun t hf y => ?_
  show (dats m 0 c).after 4 t y = _
  rw [after0_4]
  refine (congrArg (out0_4 (F := Ideal) (iblk m c 0 t) (iblk m c 1 t) (iblk m c 2 t) (iblk m c 3 t)) (ix2_eta (n0 := 512) (n1 := 1024) y).symm).trans ?_
  refine (out_at _ _ _ _ _ _).trans ?_
  have e0 : ((win0_4.blk t).view.emb y : S32768x1024.Idx) 0 = tok t (y 0) := Fin.ext (by
    blk_simp [index4]; show t.val * 512 + (y 0).val = 512 * t.val + (y 0).val; omega)
  have e1 : ((win0_4.blk t).view.emb y : S32768x1024.Idx) 1 = y 1 := Fin.ext (by blk_simp [index4])
  show _ = ffnAll _ _ _ _ ((win0_4.blk t).view.emb y)
  unfold ffnAll
  rw [e0, e1]
  have hx : rowOf (iblk m c 0 t) (y 0) = fun e => a0 m c (ix3 (sq (tok t (y 0))) (tm (tok t (y 0))) e) := funext fun e => blk_x m c t (y 0) e
  have hg : gains (iblk m c 1 t) = fun e => a1 m c (ix1 e) := funext fun e => blk_g m c t e
  rw [hx, hg]
  have hw : (fun e n => (iblk m c 2 t : FVec Ideal S1024x5632 .bf16) (ix2 e n) : Fin 1024 → Fin 5632 → EReal) = fun e n => a2 m c (ix2 e n) :=
    funext fun e => funext fun n => blk_win m c t e n
  have ho : (fun e n => (iblk m c 3 t : FVec Ideal S2816x1024 .bf16) (ix2 e n) : Fin 2816 → Fin 1024 → EReal) = fun e n => a3 m c (ix2 e n) :=
    funext fun e => funext fun n => blk_wout m c t e n
  exact congrArg₂ (fun w o => ffn _ _ w o (y 1)) hw ho

end Cert.FfnIdeal.Rows

end
-- ==== Proof.FfnRef.lean ====
/-
  The reference's feed-forward part, element by element.
-/
module

public import proofs.«01_k».proof.Proof.Gen.FfnReferenceIdeal.Run
public import proofs.«01_k».proof.Proof.FfnValue

@[expose] public section

set_option maxRecDepth 16384

noncomputable section

namespace Layer

open Idealize.ShloMosaic
open Idealize.ShloMosaic.ValueIdx (contrEquiv1 contrEquiv1_symm_val)

/-- The rows of a three-axis array times a matrix, as contraction. -/
abbrev rowsDot (K N : ℕ) (wf : DotDims.WF ⟨3, ![16, 2048, K]⟩ ⟨2, ![K, N]⟩ ⟨3, ![16, 2048, N]⟩ [2] [0] [0, 1] [1] [] []) :
    DotDims ⟨3, ![16, 2048, K]⟩ ⟨2, ![K, N]⟩ ⟨3, ![16, 2048, N]⟩ where
  lhsContracting := [2]
  rhsContracting := [0]
  lhsNonContracting := [0, 1]
  rhsNonContracting := [1]
  lhsBatch := []
  rhsBatch := []
  wf := wf

/-- The rows of a three-axis array times a matrix, element by element. -/
theorem rows_dot {K N : ℕ} (wf) (A : FVec Ideal ⟨3, ![16, 2048, K]⟩ .f32) (w : FVec Ideal ⟨2, ![K, N]⟩ .f32) (b : Fin 16) (t : Fin 2048) (n : Fin N) :
    (Host.dotGeneral (rowsDot K N wf) none A w : FVec Ideal ⟨3, ![16, 2048, N]⟩ .f32) (ix3 b t n)
      = along (fun e => A (ix3 b t e)) (fun e n => w (ix2 e n)) n := by
  show FloatOps.dotGeneral _ none _ A w (ix3 b t n) = _
  rw [Ideal.dotGeneral_apply, ← Equiv.sum_comp (contrEquiv1 (rowsDot K N wf) K rfl rfl).symm]
  refine Finset.sum_congr rfl fun c _ => ?_
  have c3 := contrEquiv1_symm_val (rowsDot K N wf) K rfl rfl c
  refine congrArg₂ (· * ·) (congrArg A ?_) (congrArg w ?_)
  · funext ax; apply Fin.ext
    match ax with
    | ⟨0, _⟩ => rfl
    | ⟨1, _⟩ => rfl
    | ⟨2, _⟩ => exact c3
  · funext ax; apply Fin.ext
    match ax with
    | ⟨0, _⟩ => exact c3
    | ⟨1, _⟩ => rfl

/-- The reference's normalised rows. -/
def hostNorm (x : FVec Ideal ⟨3, ![16, 2048, 1024]⟩ .f32) (g : FVec Ideal ⟨1, ![1024]⟩ .f32)
    (h1 : (⟨3, ![16, 2048, 1024]⟩ : Shape).ReducesTo [2] ⟨2, ![16, 2048]⟩) (hu : 0 < (⟨0, ![]⟩ : Shape).numel)
    (h2 : (⟨2, ![16, 2048]⟩ : Shape).BroadcastsInDim ⟨3, ![16, 2048, 1]⟩ (![0, 1] : Fin 2 → Fin 3))
    (h3 : (⟨0, ![]⟩ : Shape).BroadcastsInDim ⟨3, ![16, 2048, 1]⟩ (![] : Fin 0 → Fin 3))
    (h4 : (⟨3, ![16, 2048, 1]⟩ : Shape).BroadcastsInDim ⟨3, ![16, 2048, 1024]⟩ (![0, 1, 2] : Fin 3 → Fin 3))
    (h5 : (⟨1, ![1024]⟩ : Shape).BroadcastsInDim ⟨3, ![1, 1, 1024]⟩ (![2] : Fin 1 → Fin 3))
    (h6 : (⟨3, ![1, 1, 1024]⟩ : Shape).BroadcastsInDim ⟨3, ![16, 2048, 1024]⟩ (![0, 1, 2] : Fin 3 → Fin 3)) : FVec Ideal ⟨3, ![16, 2048, 1024]⟩ .f32 :=
  mulf (mulf x (broadcastInDim ⟨3, ![16, 2048, 1024]⟩ ![0, 1, 2] h4 (Host.rsqrt (addf (Host.divf
    (broadcastInDim ⟨3, ![16, 2048, 1]⟩ ![0, 1] h2 (Host.reduceAdd (mulf x x) (constant ⟨0, ![]⟩ .f32 0x00000000#32 : FVec Ideal ⟨0, ![]⟩ .f32) h1 hu))
    (broadcastInDim ⟨3, ![16, 2048, 1]⟩ ![] h3 (constant ⟨0, ![]⟩ .f32 0x44800000#32 : FVec Ideal ⟨0, ![]⟩ .f32)))
    (broadcastInDim ⟨3, ![16, 2048, 1]⟩ ![] h3 (constant ⟨0, ![]⟩ .f32 0x358637BD#32 : FVec Ideal ⟨0, ![]⟩ .f32))))))
    (broadcastInDim ⟨3, ![16, 2048, 1024]⟩ ![0, 1, 2] h6 (broadcastInDim ⟨3, ![1, 1, 1024]⟩ ![2] h5 g))

/-- The reference's normalised rows, element by element. -/
theorem hostNorm_at (x g) (h1 hu h2 h3 h4 h5 h6) (b : Fin 16) (t : Fin 2048) (d : Fin 1024) :
    (hostNorm x g h1 hu h2 h3 h4 h5 h6 (ix3 b t d) : EReal) = norm (fun e => x (ix3 b t e)) (fun e => g (ix1 e)) d := by
  unfold hostNorm
  refine congrArg₂ (· * ·) (congrArg (x (ix3 b t d) * ·) ?_) ?_
  · refine (broadcastInDim_apply _ _ _ _ (ix3 (n2 := 1) b t 0) fun a => by match a with | ⟨0, _⟩ => rfl | ⟨1, _⟩ => rfl | ⟨2, _⟩ => rfl).trans ?_
    refine congrArg (fun s => Ideal.rsqrt (Ideal.div s width + tiny)) ?_
    refine (broadcastInDim_apply _ _ _ _ (ix2 b t) fun a => by match a with | ⟨0, _⟩ => rfl | ⟨1, _⟩ => rfl).trans ?_
    refine (Ideal.hostReduceAdd_r3_a2 h1 (mulf x x) _ (ix2 b t)).trans ?_
    refine (congrArg (· + _) Ideal.ofBits_zero_f32).trans (zero_add _)
  · refine (broadcastInDim_apply _ _ _ _ (ix3 (n0 := 1) (n1 := 1) 0 0 d) fun a => by match a with | ⟨0, _⟩ => rfl | ⟨1, _⟩ => rfl | ⟨2, _⟩ => rfl).trans ?_
    exact broadcastInDim_apply _ _ _ _ (ix1 d) fun a => by match a with | ⟨0, _⟩ => rfl

/-- The host's logistic function. -/
theorem host_logistic (x : EReal) : Ideal.div (Ideal.ofBits .f32 0x3F800000#32) (Ideal.ofBits .f32 0x3F800000#32 + Ideal.exp (-x)) = Ideal.logistic x := by
  rw [Ideal.ofBits_one_f32]
  rfl

/-- The host's gated unit. -/
theorem host_glu (u v : FVec Ideal ⟨3, ![16, 2048, 2816]⟩ .f32) (b1 : (⟨0, ![]⟩ : Shape).BroadcastsInDim ⟨3, ![16, 2048, 2816]⟩ (![] : Fin 0 → Fin 3)) (i) :
    (mulf (mulf u (Host.divf (broadcastInDim ⟨3, ![16, 2048, 2816]⟩ ![] b1 (constant ⟨0, ![]⟩ .f32 0x3F800000#32 : FVec Ideal ⟨0, ![]⟩ .f32))
      (addf (broadcastInDim ⟨3, ![16, 2048, 2816]⟩ ![] b1 (constant ⟨0, ![]⟩ .f32 0x3F800000#32 : FVec Ideal ⟨0, ![]⟩ .f32)) (Host.exp (Host.negf u))))) v i : EReal)
      = glu (u i) (v i) := by
  have e := host_logistic (u i)
  unfold glu
  rw [← e]
  rfl

/-- Half of what the hidden units of the normalised rows `h` give, onto `x`. -/
def hostFfn (x h : FVec Ideal ⟨3, ![16, 2048, 1024]⟩ .f32) (win : FVec Ideal ⟨2, ![1024, 5632]⟩ .f32) (wout : FVec Ideal ⟨2, ![2816, 1024]⟩ .f32)
    (wf1 : DotDims.WF ⟨3, ![16, 2048, 1024]⟩ ⟨2, ![1024, 5632]⟩ ⟨3, ![16, 2048, 5632]⟩ [2] [0] [0, 1] [1] [] [])
    (wf2 : DotDims.WF ⟨3, ![16, 2048, 2816]⟩ ⟨2, ![2816, 1024]⟩ ⟨3, ![16, 2048, 1024]⟩ [2] [0] [0, 1] [1] [] [])
    (s1 : (⟨3, ![16, 2048, 5632]⟩ : Shape).Slices ![0, 0, 0] ⟨3, ![16, 2048, 2816]⟩)
    (s2 : (⟨3, ![16, 2048, 5632]⟩ : Shape).Slices ![0, 0, 2816] ⟨3, ![16, 2048, 2816]⟩)
    (b1 : (⟨0, ![]⟩ : Shape).BroadcastsInDim ⟨3, ![16, 2048, 2816]⟩ (![] : Fin 0 → Fin 3))
    (b2 : (⟨0, ![]⟩ : Shape).BroadcastsInDim ⟨3, ![16, 2048, 1024]⟩ (![] : Fin 0 → Fin 3)) : FVec Ideal ⟨3, ![16, 2048, 1024]⟩ .f32 :=
  addf x (mulf (broadcastInDim ⟨3, ![16, 2048, 1024]⟩ ![] b2 (constant ⟨0, ![]⟩ .f32 0x3F000000#32 : FVec Ideal ⟨0, ![]⟩ .f32))
    (Host.dotGeneral (rowsDot 2816 1024 wf2) none
      (mulf (mulf (extractStridedSlice ⟨3, ![16, 2048, 2816]⟩ ![0, 0, 0] (Host.dotGeneral (rowsDot 1024 5632 wf1) none h win : FVec Ideal ⟨3, ![16, 2048, 5632]⟩ .f32) s1)
        (Host.divf (broadcastInDim ⟨3, ![16, 2048, 2816]⟩ ![] b1 (constant ⟨0, ![]⟩ .f32 0x3F800000#32 : FVec Ideal ⟨0, ![]⟩ .f32))
          (addf (broadcastInDim ⟨3, ![16, 2048, 2816]⟩ ![] b1 (constant ⟨0, ![]⟩ .f32 0x3F800000#32 : FVec Ideal ⟨0, ![]⟩ .f32))
            (Host.exp (Host.negf (extractStridedSlice ⟨3, ![16, 2048, 2816]⟩ ![0, 0, 0] (Host.dotGeneral (rowsDot 1024 5632 wf1) none h win : FVec Ideal ⟨3, ![16, 2048, 5632]⟩ .f32) s1))))))
        (extractStridedSlice ⟨3, ![16, 2048, 2816]⟩ ![0, 0, 2816] (Host.dotGeneral (rowsDot 1024 5632 wf1) none h win : FVec Ideal ⟨3, ![16, 2048, 5632]⟩ .f32) s2))
      wout : FVec Ideal ⟨3, ![16, 2048, 1024]⟩ .f32))

/-- The same, element by element. -/
theorem hostFfn_at (x h win wout) (wf1 wf2 s1 s2 b1 b2) (b : Fin 16) (t : Fin 2048) (d : Fin 1024) :
    (hostFfn x h win wout wf1 wf2 s1 s2 b1 b2 (ix3 b t d) : EReal)
      = x (ix3 b t d) + half * along (hid (fun e => h (ix3 b t e)) (fun e n => win (ix2 e n))) (fun k n => wout (ix2 k n)) d := by
  unfold hostFfn
  refine congrArg (fun s => (x (ix3 b t d) : EReal) + half * s) ((rows_dot wf2 _ wout b t d).trans (along_congr (fun k => ?_) fun _ => rfl))
  have e1 : (extractStridedSlice ⟨3, ![16, 2048, 2816]⟩ ![0, 0, 0] (Host.dotGeneral (rowsDot 1024 5632 wf1) none h win : FVec Ideal ⟨3, ![16, 2048, 5632]⟩ .f32) s1 (ix3 b t k) : EReal)
      = along (fun e => h (ix3 b t e)) (fun e n => win (ix2 e n)) (lo k) := by
    refine (extractStridedSlice_apply _ _ _ _ (ix3 b t (lo k)) fun a => ?_).trans (rows_dot wf1 h win b t (lo k))
    match a with
    | ⟨0, _⟩ => exact (Nat.zero_add _).symm
    | ⟨1, _⟩ => exact (Nat.zero_add _).symm
    | ⟨2, _⟩ => exact (Nat.zero_add _).symm
  have e2 : (extractStridedSlice ⟨3, ![16, 2048, 2816]⟩ ![0, 0, 2816] (Host.dotGeneral (rowsDot 1024 5632 wf1) none h win : FVec Ideal ⟨3, ![16, 2048, 5632]⟩ .f32) s2 (ix3 b t k) : EReal)
      = along (fun e => h (ix3 b t e)) (fun e n => win (ix2 e n)) (hi k) := by
    refine (extractStridedSlice_apply _ _ _ _ (ix3 b t (hi k)) fun a => ?_).trans (rows_dot wf1 h win b t (hi k))
    match a with
    | ⟨0, _⟩ => exact (Nat.zero_add _).symm
    | ⟨1, _⟩ => exact (Nat.zero_add _).symm
    | ⟨2, _⟩ => rfl
  exact (host_glu _ _ b1 _).trans (congrArg₂ glu e1 e2)

end Layer

namespace Cert.FfnReferenceIdeal.Rows

open Cert.FfnReferenceIdeal Cert.FfnReferenceIdeal.Gen
open Idealize.ShloMosaic Idealize.ShloMosaic.TcCoe
open Idealize.SL.Sem
open Layer

variable (m : (ℓ : Loc nD τ sig) → Buf (Elt Ideal) ℓ) (g : Dev nD → PrngReg)

/-- The reference's run leaves every token's feed-forward part, and the arguments as they were. -/
theorem run_at : θ_run defs (onTc (τ := τ) (main (F := Ideal))) ⟨m, fun _ => 0, g⟩ fun r => ∀ c : Dev nD,
    r.2.mem ((c.tc : Thread nD τ).loc main_v22) = ffnAll (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m g)
  obtain ⟨h0, h1⟩ := h c
  refine ⟨h0.trans ?_, h1⟩
  show shapeCast S32768x1024 (hostFfn (m ((c.tc : Thread nD τ).loc main_arg0)) (hostNorm (m ((c.tc : Thread nD τ).loc main_arg0)) (m ((c.tc : Thread nD τ).loc main_arg1)) _ _ _ _ _ _ _)
    (m ((c.tc : Thread nD τ).loc main_arg2)) (m ((c.tc : Thread nD τ).loc main_arg3)) _ _ _ _ _ _) _ = _
  funext j
  refine (congrArg _ (ix2_eta (n0 := 32768) (n1 := 1024) j).symm).trans ((flat_at _ _ (j 0) (j 1)).trans ((hostFfn_at _ _ _ _ _ _ _ _ _ _ _ _ _).trans ?_))
  unfold ffnAll ffn
  refine congrArg (fun h => _ + half * along (hid h _) _ _) (funext fun e => hostNorm_at _ _ _ _ _ _ _ _ _ _ _ _)

end Cert.FfnReferenceIdeal.Rows

end
-- ==== Proof.MergeBlock.lean ====
/-
  What the merging call leaves in one block of rows: every row's three branches gated and summed, its second feed-forward
  part, and the final norm.
-/
module

public import proofs.«01_k».proof.Proof.Gen.MergeIdeal.Value
public import proofs.«01_k».proof.Proof.FfnBlock

@[expose] public section

set_option maxRecDepth 16384

noncomputable section

namespace Layer

open Idealize.ShloMosaic

/-- The place of a gate of one branch among the gates of all three. -/
def gate (o : ℕ) (ho : o + 1024 ≤ 3072) (d : Fin 1024) : Fin 3072 := ⟨o + d.val, by omega⟩

/-- The three branches of a token, each brought to the model's width and gated, summed. -/
def mix (sg : Fin 3072 → EReal) (ya : Fin 256 → EReal) (yb : Fin 512 → EReal) (yc : Fin 256 → EReal) (wa : Fin 256 → Fin 1024 → EReal)
    (wb : Fin 512 → Fin 1024 → EReal) (wc : Fin 256 → Fin 1024 → EReal) : Row := fun d =>
  sg (gate 0 (by omega) d) * along ya wa d + sg (gate 1024 (by omega) d) * along yb wb d + sg (gate 2048 (by omega) d) * along yc wc d

/-- A row plus a row times a matrix. -/
def plus (x h : Row) (wo : Fin 1024 → Fin 1024 → EReal) : Row := fun d => x d + along h wo d

end Layer

namespace Cert.MergeIdeal.Rows

open Cert.MergeIdeal Cert.MergeIdeal.Gen
open Idealize.ShloMosaic Idealize.ShloMosaic.TcCoe
open Layer

/-- One row of a block. -/
abbrev rowOf {n : ℕ} {φ : FTy} (x : FVec Ideal ⟨2, ![512, n]⟩ φ) (i : Fin 512) : Fin n → EReal := fun e => x (ix2 i e)

/-- A matrix, by row and column. -/
abbrev mat {k n : ℕ} {φ : FTy} (w : FVec Ideal ⟨2, ![k, n]⟩ φ) : Fin k → Fin n → EReal := fun e j => w (ix2 e j)

/-- The gains. -/
abbrev gains (g : FVec Ideal S1x1024 .f32) : Row := fun e => g (ix2 0 e)

/-- The rows after the branches. -/
theorem pay2_at (yb : FVec Ideal S512x512 .bf16) (s0 : FVec Ideal S512x1024 .f32) (ya : FVec Ideal S512x256 .bf16) (wa : FVec Ideal S256x1024 .bf16)
    (s1 : FVec Ideal S512x1024 .f32) (wb : FVec Ideal S512x1024 .bf16) (s2 : FVec Ideal S512x1024 .f32) (yc : FVec Ideal S512x256 .bf16)
    (wc : FVec Ideal S256x1024 .bf16) (x : FVec Ideal S512x1024 .f32) (wo : FVec Ideal S1024x1024 .bf16) (i : Fin 512) (d : Fin 1024) :
    (k0_pay2 (F := Ideal) yb s0 ya wa s1 wb s2 yc wc x wo (ix2 i d) : EReal)
      = plus (rowOf x i) (fun e => s0 (ix2 i e) * along (rowOf ya i) (mat wa) e + s1 (ix2 i e) * along (rowOf yb i) (mat wb) e
          + s2 (ix2 i e) * along (rowOf yc i) (mat wc) e) (mat wo) d := by
  unfold k0_pay2
  simp only [shapeCast_self]
  refine congrArg (fun s => (x (ix2 i d) : EReal) + s) ((mm (φ₁ := .bf16) _ wo i d).trans (along_congr (fun e => ?_) fun _ => rfl))
  exact congrArg₂ (· + ·) (congrArg₂ (· + ·) (congrArg (fun s => (s0 (ix2 i e) : EReal) * s) (mm ya wa i e))
    (congrArg (fun s => (s1 (ix2 i e) : EReal) * s) (mm yb wb i e))) (congrArg (fun s => (s2 (ix2 i e) : EReal) * s) (mm yc wc i e))

variable (x : FVec Ideal S512x1024 .f32) (g : FVec Ideal S1x1024 .f32)

/-- The normalised rows. -/
theorem pay3_at (i : Fin 512) (d : Fin 1024) : (k0_pay3 (F := Ideal) x g (ix2 i d) : EReal) = norm (rowOf x i) (gains g) d := by
  unfold k0_pay3
  simp only [shapeCast_self]
  exact norm_rows x g _ _ _ _ _ _ i d

/-- The normalised rows times a block of columns of the first matrix. -/
theorem cols_at (w : FVec Ideal S1024x1408 .bf16) (i : Fin 512) (k : Fin 1408) :
    (matmul (DotDims.plain 512 1024 1408) none (k0_pay3 (F := Ideal) x g) w (constant S512x1408 .f32 0x00000000#32 : FVec Ideal S512x1408 .f32)
      : FVec Ideal S512x1408 .f32) (ix2 i k) = along (norm (rowOf x i) (gains g)) (mat w) k :=
  (mm (k0_pay3 (F := Ideal) x g) w i k).trans (along_congr (fun d => pay3_at x g i d) fun _ => rfl)

/-- A stretch of the hidden units. -/
theorem pay5_at (w1 w2 : FVec Ideal S1024x1408 .bf16) (i : Fin 512) (k : Fin 1408) :
    (k0_pay5 (F := Ideal) x g w1 w2 (ix2 i k) : EReal)
      = glu (along (norm (rowOf x i) (gains g)) (mat w1) k) (along (norm (rowOf x i) (gains g)) (mat w2) k) := by
  unfold k0_pay5
  simp only [shapeCast_self]
  exact congrArg₂ glu (cols_at x g w1 i k) (cols_at x g w2 i k)

/-- A stretch of the hidden units, times the second matrix's rows. -/
theorem pay4_at (w1 w2 : FVec Ideal S1024x1408 .bf16) (w3 : FVec Ideal S1408x1024 .bf16) (i : Fin 512) (d : Fin 1024) :
    (k0_pay4 (F := Ideal) x g w1 w2 w3 (ix2 i d) : EReal)
      = along (fun k => glu (along (norm (rowOf x i) (gains g)) (mat w1) k) (along (norm (rowOf x i) (gains g)) (mat w2) k)) (mat w3) d := by
  unfold k0_pay4
  simp only [shapeCast_self]
  refine (mm (φ₁ := .bf16) _ w3 i d).trans (along_congr (fun k => ?_) fun _ => rfl)
  exact congrArg₂ glu (cols_at x g w1 i k) (cols_at x g w2 i k)

/-- The block written: the products of the two halves summed, halved and added, and the final norm. -/
theorem pay1_at (u : FVec Ideal S512x1024 .f32) (h : FVec Ideal S512x1408 .bf16) (w3 : FVec Ideal S1408x1024 .bf16) (i : Fin 512) (d : Fin 1024) :
    (k0_pay1 (F := Ideal) x u h w3 g (ix2 i d) : EReal)
      = norm (fun e => x (ix2 i e) + half * (u (ix2 i e) + along (rowOf h i) (mat w3) e)) (gains g) d := by
  unfold k0_pay1
  simp only [shapeCast_self]
  refine (norm_rows _ g _ _ _ _ _ _ i d).trans (congrArg (fun r => norm r (gains g) d) (funext fun e => ?_))
  exact congrArg (fun s => (x (ix2 i e) : EReal) + half * ((u (ix2 i e) : EReal) + s)) (mm h w3 i e)

/-- A load of one branch's gates. -/
theorem ld_gate (sg : FVec Ideal S512x3072 .f32) (o : ℕ) (inb) (ho : o + 1024 ≤ 3072) (i : Fin 512) (d : Fin 1024) :
    View.ld (Val := Elt Ideal) (e' := .f32) sg (Rect.unit (s := S512x3072) ![0, o] S512x1024.size inb) (ix2 i d) = sg (ix2 i (gate o ho d)) := by
  rw [View.ld_unit]
  refine extractStridedSlice_apply _ _ _ _ _ fun a => ?_
  match a with
  | ⟨0, _⟩ => exact (Nat.zero_add _).symm
  | ⟨1, _⟩ => rfl

/-- The offsets of a load of everything. -/
theorem zeros : (![0, 0] : Fin 2 → ℕ) = fun _ => 0 := Cert.FfnIdeal.Rows.zeros

variable (sg : FVec Ideal S512x3072 .f32) (ya : FVec Ideal S512x256 .bf16) (yb : FVec Ideal S512x512 .bf16) (yc : FVec Ideal S512x256 .bf16)
  (wa : FVec Ideal S256x1024 .bf16) (wb : FVec Ideal S512x1024 .bf16) (wc : FVec Ideal S256x1024 .bf16) (wo : FVec Ideal S1024x1024 .bf16)
  (win : FVec Ideal S1024x5632 .bf16) (wout : FVec Ideal S2816x1024 .bf16) (gf : FVec Ideal S1x1024 .f32)

/-- The rows after the branches, from the blocks. -/
theorem pay6_at (i : Fin 512) (d : Fin 1024) :
    (k0_pay6 (F := Ideal) x sg ya yb yc wa wb wc wo g win wout gf (ix2 i d) : EReal)
      = plus (rowOf x i) (mix (rowOf sg i) (rowOf ya i) (rowOf yb i) (rowOf yc i) (mat wa) (mat wb) (mat wc)) (mat wo) d := by
  unfold k0_pay6
  rw [View.ld_unit_zero zeros, View.ld_unit_zero zeros, View.ld_unit_zero zeros, View.ld_unit_zero zeros, View.ld_unit_zero zeros,
    View.ld_unit_zero zeros, View.ld_unit_zero zeros, View.ld_unit_zero zeros]
  refine (pay2_at _ _ _ _ _ _ _ _ _ _ _ i d).trans (congrArg (fun h => plus (rowOf x i) h (mat wo) d) (funext fun e => ?_))
  exact congrArg₂ (· + ·) (congrArg₂ (· + ·) (congrArg (· * _) (ld_gate sg 0 _ (by omega) i e)) (congrArg (· * _) (ld_gate sg 1024 _ (by omega) i e)))
    (congrArg (· * _) (ld_gate sg 2048 _ (by omega) i e))

/-- What the call leaves in a block of rows. -/
theorem out_at (i : Fin 512) (d : Fin 1024) :
    (out0_13 (F := Ideal) x sg ya yb yc wa wb wc wo g win wout gf (ix2 i d) : EReal)
      = norm (ffn (plus (rowOf x i) (mix (rowOf sg i) (rowOf ya i) (rowOf yb i) (rowOf yc i) (mat wa) (mat wb) (mat wc)) (mat wo)) (gains g) (mat win) (mat wout))
          (gains gf) d := by
  unfold out0_13
  rw [View.canon_unit_zero zeros, View.ld_unit_zero zeros, View.ld_unit_zero zeros]
  have hx : rowOf (k0_pay6 (F := Ideal) x sg ya yb yc wa wb wc wo g win wout gf) i
      = plus (rowOf x i) (mix (rowOf sg i) (rowOf ya i) (rowOf yb i) (rowOf yc i) (mat wa) (mat wb) (mat wc)) (mat wo) :=
    funext fun e => pay6_at x g sg ya yb yc wa wb wc wo win wout gf i e
  rw [← hx]
  generalize k0_pay6 (F := Ideal) x sg ya yb yc wa wb wc wo g win wout gf = z
  refine (pay1_at z gf _ _ _ i d).trans (congrArg (fun r => norm r (gains gf) d) (funext fun e => ?_))
  refine congrArg (fun s => (z (ix2 i e) : EReal) + half * s) ?_
  refine Eq.trans ?_ (sum_halves _).symm
  refine congrArg₂ (· + ·) ((pay4_at z g _ _ _ i e).trans ?_) ?_
  · refine Finset.sum_congr rfl fun k _ => congrArg₂ (· * ·) (congrArg₂ glu (along_congr (fun _ => rfl) fun j => ?_) (along_congr (fun _ => rfl) fun j => ?_)) ?_
    · exact (Cert.FfnIdeal.Rows.ld_cols win 0 _ (by omega) j k).trans (congrArg (fun q => win (ix2 j q)) (Fin.ext (Nat.zero_add _)))
    · exact Cert.FfnIdeal.Rows.ld_cols win 2816 _ (by omega) j k
    · exact (Cert.FfnIdeal.Rows.ld_rows wout 0 _ (by omega) k e).trans (congrArg (fun q => wout (ix2 q e)) (Fin.ext (Nat.zero_add _)))
  · refine Finset.sum_congr rfl fun k _ => congrArg₂ (· * ·) ((pay5_at z g _ _ i k).trans (congrArg₂ glu (along_congr (fun _ => rfl) fun j => ?_)
      (along_congr (fun _ => rfl) fun j => ?_))) ?_
    · exact Cert.FfnIdeal.Rows.ld_cols win 1408 _ (by omega) j k
    · refine (Cert.FfnIdeal.Rows.ld_cols win 4224 _ (by omega) j k).trans (congrArg (fun q => win (ix2 j q)) (Fin.ext ?_))
      show 4224 + k.val = 2816 + (1408 + k.val)
      omega
    · exact Cert.FfnIdeal.Rows.ld_rows wout 1408 _ (by omega) k e

end Cert.MergeIdeal.Rows

end
-- ==== Proof.MergeValue.lean ====
/-
  The merging call's result, element by element, and the run that leaves it.
-/
module

public import proofs.«01_k».proof.Proof.MergeBlock
public import proofs.«01_k».proof.Proof.FfnValue

@[expose] public section

set_option maxRecDepth 16384

noncomputable section

namespace Layer

open Idealize.ShloMosaic

/-- The rows of a three-axis array. -/
abbrev row3 {n : ℕ} (x : (⟨3, ![16, 2048, n]⟩ : Shape).Idx → EReal) (b : Fin 16) (t : Fin 2048) : Fin n → EReal := fun e => x (ix3 b t e)

/-- A matrix, by row and column. -/
abbrev mat2 {k n : ℕ} (w : (⟨2, ![k, n]⟩ : Shape).Idx → EReal) : Fin k → Fin n → EReal := fun e j => w (ix2 e j)

/-- A vector, by place. -/
abbrev vec {n : ℕ} (g : (⟨1, ![n]⟩ : Shape).Idx → EReal) : Fin n → EReal := fun e => g (ix1 e)

/-- The layer's end for every token of the batch: the branches gated and summed, the second feed-forward part, the final norm. -/
def mergeAll (x : (⟨3, ![16, 2048, 1024]⟩ : Shape).Idx → EReal) (sg : (⟨3, ![16, 2048, 3072]⟩ : Shape).Idx → EReal)
    (ya : (⟨3, ![16, 2048, 256]⟩ : Shape).Idx → EReal) (yb : (⟨3, ![16, 2048, 512]⟩ : Shape).Idx → EReal) (yc : (⟨3, ![16, 2048, 256]⟩ : Shape).Idx → EReal)
    (wa : (⟨2, ![256, 1024]⟩ : Shape).Idx → EReal) (wb : (⟨2, ![512, 1024]⟩ : Shape).Idx → EReal) (wc : (⟨2, ![256, 1024]⟩ : Shape).Idx → EReal)
    (wo : (⟨2, ![1024, 1024]⟩ : Shape).Idx → EReal) (g : (⟨1, ![1024]⟩ : Shape).Idx → EReal) (win : (⟨2, ![1024, 5632]⟩ : Shape).Idx → EReal)
    (wout : (⟨2, ![2816, 1024]⟩ : Shape).Idx → EReal) (gf : (⟨1, ![1024]⟩ : Shape).Idx → EReal) : (⟨2, ![32768, 1024]⟩ : Shape).Idx → EReal := fun j =>
  norm (ffn (plus (row3 x (sq (j 0)) (tm (j 0))) (mix (row3 sg (sq (j 0)) (tm (j 0))) (row3 ya (sq (j 0)) (tm (j 0))) (row3 yb (sq (j 0)) (tm (j 0)))
    (row3 yc (sq (j 0)) (tm (j 0))) (mat2 wa) (mat2 wb) (mat2 wc)) (mat2 wo)) (vec g) (mat2 win) (mat2 wout)) (vec gf) (j 1)

end Layer

namespace Cert.MergeIdeal.Rows

open Cert.MergeIdeal Cert.MergeIdeal.Gen
open Idealize.ShloMosaic Idealize.ShloMosaic.TcCoe Idealize.ShloMosaic.Tactic
open Idealize.SL.Sem
open Idealize.ShloMosaic.Pipeline (Dat)
open Layer

variable (m : (ℓ : Loc nD τ sig) → Buf (Elt Ideal) ℓ) (c : Dev nD)

/-- The activations. -/
abbrev a0 : FVec Ideal S16x2048x1024 .f32 := m ((c : Thread nD τ).loc main_arg0)

/-- The gates. -/
abbrev a1 : FVec Ideal S16x2048x3072 .f32 := m ((c : Thread nD τ).loc main_arg1)

/-- The first branch. -/
abbrev a2 : FVec Ideal S16x2048x256 .bf16 := m ((c : Thread nD τ).loc main_arg2)

/-- The second branch. -/
abbrev a3 : FVec Ideal S16x2048x512 .bf16 := m ((c : Thread nD τ).loc main_arg3)

/-- The third branch. -/
abbrev a4 : FVec Ideal S16x2048x256 .bf16 := m ((c : Thread nD τ).loc main_arg4)

/-- The first branch's matrix. -/
abbrev a5 : FVec Ideal S256x1024 .f32 := m ((c : Thread nD τ).loc main_arg5)

/-- The second branch's matrix. -/
abbrev a6 : FVec Ideal S512x1024 .f32 := m ((c : Thread nD τ).loc main_arg6)

/-- The third branch's matrix. -/
abbrev a7 : FVec Ideal S256x1024 .f32 := m ((c : Thread nD τ).loc main_arg7)

/-- The matrix behind the gates. -/
abbrev a8 : FVec Ideal S1024x1024 .f32 := m ((c : Thread nD τ).loc main_arg8)

/-- The gains of the feed-forward part. -/
abbrev a9 : FVec Ideal S1024 .f32 := m ((c : Thread nD τ).loc main_arg9)

/-- The feed-forward part's first matrix. -/
abbrev a10 : FVec Ideal S1024x5632 .f32 := m ((c : Thread nD τ).loc main_arg10)

/-- The feed-forward part's second matrix. -/
abbrev a11 : FVec Ideal S2816x1024 .f32 := m ((c : Thread nD τ).loc main_arg11)

/-- The final gains. -/
abbrev a12 : FVec Ideal S1024 .f32 := m ((c : Thread nD τ).loc main_arg12)

/-- The matrices, as passed. -/
theorem V_mats : (V m c main_v0 : FVec Ideal S256x1024 .bf16) = truncf (F := Ideal) .bf16 (a5 m c) bitsLt_bf16_f32
    ∧ (V m c main_v1 : FVec Ideal S512x1024 .bf16) = truncf (F := Ideal) .bf16 (a6 m c) bitsLt_bf16_f32
    ∧ (V m c main_v2 : FVec Ideal S256x1024 .bf16) = truncf (F := Ideal) .bf16 (a7 m c) bitsLt_bf16_f32
    ∧ (V m c main_v3 : FVec Ideal S1024x1024 .bf16) = truncf (F := Ideal) .bf16 (a8 m c) bitsLt_bf16_f32
    ∧ (V m c main_v4 : FVec Ideal S1024x5632 .bf16) = truncf (F := Ideal) .bf16 (a10 m c) bitsLt_bf16_f32
    ∧ (V m c main_v5 : FVec Ideal S2816x1024 .bf16) = truncf (F := Ideal) .bf16 (a11 m c) bitsLt_bf16_f32 := by
  refine ⟨?_, ?_, ?_, ?_, ?_, ?_⟩ <;> (unfold_abbrev_sides; after_results; try rfl)

/-- The activations, the gates and the branches, as passed. -/
theorem V_rows : (V m c main_v6 : FVec Ideal S32768x1024 .f32) = shapeCast S32768x1024 (a0 m c) shapeCasts_S16x2048x1024_S32768x1024
    ∧ (V m c main_v7 : FVec Ideal S32768x3072 .f32) = shapeCast S32768x3072 (a1 m c) shapeCasts_S16x2048x3072_S32768x3072
    ∧ (V m c main_v8 : FVec Ideal S32768x256 .bf16) = shapeCast S32768x256 (a2 m c) shapeCasts_S16x2048x256_S32768x256
    ∧ (V m c main_v9 : FVec Ideal S32768x512 .bf16) = shapeCast S32768x512 (a3 m c) shapeCasts_S16x2048x512_S32768x512
    ∧ (V m c main_v10 : FVec Ideal S32768x256 .bf16) = shapeCast S32768x256 (a4 m c) shapeCasts_S16x2048x256_S32768x256 := by
  refine ⟨?_, ?_, ?_, ?_, ?_⟩ <;> (unfold_abbrev_sides; after_results; try rfl)

/-- The gains, as passed. -/
theorem V_gains : (V m c main_v11 : FVec Ideal S1x1024 .f32) = shapeCast S1x1024 (a9 m c) shapeCasts_S1024_S1x1024
    ∧ (V m c main_v12 : FVec Ideal S1x1024 .f32) = shapeCast S1x1024 (a12 m c) shapeCasts_S1024_S1x1024 := by
  refine ⟨?_, ?_⟩ <;> (unfold_abbrev_sides; after_results; try rfl)

/-- Where the blocks of rows stand. -/
theorem index_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_13.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_13.index t = ![t.val, 0])

/-- The weights and the gains stand still. -/
theorem index_still : ∀ t : Fin cfg0.N, win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0])

/-- A row of a point's block, among all tokens. -/
def tok (t : Fin cfg0.N) (i : Fin 512) : Fin 32768 := ⟨512 * t.val + i.val, by have h : t.val < 64 := t.isLt; omega⟩

/-- The activations' block at a point. -/
theorem blk_x (t : Fin cfg0.N) (i : Fin 512) : rowOf (φ := .f32) (iblk m c 0 t : FVec Ideal S512x1024 .f32) i = row3 (a0 m c) (sq (tok t i)) (tm (tok t i)) := funext fun d => by
  have h := (index_rows t).1
  refine Eq.trans ?_ ((congrFun (V_rows m c).1 (ix2 (tok t i) d)).trans (flat_at _ _ _ _))
  show (V m c main_v6 : FVec Ideal S32768x1024 .f32) ((win0_0.blk t).view.emb (ix2 i d)) = _
  refine congrArg _ (funext fun a => Fin.ext ?_)
  match a with
  | ⟨0, _⟩ => blk_simp [h]; show t.val * 512 + i.val = 512 * t.val + i.val; omega
  | ⟨1, _⟩ => blk_simp [h]

/-- The gates' block at a point. -/
theorem blk_sg (t : Fin cfg0.N) (i : Fin 512) : rowOf (φ := .f32) (iblk m c 1 t : FVec Ideal S512x3072 .f32) i = row3 (a1 m c) (sq (tok t i)) (tm (tok t i)) := funext fun d => by
  have h := (index_rows t).2.1
  refine Eq.trans ?_ ((congrFun (V_rows m c).2.1 (ix2 (tok t i) d)).trans (flat_at _ _ _ _))
  show (V m c main_v7 : FVec Ideal S32768x3072 .f32) ((win0_1.blk t).view.emb (ix2 i d)) = _
  refine congrArg _ (funext fun a => Fin.ext ?_)
  match a with
  | ⟨0, _⟩ => blk_simp [h]; show t.val * 512 + i.val = 512 * t.val + i.val; omega
  | ⟨1, _⟩ => blk_simp [h]

/-- The first branch's block at a point. -/
theorem blk_ya (t : Fin cfg0.N) (i : Fin 512) : rowOf (φ := .bf16) (iblk m c 2 t : FVec Ideal S512x256 .bf16) i = row3 (a2 m c) (sq (tok t i)) (tm (tok t i)) := funext fun d => by
  have h := (index_rows t).2.2.1
  refine Eq.trans ?_ ((congrFun (V_rows m c).2.2.1 (ix2 (tok t i) d)).trans (flat_at _ _ _ _))
  show (V m c main_v8 : FVec Ideal S32768x256 .bf16) ((win0_2.blk t).view.emb (ix2 i d)) = _
  refine congrArg _ (funext fun a => Fin.ext ?_)
  match a with
  | ⟨0, _⟩ => blk_simp [h]; show t.val * 512 + i.val = 512 * t.val + i.val; omega
  | ⟨1, _⟩ => blk_simp [h]

/-- The second branch's block at a point. -/
theorem blk_yb (t : Fin cfg0.N) (i : Fin 512) : rowOf (φ := .bf16) (iblk m c 3 t : FVec Ideal S512x512 .bf16) i = row3 (a3 m c) (sq (tok t i)) (tm (tok t i)) := funext fun d => by
  have h := (index_rows t).2.2.2.1
  refine Eq.trans ?_ ((congrFun (V_rows m c).2.2.2.1 (ix2 (tok t i) d)).trans (flat_at _ _ _ _))
  show (V m c main_v9 : FVec Ideal S32768x512 .bf16) ((win0_3.blk t).view.emb (ix2 i d)) = _
  refine congrArg _ (funext fun a => Fin.ext ?_)
  match a with
  | ⟨0, _⟩ => blk_simp [h]; show t.val * 512 + i.val = 512 * t.val + i.val; omega
  | ⟨1, _⟩ => blk_simp [h]

/-- The third branch's block at a point. -/
theorem blk_yc (t : Fin cfg0.N) (i : Fin 512) : rowOf (φ := .bf16) (iblk m c 4 t : FVec Ideal S512x256 .bf16) i = row3 (a4 m c) (sq (tok t i)) (tm (tok t i)) := funext fun d => by
  have h := (index_rows t).2.2.2.2.1
  refine Eq.trans ?_ ((congrFun (V_rows m c).2.2.2.2 (ix2 (tok t i) d)).trans (flat_at _ _ _ _))
  show (V m c main_v10 : FVec Ideal S32768x256 .bf16) ((win0_4.blk t).view.emb (ix2 i d)) = _
  refine congrArg _ (funext fun a => Fin.ext ?_)
  match a with
  | ⟨0, _⟩ => blk_simp [h]; show t.val * 512 + i.val = 512 * t.val + i.val; omega
  | ⟨1, _⟩ => blk_simp [h]

/-- The first branch's matrix at a point. -/
theorem blk_wa (t : Fin cfg0.N) : mat (φ := .bf16) (iblk m c 5 t : FVec Ideal S256x1024 .bf16) = mat2 (a5 m c) := funext fun e => funext fun n => by
  have h := (index_still t).1
  refine Eq.trans ?_ (congrFun (V_mats m c).1 (ix2 e n))
  show (V m c main_v0 : FVec Ideal S256x1024 .bf16) ((win0_5.blk t).view.emb (ix2 e n)) = _
  refine congrArg _ (funext fun a => Fin.ext ?_)
  match a with
  | ⟨0, _⟩ => blk_simp [h]
  | ⟨1, _⟩ => blk_simp [h]

/-- The second branch's matrix at a point. -/
theorem blk_wb (t : Fin cfg0.N) : mat (φ := .bf16) (iblk m c 6 t : FVec Ideal S512x1024 .bf16) = mat2 (a6 m c) := funext fun e => funext fun n => by
  have h := (index_still t).2.1
  refine Eq.trans ?_ (congrFun (V_mats m c).2.1 (ix2 e n))
  show (V m c main_v1 : FVec Ideal S512x1024 .bf16) ((win0_6.blk t).view.emb (ix2 e n)) = _
  refine congrArg _ (funext fun a => Fin.ext ?_)
  match a with
  | ⟨0, _⟩ => blk_simp [h]
  | ⟨1, _⟩ => blk_simp [h]

/-- The third branch's matrix at a point. -/
theorem blk_wc (t : Fin cfg0.N) : mat (φ := .bf16) (iblk m c 7 t : FVec Ideal S256x1024 .bf16) = mat2 (a7 m c) := funext fun e => funext fun n => by
  have h := (index_still t).2.2.1
  refine Eq.trans ?_ (congrFun (V_mats m c).2.2.1 (ix2 e n))
  show (V m c main_v2 : FVec Ideal S256x1024 .bf16) ((win0_7.blk t).view.emb (ix2 e n)) = _
  refine congrArg _ (funext fun a => Fin.ext ?_)
  match a with
  | ⟨0, _⟩ => blk_simp [h]
  | ⟨1, _⟩ => blk_simp [h]

/-- The matrix behind the gates at a point. -/
theorem blk_wo (t : Fin cfg0.N) : mat (φ := .bf16) (iblk m c 8 t : FVec Ideal S1024x1024 .bf16) = mat2 (a8 m c) := funext fun e => funext fun n => by
  have h := (index_still t).2.2.2.1
  refine Eq.trans ?_ (congrFun (V_mats m c).2.2.2.1 (ix2 e n))
  show (V m c main_v3 : FVec Ideal S1024x1024 .bf16) ((win0_8.blk t).view.emb (ix2 e n)) = _
  refine congrArg _ (funext fun a => Fin.ext ?_)
  match a with
  | ⟨0, _⟩ => blk_simp [h]
  | ⟨1, _⟩ => blk_simp [h]

/-- The feed-forward part's gains at a point. -/
theorem blk_g (t : Fin cfg0.N) : gains (iblk m c 9 t : FVec Ideal S1x1024 .f32) = vec (a9 m c) := funext fun e => by
  have h := (index_still t).2.2.2.2.1
  refine Eq.trans ?_ ((congrFun (V_gains m c).1 (ix2 0 e)).trans (row_at _ _ _))
  show (V m c main_v11 : FVec Ideal S1x1024 .f32) ((win0_9.blk t).view.emb (ix2 0 e)) = _
  refine congrArg _ (funext fun a => Fin.ext ?_)
  match a with
  | ⟨0, _⟩ => blk_simp [h]
  | ⟨1, _⟩ => blk_simp [h]

/-- The feed-forward part's first matrix at a point. -/
theorem blk_win (t : Fin cfg0.N) : mat (φ := .bf16) (iblk m c 10 t : FVec Ideal S1024x5632 .bf16) = mat2 (a10 m c) := funext fun e => funext fun n => by
  have h := (index_still t).2.2.2.2.2.1
  refine Eq.trans ?_ (congrFun (V_mats m c).2.2.2.2.1 (ix2 e n))
  show (V m c main_v4 : FVec Ideal S1024x5632 .bf16) ((win0_10.blk t).view.emb (ix2 e n)) = _
  refine congrArg _ (funext fun a => Fin.ext ?_)
  match a with
  | ⟨0, _⟩ => blk_simp [h]
  | ⟨1, _⟩ => blk_simp [h]

/-- The feed-forward part's second matrix at a point. -/
theorem blk_wout (t : Fin cfg0.N) : mat (φ := .bf16) (iblk m c 11 t : FVec Ideal S2816x1024 .bf16) = mat2 (a11 m c) := funext fun e => funext fun n => by
  have h := (index_still t).2.2.2.2.2.2.1
  refine Eq.trans ?_ (congrFun (V_mats m c).2.2.2.2.2 (ix2 e n))
  show (V m c main_v5 : FVec Ideal S2816x1024 .bf16) ((win0_11.blk t).view.emb (ix2 e n)) = _
  refine congrArg _ (funext fun a => Fin.ext ?_)
  match a with
  | ⟨0, _⟩ => blk_simp [h]
  | ⟨1, _⟩ => blk_simp [h]

/-- The final gains at a point. -/
theorem blk_gf (t : Fin cfg0.N) : gains (iblk m c 12 t : FVec Ideal S1x1024 .f32) = vec (a12 m c) := funext fun e => by
  have h := (index_still t).2.2.2.2.2.2.2
  refine Eq.trans ?_ ((congrFun (V_gains m c).2 (ix2 0 e)).trans (row_at _ _ _))
  show (V m c main_v12 : FVec Ideal S1x1024 .f32) ((win0_12.blk t).view.emb (ix2 0 e)) = _
  refine congrArg _ (funext fun a => Fin.ext ?_)
  match a with
  | ⟨0, _⟩ => blk_simp [h]
  | ⟨1, _⟩ => blk_simp [h]

/-- The result array after the run. -/
theorem final : ((dats m 0 c).arrAt 13 cfg0.N : FVec Ideal S32768x1024 .f32)
    = mergeAll (a0 m c) (a1 m c) (a2 m c) (a3 m c) (a4 m c) (a5 m c) (a6 m c) (a7 m c) (a8 m c) (a9 m c) (a10 m c) (a11 m c) (a12 m c) := by
  refine Dat.arrAt_eq_of_covers _ 13 _ (by decide +kernel) fun t hf y => ?_
  show (dats m 0 c).after 13 t y = _
  rw [after0_13]
  refine (congrArg (out0_13 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)) (ix2_eta (n0 := 512) (n1 := 1024) y).symm).trans ?_
  refine (out_at _ _ _ _ _ _ _ _ _ _ _ _ _ _ _).trans ?_
  have h := (index_rows t).2.2.2.2.2
  have e0 : ((win0_13.blk t).view.emb y : S32768x1024.Idx) 0 = tok t (y 0) := Fin.ext (by
    blk_simp [h]; show t.val * 512 + (y 0).val = 512 * t.val + (y 0).val; omega)
  have e1 : ((win0_13.blk t).view.emb y : S32768x1024.Idx) 1 = y 1 := Fin.ext (by blk_simp [h])
  show _ = mergeAll _ _ _ _ _ _ _ _ _ _ _ _ _ ((win0_13.blk t).view.emb y)
  unfold mergeAll
  rw [e0, e1]
  rw [blk_x m c t (y 0), blk_sg m c t (y 0), blk_ya m c t (y 0), blk_yb m c t (y 0), blk_yc m c t (y 0), blk_wa m c t, blk_wb m c t, blk_wc m c t, blk_wo m c t,
    blk_g m c t, blk_win m c t, blk_wout m c t, blk_gf m c t]

end Cert.MergeIdeal.Rows

end
-- ==== Proof.MergeRef.lean ====
/-
  The reference's end of the layer, element by element.
-/
module

public import proofs.«01_k».proof.Proof.Gen.MergeReferenceIdeal.Run
public import proofs.«01_k».proof.Proof.FfnRef
public import proofs.«01_k».proof.Proof.MergeValue

@[expose] public section

set_option maxRecDepth 16384

noncomputable section

namespace Layer

open Idealize.ShloMosaic

/-- The reference's rows after the branches. -/
def hostPlus (x : FVec Ideal ⟨3, ![16, 2048, 1024]⟩ .f32) (sg : FVec Ideal ⟨3, ![16, 2048, 3072]⟩ .f32) (ya : FVec Ideal ⟨3, ![16, 2048, 256]⟩ .bf16)
    (yb : FVec Ideal ⟨3, ![16, 2048, 512]⟩ .bf16) (yc : FVec Ideal ⟨3, ![16, 2048, 256]⟩ .bf16) (wa : FVec Ideal ⟨2, ![256, 1024]⟩ .f32)
    (wb : FVec Ideal ⟨2, ![512, 1024]⟩ .f32) (wc : FVec Ideal ⟨2, ![256, 1024]⟩ .f32) (wo : FVec Ideal ⟨2, ![1024, 1024]⟩ .f32)
    (wf1 : DotDims.WF ⟨3, ![16, 2048, 256]⟩ ⟨2, ![256, 1024]⟩ ⟨3, ![16, 2048, 1024]⟩ [2] [0] [0, 1] [1] [] [])
    (wf2 : DotDims.WF ⟨3, ![16, 2048, 512]⟩ ⟨2, ![512, 1024]⟩ ⟨3, ![16, 2048, 1024]⟩ [2] [0] [0, 1] [1] [] [])
    (wf3 : DotDims.WF ⟨3, ![16, 2048, 1024]⟩ ⟨2, ![1024, 1024]⟩ ⟨3, ![16, 2048, 1024]⟩ [2] [0] [0, 1] [1] [] [])
    (hb : FTy.bf16.bits < FTy.f32.bits)
    (s0 : (⟨3, ![16, 2048, 3072]⟩ : Shape).Slices ![0, 0, 0] ⟨3, ![16, 2048, 1024]⟩)
    (s1 : (⟨3, ![16, 2048, 3072]⟩ : Shape).Slices ![0, 0, 1024] ⟨3, ![16, 2048, 1024]⟩)
    (s2 : (⟨3, ![16, 2048, 3072]⟩ : Shape).Slices ![0, 0, 2048] ⟨3, ![16, 2048, 1024]⟩) : FVec Ideal ⟨3, ![16, 2048, 1024]⟩ .f32 :=
  addf x (Host.dotGeneral (rowsDot 1024 1024 wf3) none
    (addf (addf (mulf (extractStridedSlice ⟨3, ![16, 2048, 1024]⟩ ![0, 0, 0] sg s0) (Host.dotGeneral (rowsDot 256 1024 wf1) none (extf .f32 ya hb) wa : FVec Ideal ⟨3, ![16, 2048, 1024]⟩ .f32))
      (mulf (extractStridedSlice ⟨3, ![16, 2048, 1024]⟩ ![0, 0, 1024] sg s1) (Host.dotGeneral (rowsDot 512 1024 wf2) none (extf .f32 yb hb) wb : FVec Ideal ⟨3, ![16, 2048, 1024]⟩ .f32)))
      (mulf (extractStridedSlice ⟨3, ![16, 2048, 1024]⟩ ![0, 0, 2048] sg s2) (Host.dotGeneral (rowsDot 256 1024 wf1) none (extf .f32 yc hb) wc : FVec Ideal ⟨3, ![16, 2048, 1024]⟩ .f32)))
    wo : FVec Ideal ⟨3, ![16, 2048, 1024]⟩ .f32)

/-- One branch's gates, cut out of the gates of all three. -/
theorem gate_at (sg : FVec Ideal ⟨3, ![16, 2048, 3072]⟩ .f32) (o : ℕ) (ho : o + 1024 ≤ 3072) (s : (⟨3, ![16, 2048, 3072]⟩ : Shape).Slices ![0, 0, o] ⟨3, ![16, 2048, 1024]⟩)
    (b : Fin 16) (t : Fin 2048) (d : Fin 1024) : extractStridedSlice ⟨3, ![16, 2048, 1024]⟩ ![0, 0, o] sg s (ix3 b t d) = sg (ix3 b t (gate o ho d)) := by
  refine extractStridedSlice_apply _ _ _ _ _ fun a => ?_
  match a with
  | ⟨0, _⟩ => exact (Nat.zero_add _).symm
  | ⟨1, _⟩ => exact (Nat.zero_add _).symm
  | ⟨2, _⟩ => rfl

/-- The same, element by element. -/
theorem hostPlus_at (x sg ya yb yc wa wb wc wo) (wf1 wf2 wf3 hb s0 s1 s2) (b : Fin 16) (t : Fin 2048) (d : Fin 1024) :
    (hostPlus x sg ya yb yc wa wb wc wo wf1 wf2 wf3 hb s0 s1 s2 (ix3 b t d) : EReal)
      = plus (row3 x b t) (mix (row3 sg b t) (row3 ya b t) (row3 yb b t) (row3 yc b t) (mat2 wa) (mat2 wb) (mat2 wc)) (mat2 wo) d := by
  unfold hostPlus
  refine congrArg (fun s => (x (ix3 b t d) : EReal) + s) ((rows_dot wf3 _ wo b t d).trans (along_congr (fun e => ?_) fun _ => rfl))
  exact congrArg₂ (· + ·) (congrArg₂ (· + ·)
    (congrArg₂ (fun p q : EReal => p * q) (gate_at sg 0 (by omega) s0 b t e) (rows_dot wf1 (extf .f32 ya hb) wa b t e))
    (congrArg₂ (fun p q : EReal => p * q) (gate_at sg 1024 (by omega) s1 b t e) (rows_dot wf2 (extf .f32 yb hb) wb b t e)))
    (congrArg₂ (fun p q : EReal => p * q) (gate_at sg 2048 (by omega) s2 b t e) (rows_dot wf1 (extf .f32 yc hb) wc b t e))

end Layer

namespace Cert.MergeReferenceIdeal.Rows

open Cert.MergeReferenceIdeal Cert.MergeReferenceIdeal.Gen
open Idealize.ShloMosaic Idealize.ShloMosaic.TcCoe
open Idealize.SL.Sem
open Layer

variable (m : (ℓ : Loc nD τ sig) → Buf (Elt Ideal) ℓ)

/-- The rows after the branches, of the reference's arguments. -/
def rows (c : Dev nD) : FVec Ideal S16x2048x1024 .f32 :=
  hostPlus (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) dot_S16x2048x256_S256x1024_S16x2048x1024_2_0_01_1_n_n.wf dot_S16x2048x512_S512x1024_S16x2048x1024_2_0_01_1_n_n.wf
    dot_S16x2048x1024_S1024x1024_S16x2048x1024_2_0_01_1_n_n.wf bitsLt_bf16_f32 slices_S16x2048x3072_S16x2048x1024_0_0_0 slices_S16x2048x3072_S16x2048x1024_0_0_1024
    slices_S16x2048x3072_S16x2048x1024_0_0_2048

/-- Rows over the root of their mean square, times the gains `g`. -/
abbrev normed (x : FVec Ideal S16x2048x1024 .f32) (g : FVec Ideal S1024 .f32) : FVec Ideal S16x2048x1024 .f32 :=
  hostNorm x g reducesTo_S16x2048x1024_S16x2048_d2 h_S_ bcast_S16x2048_S16x2048x1_0_1 bcast_S_S16x2048x1 bcast_S16x2048x1_S16x2048x1024_0_1_2
    bcast_S1024_S1x1x1024_2 bcast_S1x1x1024_S16x2048x1024_0_1_2

/-- The rows after the second feed-forward part. -/
def fed (c : Dev nD) : FVec Ideal S16x2048x1024 .f32 :=
  hostFfn (rows m c) (normed (rows m c) (m ((c.tc : Thread nD τ).loc main_arg9))) (m ((c.tc : Thread nD τ).loc main_arg10)) (m ((c.tc : Thread nD τ).loc main_arg11))
    dot_S16x2048x1024_S1024x5632_S16x2048x5632_2_0_01_1_n_n.wf dot_S16x2048x2816_S2816x1024_S16x2048x1024_2_0_01_1_n_n.wf
    slices_S16x2048x5632_S16x2048x2816_0_0_0 slices_S16x2048x5632_S16x2048x2816_0_0_2816 bcast_S_S16x2048x2816 bcast_S_S16x2048x1024

/-- The printed term of the result is the final norm of those rows, flattened. -/
theorem printed (c : Dev nD) : (Value.res_main_v51 (F := Ideal) m c : FVec Ideal S32768x1024 .f32)
    = shapeCast S32768x1024 (normed (fed m c) (m ((c.tc : Thread nD τ).loc main_arg12))) shapeCasts_S16x2048x1024_S32768x1024 := by
  unfold Value.res_main_v51 normed fed normed rows hostFfn hostNorm hostPlus
  rfl

/-- The rows after the second feed-forward part, element by element. -/
theorem fed_at (c : Dev nD) (b : Fin 16) (t : Fin 2048) (d : Fin 1024) : (fed m c (ix3 b t d) : EReal)
    = ffn (row3 (rows m c) b t) (vec (m ((c.tc : Thread nD τ).loc main_arg9) : FVec Ideal S1024 .f32)) (mat2 (m ((c.tc : Thread nD τ).loc main_arg10) : FVec Ideal S1024x5632 .f32))
        (mat2 (m ((c.tc : Thread nD τ).loc main_arg11) : FVec Ideal S2816x1024 .f32)) d := by
  unfold fed
  refine (hostFfn_at _ _ _ _ _ _ _ _ _ _ _ _ _).trans ?_
  unfold ffn
  exact congrArg (fun h => _ + half * along (hid h _) _ _) (funext fun e => hostNorm_at _ _ _ _ _ _ _ _ _ _ _ _)

/-- The reference's result: the layer's end for every token. -/
theorem result (c : Dev nD) : (Value.res_main_v51 (F := Ideal) m c : FVec Ideal S32768x1024 .f32)
    = mergeAll (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) := by
  rw [printed]
  funext j
  refine (congrArg _ (ix2_eta (n0 := 32768) (n1 := 1024) j).symm).trans ((flat_at _ _ (j 0) (j 1)).trans ((hostNorm_at _ _ _ _ _ _ _ _ _ _ _ _).trans ?_))
  have hr : row3 (rows m c) (sq (j 0)) (tm (j 0)) = plus _ _ _ := funext fun e => hostPlus_at _ _ _ _ _ _ _ _ _ _ _ _ _ _ _ _ (sq (j 0)) (tm (j 0)) e
  have hf : (fun e => (fed m c (ix3 (sq (j 0)) (tm (j 0)) e) : EReal)) = _ := funext fun e => (fed_at m c (sq (j 0)) (tm (j 0)) e)
  rw [hf, hr]
  rfl

end Cert.MergeReferenceIdeal.Rows

end
-- ==== Proof.ProjectBlock.lean ====
/-
  What the projecting call leaves in one block of rows: every row normalised and multiplied by the layer's first matrix, the
  gates through the logistic function, and the compressed row normalised and brought to the values of the attention.
-/
module

public import proofs.«01_k».proof.Proof.Gen.ProjectIdeal.Frame
public import Idealize.ShloMosaic.Lib.Pipeline.Value
public import proofs.«01_k».proof.Proof.MergeBlock

@[expose] public section

set_option maxRecDepth 16384

noncomputable section

namespace Layer

open Idealize.ShloMosaic

/-- The width of a compressed row, as the number that the mean divides by. -/
def narrow : EReal := Ideal.ofBits .f32 0x43000000#32

/-- A compressed row over the root of its mean square, times the gains. -/
def norm128 (x g : Fin 128 → EReal) : Fin 128 → EReal := fun d => x d * Ideal.rsqrt (Ideal.div (∑ e, x e * x e) narrow + tiny) * g d

/-- Blocks of any height and width: each row over the root of its sum of squares divided by a number, times the gains. -/
theorem scaled_rows {M N : ℕ} (hM : M ≠ 1) (hN : N ≠ 1) (w : BitVec 32) (x : FVec Ideal ⟨2, ![M, N]⟩ .f32) (g : FVec Ideal ⟨2, ![1, N]⟩ .f32)
    (h1 : (⟨2, ![M, N]⟩ : Shape).Reduces [1] ⟨1, ![M]⟩) (hφ) (hacc) (h2 : (⟨1, ![M]⟩ : Shape).ShapeCasts ⟨2, ![M, 1]⟩)
    (h3 : (⟨2, ![M, 1]⟩ : Shape).Broadcasts ⟨2, ![M, N]⟩) (h4 : (⟨2, ![1, N]⟩ : Shape).Broadcasts ⟨2, ![M, N]⟩) (i : Fin M) (d : Fin N) :
    (mulf (mulf x (broadcastTo ⟨2, ![M, N]⟩ (rsqrt (addf (divf (shapeCast ⟨2, ![M, 1]⟩
        (multiReduction .add [1] ⟨1, ![M]⟩ (mulf x x) 0x00000000#32 h1 hφ hacc) h2)
        (broadcast ⟨2, ![M, 1]⟩ (Scalar.ofBits .f32 w : Ideal .f32)))
        (broadcast ⟨2, ![M, 1]⟩ (Scalar.ofBits .f32 0x358637BD#32 : Ideal .f32)))) h3)) (broadcastTo ⟨2, ![M, N]⟩ g h4) (ix2 i d) : EReal)
      = x (ix2 i d) * Ideal.rsqrt (Ideal.div (∑ e, x (ix2 i e) * x (ix2 i e)) (Ideal.ofBits .f32 w) + tiny) * g (ix2 0 d) := by
  refine congrArg₂ (fun p q : EReal => p * q) (congrArg (fun p : EReal => x (ix2 i d) * p) ?_) ?_
  · refine (broadcastTo_apply _ _ _ (ix2 i 0) fun a => by match a with | ⟨0, _⟩ => exact (if_neg hM).symm | ⟨1, _⟩ => rfl).trans ?_
    refine congrArg (fun s => Ideal.rsqrt (Ideal.div s (Ideal.ofBits .f32 w) + tiny)) ?_
    refine (shapeCast_apply _ _ _ (ix1 i) ?_).trans ?_
    · rw [Shape.rowMajor_val_one, Shape.rowMajor_val_two]
      show i.val = i.val * 1 + 0
      omega
    · exact Ideal.reduceAdd_r2_a1 h1 (mulf x x) (ix1 i)
  · exact broadcastTo_apply _ _ _ (ix2 0 d) fun a => by match a with | ⟨0, _⟩ => rfl | ⟨1, _⟩ => exact (if_neg hN).symm

end Layer

namespace Cert.ProjectIdeal.Rows

open Cert.ProjectIdeal Cert.ProjectIdeal.Gen
open Idealize.ShloMosaic Idealize.ShloMosaic.TcCoe
open Layer

/-- One row of a block. -/
abbrev rowOf {n : ℕ} {φ : FTy} (x : FVec Ideal ⟨2, ![256, n]⟩ φ) (i : Fin 256) : Fin n → EReal := fun e => x (ix2 i e)

/-- A matrix, by row and column. -/
abbrev mat {k n : ℕ} {φ : FTy} (w : FVec Ideal ⟨2, ![k, n]⟩ φ) : Fin k → Fin n → EReal := fun e j => w (ix2 e j)

/-- The gains. -/
abbrev gains {n : ℕ} (g : FVec Ideal ⟨2, ![1, n]⟩ .f32) : Fin n → EReal := fun e => g (ix2 0 e)

/-- The offsets of a load of everything. -/
theorem zeros : (![0, 0] : Fin 2 → ℕ) = fun _ => 0 := Cert.FfnIdeal.Rows.zeros

variable (x : FVec Ideal S256x1024 .f32) (g : FVec Ideal S1x1024 .f32) (w : FVec Ideal S1024x5504 .bf16) (x3 : FVec Ideal S256x512 .f32)
  (x4 : FVec Ideal S1x256 .f32) (gl : FVec Ideal S1x128 .f32) (x6 : FVec Ideal S2x256x1024 .bf16) (x7 : FVec Ideal S128x1024 .bf16)
  (wv : FVec Ideal S128x512 .bf16)

/-- The normalised rows. -/
theorem pay3_at (i : Fin 256) (d : Fin 1024) : (k0_pay3 (F := Ideal) x g (ix2 i d) : EReal) = norm (rowOf x i) (gains g) d := by
  unfold k0_pay3
  simp only [shapeCast_self]
  exact scaled_rows (by omega) (by omega) 0x44800000#32 x g _ _ _ _ _ _ i d

/-- A row of a block, normalised, times a column of the first matrix as passed. -/
abbrev inner (i : Fin 256) (k : Fin 5504) : EReal := along (norm (rowOf x i) (gains g)) (mat w) k

/-- A load of a stretch of the first matrix's columns. -/
theorem ld_win {n : ℕ} (o : ℕ) (inb) (ho : o + n ≤ 5504) (e : Fin 1024) (k : Fin n) :
    View.ld (Val := Elt Ideal) (e' := .bf16) w (Rect.unit (s := S1024x5504) ![0, o] (⟨2, ![1024, n]⟩ : Shape).size inb) (ix2 e k) = w (ix2 e ⟨o + k.val, by omega⟩) := by
  rw [View.ld_unit]
  refine extractStridedSlice_apply _ _ _ _ _ fun a => ?_
  match a with
  | ⟨0, _⟩ => exact (Nat.zero_add _).symm
  | ⟨1, _⟩ => rfl

/-- The normalised rows times a stretch of the first matrix's columns. -/
theorem cols_at {n : ℕ} (o : ℕ) (inb) (ho : o + n ≤ 5504) (i : Fin 256) (k : Fin n) :
    (matmul (φ₁ := .bf16) (φ₂ := .bf16) (DotDims.plain 256 1024 n) none (k0_pay3 (F := Ideal) x g)
      (View.ld (Val := Elt Ideal) (e' := .bf16) w (Rect.unit (s := S1024x5504) ![0, o] (⟨2, ![1024, n]⟩ : Shape).size inb) : FVec Ideal ⟨2, ![1024, n]⟩ .bf16)
      (constant ⟨2, ![256, n]⟩ .f32 0x00000000#32 : FVec Ideal ⟨2, ![256, n]⟩ .f32) : FVec Ideal ⟨2, ![256, n]⟩ .f32) (ix2 i k)
      = inner x g w i ⟨o + k.val, by omega⟩ :=
  (mm (φ₁ := .bf16) (φ₂ := .bf16) (k0_pay3 (F := Ideal) x g) _ i k).trans (along_congr (fun d => pay3_at x g i d) fun e => ld_win w o inb ho e k)

/-- The gates of a block of rows. -/
theorem sg_at (i : Fin 256) (k : Fin 3072) :
    (out0_9 (F := Ideal) x g w x3 x4 gl x6 x7 wv (ix2 i k) : EReal) = Ideal.logistic (inner x g w i ⟨0 + k.val, by omega⟩) := by
  unfold out0_9
  rw [View.canon_unit_zero zeros, View.ld_unit_zero zeros, View.ld_unit_zero zeros]
  unfold k0_pay4
  simp only [shapeCast_self]
  exact congrArg Ideal.logistic (cols_at x g w 0 _ (by omega) i k)

/-- The first branch's columns of a block of rows. -/
theorem pa_at (i : Fin 256) (k : Fin 1024) :
    (out0_10 (F := Ideal) x g w x3 x4 gl x6 x7 wv (ix2 i k) : EReal) = inner x g w i ⟨3072 + k.val, by omega⟩ := by
  unfold out0_10
  rw [View.canon_unit_zero zeros, View.ld_unit_zero zeros, View.ld_unit_zero zeros]
  unfold k0_pay5
  simp only [shapeCast_self]
  exact cols_at x g w 3072 _ (by omega) i k

/-- The second branch's columns of a block of rows. -/
theorem pay44_at (i : Fin 256) (k : Fin 384) :
    (k0_pay44 (F := Ideal) x g w x3 x4 gl x6 x7 wv (ix2 i k) : EReal) = inner x g w i ⟨4096 + k.val, by omega⟩ := by
  unfold k0_pay44
  rw [View.ld_unit_zero zeros, View.ld_unit_zero zeros]
  unfold k0_pay6
  simp only [shapeCast_self]
  exact cols_at x g w 4096 _ (by omega) i k

/-- The third branch's columns of a block of rows. -/
theorem pay45_at (i : Fin 256) (k : Fin 768) :
    (k0_pay45 (F := Ideal) x g w x3 x4 gl x6 x7 wv (ix2 i k) : EReal) = inner x g w i ⟨4480 + k.val, by omega⟩ := by
  unfold k0_pay45
  rw [View.ld_unit_zero zeros, View.ld_unit_zero zeros]
  unfold k0_pay7
  simp only [shapeCast_self]
  exact cols_at x g w 4480 _ (by omega) i k

/-- The compressed rows of a block. -/
theorem pay48_at (i : Fin 256) (d : Fin 128) :
    (k0_pay48 (F := Ideal) x g w x3 x4 gl x6 x7 wv (ix2 i d) : EReal)
      = norm128 (fun e => inner x g w i ⟨4352 + e.val, by omega⟩) (gains gl) d := by
  unfold k0_pay48
  rw [View.ld_unit_zero zeros]
  have hc : ∀ e : Fin 128, (extractStridedSlice S256x128 ![0, 256] (k0_pay44 (F := Ideal) x g w x3 x4 gl x6 x7 wv) slices_S256x384_o0_256_S256x128 (ix2 i e) : EReal)
      = inner x g w i ⟨4352 + e.val, by omega⟩ := fun e => by
    refine (extractStridedSlice_apply _ _ _ _ (ix2 i ⟨256 + e.val, by omega⟩) fun a => ?_).trans ((pay44_at x g w x3 x4 gl x6 x7 wv i _).trans ?_)
    · match a with
      | ⟨0, _⟩ => exact (Nat.zero_add _).symm
      | ⟨1, _⟩ => rfl
    · exact congrArg (inner x g w i) (Fin.ext (by show 4096 + (256 + e.val) = 4352 + e.val; omega))
  generalize k0_pay44 (F := Ideal) x g w x3 x4 gl x6 x7 wv = z at hc
  unfold k0_pay15
  simp only [shapeCast_self]
  refine (scaled_rows (by omega) (by omega) 0x43000000#32 _ gl _ _ _ _ _ _ i d).trans ?_
  show (fun e => (extractStridedSlice S256x128 ![0, 256] z slices_S256x384_o0_256_S256x128 (ix2 i e) : EReal)) d
      * Ideal.rsqrt (Ideal.div (∑ e, (fun e => (extractStridedSlice S256x128 ![0, 256] z slices_S256x384_o0_256_S256x128 (ix2 i e) : EReal)) e
        * (fun e => (extractStridedSlice S256x128 ![0, 256] z slices_S256x384_o0_256_S256x128 (ix2 i e) : EReal)) e) narrow + tiny) * gl (ix2 0 d) = _
  rw [show (fun e => (extractStridedSlice S256x128 ![0, 256] z slices_S256x384_o0_256_S256x128 (ix2 i e) : EReal)) = _ from funext hc]
  rfl

/-- The compressed rows of a block, as written. -/
theorem lat_at (i : Fin 256) (d : Fin 128) :
    (out0_14 (F := Ideal) x g w x3 x4 gl x6 x7 wv (ix2 i d) : EReal)
      = norm128 (fun e => inner x g w i ⟨4352 + e.val, by omega⟩) (gains gl) d := by
  unfold out0_14
  rw [View.canon_unit_zero zeros]
  exact pay48_at x g w x3 x4 gl x6 x7 wv i d

/-- The values of the attention of a block of rows. -/
theorem vv_at (i : Fin 256) (n : Fin 512) :
    (out0_13 (F := Ideal) x g w x3 x4 gl x6 x7 wv (ix2 i n) : EReal)
      = along (norm128 (fun e => inner x g w i ⟨4352 + e.val, by omega⟩) (gains gl)) (mat wv) n := by
  unfold out0_13
  rw [View.canon_unit_zero zeros, View.ld_unit_zero zeros]
  have h := pay48_at x g w x3 x4 gl x6 x7 wv i
  generalize k0_pay48 (F := Ideal) x g w x3 x4 gl x6 x7 wv = z at h
  unfold k0_pay2 k0_pay16
  simp only [shapeCast_self]
  exact (mm (φ₁ := .bf16) _ wv i n).trans (along_congr (fun d => h d) fun _ => rfl)

/-- The third branch's keys of a block of rows. -/
theorem sbk_at (i : Fin 256) (k : Fin 256) :
    (out0_16 (F := Ideal) x g w x3 x4 gl x6 x7 wv (ix2 i k) : EReal) = inner x g w i ⟨4736 + k.val, by omega⟩ := by
  unfold out0_16
  rw [View.canon_unit_zero zeros]
  unfold k0_pay9
  refine (extractStridedSlice_apply _ _ _ _ (ix2 i ⟨256 + k.val, by omega⟩) fun a => ?_).trans ((pay45_at x g w x3 x4 gl x6 x7 wv i _).trans ?_)
  · match a with
    | ⟨0, _⟩ => exact (Nat.zero_add _).symm
    | ⟨1, _⟩ => rfl
  · exact congrArg (inner x g w i) (Fin.ext (by show 4480 + (256 + k.val) = 4736 + k.val; omega))

/-- The third branch's values of a block of rows. -/
theorem sbv_at (i : Fin 256) (k : Fin 256) :
    (out0_17 (F := Ideal) x g w x3 x4 gl x6 x7 wv (ix2 i k) : EReal) = inner x g w i ⟨4992 + k.val, by omega⟩ := by
  unfold out0_17
  rw [View.canon_unit_zero zeros]
  unfold k0_pay10
  refine (extractStridedSlice_apply _ _ _ _ (ix2 i ⟨512 + k.val, by omega⟩) fun a => ?_).trans ((pay45_at x g w x3 x4 gl x6 x7 wv i _).trans ?_)
  · match a with
    | ⟨0, _⟩ => exact (Nat.zero_add _).symm
    | ⟨1, _⟩ => rfl
  · exact congrArg (inner x g w i) (Fin.ext (by show 4480 + (512 + k.val) = 4992 + k.val; omega))

/-- All of the third branch's columns of a block of rows. -/
theorem sbqkv_at (i : Fin 256) (k : Fin 768) :
    (out0_18 (F := Ideal) x g w x3 x4 gl x6 x7 wv (ix2 i k) : EReal) = inner x g w i ⟨4480 + k.val, by omega⟩ := by
  unfold out0_18
  rw [View.canon_unit_zero zeros]
  exact pay45_at x g w x3 x4 gl x6 x7 wv i k

end Cert.ProjectIdeal.Rows

end
-- ==== Proof.ProjectValue.lean ====
/-
  The projecting call's results, element by element, and the run that leaves them.
-/
module

public import proofs.«01_k».proof.Proof.ProjectBlock
public import proofs.«01_k».proof.Proof.MergeValue
public import Idealize.ShloMosaic.Lib.StableHlo.RunRead

@[expose] public section

set_option maxRecDepth 16384

noncomputable section

namespace Layer

open Idealize.ShloMosaic

/-- A stretch of a matrix's columns. -/
theorem cut_cols {α : Type} {k n p : ℕ} (w : (⟨2, ![k, n]⟩ : Shape).Idx → α) (o : ℕ) (h : (⟨2, ![k, n]⟩ : Shape).Slices ![0, o] ⟨2, ![k, p]⟩) (ho : o + p ≤ n)
    (e : Fin k) (j : Fin p) : extractStridedSlice ⟨2, ![k, p]⟩ ![0, o] w h (ix2 e j) = w (ix2 e ⟨o + j.val, by omega⟩) := by
  refine extractStridedSlice_apply _ _ _ _ _ fun a => ?_
  match a with
  | ⟨0, _⟩ => exact (Nat.zero_add _).symm
  | ⟨1, _⟩ => rfl

variable (x : (⟨3, ![16, 2048, 1024]⟩ : Shape).Idx → EReal) (g : (⟨1, ![1024]⟩ : Shape).Idx → EReal) (w : (⟨2, ![1024, 5280]⟩ : Shape).Idx → EReal)

/-- One number of a token's projected row. -/
def proj (r : Fin 32768) (k : Fin 5280) : EReal := along (norm (row3 x (sq r) (tm r)) (vec g)) (mat2 w) k

/-- The gates of every token. -/
def gatesAll : (⟨2, ![32768, 3072]⟩ : Shape).Idx → EReal := fun j => Ideal.logistic (proj x g w (j 0) ⟨(j 1).val, by have h : (j 1).val < 3072 := (j 1).isLt; omega⟩)

/-- A stretch of columns of every token's projected row. -/
def colsAll (n o : ℕ) (ho : o + n ≤ 5280) : (⟨2, ![32768, n]⟩ : Shape).Idx → EReal := fun j =>
  proj x g w (j 0) ⟨o + (j 1).val, by have h : (j 1).val < n := (j 1).isLt; omega⟩

/-- The compressed row of a token. -/
def latent (gl : (⟨1, ![128]⟩ : Shape).Idx → EReal) (r : Fin 32768) : Fin 128 → EReal := norm128 (fun e => proj x g w r ⟨4352 + e.val, by omega⟩) (vec gl)

/-- The compressed rows of all tokens. -/
def latentAll (gl : (⟨1, ![128]⟩ : Shape).Idx → EReal) : (⟨2, ![32768, 128]⟩ : Shape).Idx → EReal := fun j => latent x g w gl (j 0) (j 1)

/-- The values of the attention of all tokens. -/
def valuesAll (gl : (⟨1, ![128]⟩ : Shape).Idx → EReal) (wv : (⟨2, ![128, 512]⟩ : Shape).Idx → EReal) : (⟨2, ![32768, 512]⟩ : Shape).Idx → EReal := fun j =>
  along (latent x g w gl (j 0)) (mat2 wv) (j 1)

end Layer

namespace Cert.ProjectIdeal.Rows

open Cert.ProjectIdeal Cert.ProjectIdeal.Gen
open Idealize.ShloMosaic Idealize.ShloMosaic.TcCoe Idealize.ShloMosaic.Tactic
open Idealize.SL.Sem
open Idealize.ShloMosaic.Pipeline (Dat)
open Layer

variable (m : (ℓ : Loc nD τ sig) → Buf (Elt Ideal) ℓ) (c : Dev nD)

/-- The activations. -/
abbrev a0 : FVec Ideal S16x2048x1024 .f32 := m ((c : Thread nD τ).loc main_arg0)

/-- The gains of the first norm. -/
abbrev a1 : FVec Ideal S1024 .f32 := m ((c : Thread nD τ).loc main_arg1)

/-- The layer's first matrix. -/
abbrev a2 : FVec Ideal S1024x5280 .f32 := m ((c : Thread nD τ).loc main_arg2)

/-- The gains of the compressed row. -/
abbrev a5 : FVec Ideal S128 .f32 := m ((c : Thread nD τ).loc main_arg5)

/-- The matrix from compressed rows to values. -/
abbrev a7 : FVec Ideal S128x512 .f32 := m ((c : Thread nD τ).loc main_arg7)

/-- The activations, as passed. -/
theorem V_x : (V m c main_v36 : FVec Ideal S32768x1024 .f32) = shapeCast S32768x1024 (a0 m c) shapeCasts_S16x2048x1024_S32768x1024 := by
  simp only [V, List.flatten_cons, List.flatten_nil, List.append_nil]
  after_reads_simp
  rfl

/-- The gains of the first norm, as passed. -/
theorem V_g : (V m c main_v60 : FVec Ideal S1x1024 .f32) = shapeCast S1x1024 (a1 m c) shapeCasts_S1024_S1x1024 := by
  simp only [V, List.flatten_cons, List.flatten_nil, List.append_nil]
  after_reads_simp
  rfl

/-- The gains of the compressed row, as passed. -/
theorem V_gl : (V m c main_v12 : FVec Ideal S1x128 .f32) = shapeCast S1x128 (a5 m c) shapeCasts_S128_S1x128 := by
  simp only [V, List.flatten_cons, List.flatten_nil, List.append_nil]
  after_reads_simp
  rfl

/-- The matrix from compressed rows to values, as passed. -/
theorem V_wv : (V m c main_v35 : FVec Ideal S128x512 .bf16) = truncf (F := Ideal) .bf16 (a7 m c) bitsLt_bf16_f32 := by
  simp only [V, List.flatten_cons, List.flatten_nil, List.append_nil]
  after_reads_simp

/-- The pieces that the layer's first matrix is passed in: its columns but the 32 rotary ones, and two stretches made of those. -/
abbrev pieces : List ((s : Shape) × (s.Idx → EReal)) :=
    [⟨S1024x4480, extractStridedSlice S1024x4480 ![0, 0] (a2 m c) slices_S1024x5280_S1024x4480_0_0⟩,
     ⟨S1024x768, extractStridedSlice S1024x768 ![0, 4512] (a2 m c) slices_S1024x5280_S1024x768_0_4512⟩,
     ⟨S1024x128, (V m c main_v3 : FVec Ideal S1024x128 .f32)⟩, ⟨S1024x128, (V m c main_v8 : FVec Ideal S1024x128 .f32)⟩]

/-- The layer's first matrix, as passed: its columns but the 32 rotary ones, and after them two stretches made of those. -/
theorem V_win : (V m c main_v10 : FVec Ideal S1024x5504 .bf16) = truncf (F := Ideal) .bf16 (concatenate S1024x5504 1 (pieces m c)
    concatenates_S1024x4480_S1024x768_S1024x128_S1024x128_S1024x5504_d1 : FVec Ideal S1024x5504 .f32) bitsLt_bf16_f32 := by
  simp only [V, List.flatten_cons, List.flatten_nil, List.append_nil]
  after_reads_simp
  rfl

/-- The first matrix as passed, in its first stretch of columns. -/
theorem win_lo (e : Fin 1024) (n : Fin 5504) (h : n.val < 4480) : (V m c main_v10 : FVec Ideal S1024x5504 .bf16) (ix2 e n) = a2 m c (ix2 e ⟨n.val, by omega⟩) := by
  refine (congrFun (V_win m c) (ix2 e n)).trans ?_
  show (concatenate S1024x5504 1 (pieces m c) concatenates_S1024x4480_S1024x768_S1024x128_S1024x128_S1024x5504_d1 : FVec Ideal S1024x5504 .f32) (ix2 e n) = _
  refine (concatenate_apply_piece 1 (pieces m c) concatenates_S1024x4480_S1024x768_S1024x128_S1024x128_S1024x5504_d1 _ 0 (Nat.lt_of_sub_eq_succ rfl) S1024x4480 _ rfl rfl 0 rfl (ix2 (n1 := 4480) e ⟨n.val, h⟩) (fun b hb => ?_) ?_).trans ?_
  · match b, hb with
    | ⟨0, _⟩, _ => rfl
    | ⟨1, _⟩, hb => exact absurd rfl hb
  · exact Nat.zero_add _
  · refine extractStridedSlice_apply _ _ _ _ _ fun a => ?_
    match a with
    | ⟨0, _⟩ => exact (Nat.zero_add _).symm
    | ⟨1, _⟩ => exact (Nat.zero_add _).symm

/-- The first matrix as passed, in its second stretch of columns. -/
theorem win_hi (e : Fin 1024) (n : Fin 5504) (h : 4480 ≤ n.val) (h' : n.val < 5248) :
    (V m c main_v10 : FVec Ideal S1024x5504 .bf16) (ix2 e n) = a2 m c (ix2 e ⟨n.val + 32, by omega⟩) := by
  refine (congrFun (V_win m c) (ix2 e n)).trans ?_
  show (concatenate S1024x5504 1 (pieces m c) concatenates_S1024x4480_S1024x768_S1024x128_S1024x128_S1024x5504_d1 : FVec Ideal S1024x5504 .f32) (ix2 e n) = _
  refine (concatenate_apply_piece 1 (pieces m c) concatenates_S1024x4480_S1024x768_S1024x128_S1024x128_S1024x5504_d1 _ 1 (Nat.lt_of_sub_eq_succ rfl) S1024x768 _ rfl rfl 4480 rfl (ix2 (n1 := 768) e ⟨n.val - 4480, by omega⟩) (fun b hb => ?_) ?_).trans ?_
  · match b, hb with
    | ⟨0, _⟩, _ => rfl
    | ⟨1, _⟩, hb => exact absurd rfl hb
  · show 4480 + (n.val - 4480) = n.val
    omega
  · refine (cut_cols (a2 m c) 4512 _ (by omega) e ⟨n.val - 4480, by omega⟩).trans (congrArg (fun q => a2 m c (ix2 e q)) (Fin.ext ?_))
    show 4512 + (n.val - 4480) = n.val + 32
    omega

/-- Where the blocks of rows stand. -/
theorem index_rows : ∀ t : Fin cfg0.N, win0_0.index t = ![t.val, 0] ∧ win0_9.index t = ![t.val, 0] ∧ win0_10.index t = ![t.val, 0]
    ∧ win0_13.index t = ![t.val, 0] ∧ win0_14.index t = ![t.val, 0] ∧ win0_16.index t = ![t.val, 0] ∧ win0_17.index t = ![t.val, 0] ∧ win0_18.index t = ![t.val, 0] :=
  (by decide +kernel : ∀ t : Fin grid0.N, win0_0.index t = ![t.val, 0] ∧ win0_9.index t = ![t.val, 0] ∧ win0_10.index t = ![t.val, 0]
    ∧ win0_13.index t = ![t.val, 0] ∧ win0_14.index t = ![t.val, 0] ∧ win0_16.index t = ![t.val, 0] ∧ win0_17.index t = ![t.val, 0] ∧ win0_18.index t = ![t.val, 0])

/-- The weights and the gains stand still. -/
theorem index_still : ∀ t : Fin cfg0.N, win0_1.index t = ![0, 0] ∧ win0_2.index t = ![0, 0] ∧ win0_5.index t = ![0, 0] ∧ win0_8.index t = ![0, 0] :=
  (by decide +kernel : ∀ t : Fin grid0.N, win0_1.index t = ![0, 0] ∧ win0_2.index t = ![0, 0] ∧ win0_5.index t = ![0, 0] ∧ win0_8.index t = ![0, 0])

/-- A row of a point's block, among all tokens. -/
def tok (t : Fin cfg0.N) (i : Fin 256) : Fin 32768 := ⟨256 * t.val + i.val, by have h : t.val < 128 := t.isLt; omega⟩

/-- The activations' block at a point. -/
theorem blk_x (t : Fin cfg0.N) (i : Fin 256) : rowOf (φ := .f32) (iblk m c 0 t : FVec Ideal S256x1024 .f32) i = row3 (a0 m c) (sq (tok t i)) (tm (tok t i)) := funext fun d => by
  have h := (index_rows t).1
  refine Eq.trans ?_ ((congrFun (V_x m c) (ix2 (tok t i) d)).trans (flat_at _ _ _ _))
  show (V m c main_v36 : FVec Ideal S32768x1024 .f32) ((win0_0.blk t).view.emb (ix2 i d)) = _
  refine congrArg _ (funext fun a => Fin.ext ?_)
  match a with
  | ⟨0, _⟩ => blk_simp [h]; show t.val * 256 + i.val = 256 * t.val + i.val; omega
  | ⟨1, _⟩ => blk_simp [h]

/-- The gains of the first norm at a point. -/
theorem blk_g (t : Fin cfg0.N) : gains (iblk m c 1 t : FVec Ideal S1x1024 .f32) = vec (a1 m c) := funext fun e => by
  have h := (index_still t).1
  refine Eq.trans ?_ ((congrFun (V_g m c) (ix2 0 e)).trans (row_at _ _ _))
  show (V m c main_v60 : FVec Ideal S1x1024 .f32) ((win0_1.blk t).view.emb (ix2 0 e)) = _
  refine congrArg _ (funext fun a => Fin.ext ?_)
  match a with
  | ⟨0, _⟩ => blk_simp [h]
  | ⟨1, _⟩ => blk_simp [h]

/-- The first matrix at a point. -/
theorem blk_win (t : Fin cfg0.N) : mat (φ := .bf16) (iblk m c 2 t : FVec Ideal S1024x5504 .bf16) = mat (φ := .bf16) (V m c main_v10 : FVec Ideal S1024x5504 .bf16) := funext fun e => funext fun n => by
  have h := (index_still t).2.1
  show (V m c main_v10 : FVec Ideal S1024x5504 .bf16) ((win0_2.blk t).view.emb (ix2 e n)) = _
  refine congrArg _ (funext fun a => Fin.ext ?_)
  match a with
  | ⟨0, _⟩ => blk_simp [h]
  | ⟨1, _⟩ => blk_simp [h]

/-- The gains of the compressed row at a point. -/
theorem blk_gl (t : Fin cfg0.N) : gains (iblk m c 5 t : FVec Ideal S1x128 .f32) = vec (a5 m c) := funext fun e => by
  have h := (index_still t).2.2.1
  refine Eq.trans ?_ ((congrFun (V_gl m c) (ix2 0 e)).trans (row_at _ _ _))
  show (V m c main_v12 : FVec Ideal S1x128 .f32) ((win0_5.blk t).view.emb (ix2 0 e)) = _
  refine congrArg _ (funext fun a => Fin.ext ?_)
  match a with
  | ⟨0, _⟩ => blk_simp [h]
  | ⟨1, _⟩ => blk_simp [h]

/-- The matrix from compressed rows to values at a point. -/
theorem blk_wv (t : Fin cfg0.N) : mat (φ := .bf16) (iblk m c 8 t : FVec Ideal S128x512 .bf16) = mat2 (a7 m c) := funext fun e => funext fun n => by
  have h := (index_still t).2.2.2
  refine Eq.trans ?_ (congrFun (V_wv m c) (ix2 e n))
  show (V m c main_v35 : FVec Ideal S128x512 .bf16) ((win0_8.blk t).view.emb (ix2 e n)) = _
  refine congrArg _ (funext fun a => Fin.ext ?_)
  match a with
  | ⟨0, _⟩ => blk_simp [h]
  | ⟨1, _⟩ => blk_simp [h]

/-- A number of a point's rows in the first stretch of columns. -/
theorem inner_lo (t : Fin cfg0.N) (i : Fin 256) (k : Fin 5504) (h : k.val < 4480) :
    inner (iblk m c 0 t : FVec Ideal S256x1024 .f32) (iblk m c 1 t : FVec Ideal S1x1024 .f32) (iblk m c 2 t : FVec Ideal S1024x5504 .bf16) i k
      = proj (a0 m c) (a1 m c) (a2 m c) (tok t i) ⟨k.val, by omega⟩ := by
  show along (norm (rowOf (φ := .f32) (iblk m c 0 t : FVec Ideal S256x1024 .f32) i) (gains (iblk m c 1 t : FVec Ideal S1x1024 .f32)))
    (mat (φ := .bf16) (iblk m c 2 t : FVec Ideal S1024x5504 .bf16)) k = _
  rw [blk_x m c t i, blk_g m c t, blk_win m c t]
  exact along_congr (fun _ => rfl) fun e => win_lo m c e k h

/-- A number of a point's rows in the second stretch of columns. -/
theorem inner_hi (t : Fin cfg0.N) (i : Fin 256) (k : Fin 5504) (h : 4480 ≤ k.val) (h' : k.val < 5248) :
    inner (iblk m c 0 t : FVec Ideal S256x1024 .f32) (iblk m c 1 t : FVec Ideal S1x1024 .f32) (iblk m c 2 t : FVec Ideal S1024x5504 .bf16) i k
      = proj (a0 m c) (a1 m c) (a2 m c) (tok t i) ⟨k.val + 32, by omega⟩ := by
  show along (norm (rowOf (φ := .f32) (iblk m c 0 t : FVec Ideal S256x1024 .f32) i) (gains (iblk m c 1 t : FVec Ideal S1x1024 .f32)))
    (mat (φ := .bf16) (iblk m c 2 t : FVec Ideal S1024x5504 .bf16)) k = _
  rw [blk_x m c t i, blk_g m c t, blk_win m c t]
  exact along_congr (fun _ => rfl) fun e => win_hi m c e k h h'

/-- The compressed rows at a point. -/
theorem latent_at (t : Fin cfg0.N) (i : Fin 256) :
    norm128 (fun e => inner (iblk m c 0 t : FVec Ideal S256x1024 .f32) (iblk m c 1 t : FVec Ideal S1x1024 .f32) (iblk m c 2 t : FVec Ideal S1024x5504 .bf16) i
        ⟨4352 + e.val, by omega⟩) (gains (iblk m c 5 t : FVec Ideal S1x128 .f32))
      = latent (a0 m c) (a1 m c) (a2 m c) (a5 m c) (tok t i) := by
  rw [blk_gl m c t]
  exact congrArg (fun r => norm128 r (vec (a5 m c))) (funext fun e => inner_lo m c t i _ (by show 4352 + e.val < 4480; omega))

/-- The gates after the run. -/
theorem final_sg : ((dats m 0 c).arrAt 9 cfg0.N : FVec Ideal S32768x3072 .f32) = gatesAll (a0 m c) (a1 m c) (a2 m c) := by
  refine Dat.arrAt_eq_of_covers _ 9 _ (by decide +kernel) fun t hf y => ?_
  show (dats m 0 c).after 9 t y = _
  rw [after0_9]
  refine (congrArg (out0_9 (F := Ideal) (iblk m c 0 t) (iblk m c 1 t) (iblk m c 2 t) (iblk m c 3 t) (iblk m c 4 t) (iblk m c 5 t) (iblk m c 6 t)
    (iblk m c 7 t) (iblk m c 8 t)) (ix2_eta (n0 := 256) (n1 := 3072) y).symm).trans ?_
  refine (sg_at _ _ _ _ _ _ _ _ _ _ _).trans ?_
  have h := (index_rows t).2.1
  have e0 : ((win0_9.blk t).view.emb y : S32768x3072.Idx) 0 = tok t (y 0) := Fin.ext (by
    blk_simp [h]; show t.val * 256 + (y 0).val = 256 * t.val + (y 0).val; omega)
  have e1 : ((win0_9.blk t).view.emb y : S32768x3072.Idx) 1 = y 1 := Fin.ext (by blk_simp [h])
  have e2 : (((win0_9.blk t).view.emb y : S32768x3072.Idx) 1).val = (y 1).val := congrArg Fin.val e1
  have hy : (y 1).val < 3072 := (y 1).isLt
  show _ = gatesAll (a0 m c) (a1 m c) (a2 m c) ((win0_9.blk t).view.emb y)
  unfold gatesAll
  rw [e0]
  exact congrArg Ideal.logistic ((inner_lo m c t (y 0) _ (by show 0 + (y 1).val < 4480; omega)).trans (congrArg (proj (a0 m c) (a1 m c) (a2 m c) _) (Fin.ext (by show 0 + (y 1).val = (((win0_9.blk t).view.emb y : S32768x3072.Idx) 1).val; rw [e2]; exact Nat.zero_add _))))

/-- The first branch's columns after the run. -/
theorem final_pa : ((dats m 0 c).arrAt 10 cfg0.N : FVec Ideal S32768x1024 .f32) = colsAll (a0 m c) (a1 m c) (a2 m c) 1024 3072 (by omega) := by
  refine Dat.arrAt_eq_of_covers _ 10 _ (by decide +kernel) fun t hf y => ?_
  show (dats m 0 c).after 10 t y = _
  rw [after0_10]
  refine (congrArg (out0_10 (F := Ideal) (iblk m c 0 t) (iblk m c 1 t) (iblk m c 2 t) (iblk m c 3 t) (iblk m c 4 t) (iblk m c 5 t) (iblk m c 6 t)
    (iblk m c 7 t) (iblk m c 8 t)) (ix2_eta (n0 := 256) (n1 := 1024) y).symm).trans ?_
  refine (pa_at _ _ _ _ _ _ _ _ _ _ _).trans ?_
  have h := (index_rows t).2.2.1
  have e0 : ((win0_10.blk t).view.emb y : S32768x1024.Idx) 0 = tok t (y 0) := Fin.ext (by
    blk_simp [h]; show t.val * 256 + (y 0).val = 256 * t.val + (y 0).val; omega)
  have e1 : ((win0_10.blk t).view.emb y : S32768x1024.Idx) 1 = y 1 := Fin.ext (by blk_simp [h])
  have e2 : (((win0_10.blk t).view.emb y : S32768x1024.Idx) 1).val = (y 1).val := congrArg Fin.val e1
  have hy : (y 1).val < 1024 := (y 1).isLt
  show _ = colsAll (a0 m c) (a1 m c) (a2 m c) 1024 3072 (by omega) ((win0_10.blk t).view.emb y)
  unfold colsAll
  rw [e0]
  exact (inner_lo m c t (y 0) _ (by show 3072 + (y 1).val < 4480; omega)).trans (congrArg (proj (a0 m c) (a1 m c) (a2 m c) _) (Fin.ext (by show 3072 + (y 1).val = 3072 + (((win0_10.blk t).view.emb y : S32768x1024.Idx) 1).val; rw [e2])))

/-- The values of the attention after the run. -/
theorem final_vv : ((dats m 0 c).arrAt 13 cfg0.N : FVec Ideal S32768x512 .bf16) = valuesAll (a0 m c) (a1 m c) (a2 m c) (a5 m c) (a7 m c) := by
  refine Dat.arrAt_eq_of_covers _ 13 _ (by decide +kernel) fun t hf y => ?_
  show (dats m 0 c).after 13 t y = _
  rw [after0_13]
  refine (congrArg (out0_13 (F := Ideal) (iblk m c 0 t) (iblk m c 1 t) (iblk m c 2 t) (iblk m c 3 t) (iblk m c 4 t) (iblk m c 5 t) (iblk m c 6 t)
    (iblk m c 7 t) (iblk m c 8 t)) (ix2_eta (n0 := 256) (n1 := 512) y).symm).trans ?_
  refine (vv_at _ _ _ _ _ _ _ _ _ _ _).trans ?_
  have h := (index_rows t).2.2.2.1
  have e0 : ((win0_13.blk t).view.emb y : S32768x512.Idx) 0 = tok t (y 0) := Fin.ext (by
    blk_simp [h]; show t.val * 256 + (y 0).val = 256 * t.val + (y 0).val; omega)
  have e1 : ((win0_13.blk t).view.emb y : S32768x512.Idx) 1 = y 1 := Fin.ext (by blk_simp [h])
  have hy : (y 1).val < 512 := (y 1).isLt
  show _ = valuesAll (a0 m c) (a1 m c) (a2 m c) (a5 m c) (a7 m c) ((win0_13.blk t).view.emb y)
  unfold valuesAll
  rw [e0, e1]
  rw [latent_at m c t (y 0), blk_wv m c t]

/-- The compressed rows after the run. -/
theorem final_lat : ((dats m 0 c).arrAt 14 cfg0.N : FVec Ideal S32768x128 .f32) = latentAll (a0 m c) (a1 m c) (a2 m c) (a5 m c) := by
  refine Dat.arrAt_eq_of_covers _ 14 _ (by decide +kernel) fun t hf y => ?_
  show (dats m 0 c).after 14 t y = _
  rw [after0_14]
  refine (congrArg (out0_14 (F := Ideal) (iblk m c 0 t) (iblk m c 1 t) (iblk m c 2 t) (iblk m c 3 t) (iblk m c 4 t) (iblk m c 5 t) (iblk m c 6 t)
    (iblk m c 7 t) (iblk m c 8 t)) (ix2_eta (n0 := 256) (n1 := 128) y).symm).trans ?_
  refine (lat_at _ _ _ _ _ _ _ _ _ _ _).trans ?_
  have h := (index_rows t).2.2.2.2.1
  have e0 : ((win0_14.blk t).view.emb y : S32768x128.Idx) 0 = tok t (y 0) := Fin.ext (by
    blk_simp [h]; show t.val * 256 + (y 0).val = 256 * t.val + (y 0).val; omega)
  have e1 : ((win0_14.blk t).view.emb y : S32768x128.Idx) 1 = y 1 := Fin.ext (by blk_simp [h])
  have hy : (y 1).val < 128 := (y 1).isLt
  show _ = latentAll (a0 m c) (a1 m c) (a2 m c) (a5 m c) ((win0_14.blk t).view.emb y)
  unfold latentAll
  rw [e0, e1]
  rw [latent_at m c t (y 0)]

/-- The third branch's keys after the run. -/
theorem final_sbk : ((dats m 0 c).arrAt 16 cfg0.N : FVec Ideal S32768x256 .f32) = colsAll (a0 m c) (a1 m c) (a2 m c) 256 4768 (by omega) := by
  refine Dat.arrAt_eq_of_covers _ 16 _ (by decide +kernel) fun t hf y => ?_
  show (dats m 0 c).after 16 t y = _
  rw [after0_16]
  refine (congrArg (out0_16 (F := Ideal) (iblk m c 0 t) (iblk m c 1 t) (iblk m c 2 t) (iblk m c 3 t) (iblk m c 4 t) (iblk m c 5 t) (iblk m c 6 t)
    (iblk m c 7 t) (iblk m c 8 t)) (ix2_eta (n0 := 256) (n1 := 256) y).symm).trans ?_
  refine (sbk_at _ _ _ _ _ _ _ _ _ _ _).trans ?_
  have h := (index_rows t).2.2.2.2.2.1
  have e0 : ((win0_16.blk t).view.emb y : S32768x256.Idx) 0 = tok t (y 0) := Fin.ext (by
    blk_simp [h]; show t.val * 256 + (y 0).val = 256 * t.val + (y 0).val; omega)
  have e1 : ((win0_16.blk t).view.emb y : S32768x256.Idx) 1 = y 1 := Fin.ext (by blk_simp [h])
  have e2 : (((win0_16.blk t).view.emb y : S32768x256.Idx) 1).val = (y 1).val := congrArg Fin.val e1
  have hy : (y 1).val < 256 := (y 1).isLt
  show _ = colsAll (a0 m c) (a1 m c) (a2 m c) 256 4768 (by omega) ((win0_16.blk t).view.emb y)
  unfold colsAll
  rw [e0]
  exact (inner_hi m c t (y 0) _ (by show 4480 ≤ 4736 + (y 1).val; omega) (by show 4736 + (y 1).val < 5248; omega)).trans (congrArg (proj (a0 m c) (a1 m c) (a2 m c) _) (Fin.ext (by show 4736 + (y 1).val + 32 = 4768 + (((win0_16.blk t).view.emb y : S32768x256.Idx) 1).val; rw [e2]; omega)))

/-- The third branch's values after the run. -/
theorem final_sbv : ((dats m 0 c).arrAt 17 cfg0.N : FVec Ideal S32768x256 .f32) = colsAll (a0 m c) (a1 m c) (a2 m c) 256 5024 (by omega) := by
  refine Dat.arrAt_eq_of_covers _ 17 _ (by decide +kernel) fun t hf y => ?_
  show (dats m 0 c).after 17 t y = _
  rw [after0_17]
  refine (congrArg (out0_17 (F := Ideal) (iblk m c 0 t) (iblk m c 1 t) (iblk m c 2 t) (iblk m c 3 t) (iblk m c 4 t) (iblk m c 5 t) (iblk m c 6 t)
    (iblk m c 7 t) (iblk m c 8 t)) (ix2_eta (n0 := 256) (n1 := 256) y).symm).trans ?_
  refine (sbv_at _ _ _ _ _ _ _ _ _ _ _).trans ?_
  have h := (index_rows t).2.2.2.2.2.2.1
  have e0 : ((win0_17.blk t).view.emb y : S32768x256.Idx) 0 = tok t (y 0) := Fin.ext (by
    blk_simp [h]; show t.val * 256 + (y 0).val = 256 * t.val + (y 0).val; omega)
  have e1 : ((win0_17.blk t).view.emb y : S32768x256.Idx) 1 = y 1 := Fin.ext (by blk_simp [h])
  have e2 : (((win0_17.blk t).view.emb y : S32768x256.Idx) 1).val = (y 1).val := congrArg Fin.val e1
  have hy : (y 1).val < 256 := (y 1).isLt
  show _ = colsAll (a0 m c) (a1 m c) (a2 m c) 256 5024 (by omega) ((win0_17.blk t).view.emb y)
  unfold colsAll
  rw [e0]
  exact (inner_hi m c t (y 0) _ (by show 4480 ≤ 4992 + (y 1).val; omega) (by show 4992 + (y 1).val < 5248; omega)).trans (congrArg (proj (a0 m c) (a1 m c) (a2 m c) _) (Fin.ext (by show 4992 + (y 1).val + 32 = 5024 + (((win0_17.blk t).view.emb y : S32768x256.Idx) 1).val; rw [e2]; omega)))

/-- The third branch's columns after the run. -/
theorem final_sbqkv : ((dats m 0 c).arrAt 18 cfg0.N : FVec Ideal S32768x768 .bf16) = colsAll (a0 m c) (a1 m c) (a2 m c) 768 4512 (by omega) := by
  refine Dat.arrAt_eq_of_covers _ 18 _ (by decide +kernel) fun t hf y => ?_
  show (dats m 0 c).after 18 t y = _
  rw [after0_18]
  refine (congrArg (out0_18 (F := Ideal) (iblk m c 0 t) (iblk m c 1 t) (iblk m c 2 t) (iblk m c 3 t) (iblk m c 4 t) (iblk m c 5 t) (iblk m c 6 t)
    (iblk m c 7 t) (iblk m c 8 t)) (ix2_eta (n0 := 256) (n1 := 768) y).symm).trans ?_
  refine (sbqkv_at _ _ _ _ _ _ _ _ _ _ _).trans ?_
  have h := (index_rows t).2.2.2.2.2.2.2
  have e0 : ((win0_18.blk t).view.emb y : S32768x768.Idx) 0 = tok t (y 0) := Fin.ext (by
    blk_simp [h]; show t.val * 256 + (y 0).val = 256 * t.val + (y 0).val; omega)
  have e1 : ((win0_18.blk t).view.emb y : S32768x768.Idx) 1 = y 1 := Fin.ext (by blk_simp [h])
  have e2 : (((win0_18.blk t).view.emb y : S32768x768.Idx) 1).val = (y 1).val := congrArg Fin.val e1
  have hy : (y 1).val < 768 := (y 1).isLt
  show _ = colsAll (a0 m c) (a1 m c) (a2 m c) 768 4512 (by omega) ((win0_18.blk t).view.emb y)
  unfold colsAll
  rw [e0]
  exact (inner_hi m c t (y 0) _ (by show 4480 ≤ 4480 + (y 1).val; omega) (by show 4480 + (y 1).val < 5248; omega)).trans (congrArg (proj (a0 m c) (a1 m c) (a2 m c) _) (Fin.ext (by show 4480 + (y 1).val + 32 = 4512 + (((win0_18.blk t).view.emb y : S32768x768.Idx) 1).val; rw [e2]; omega)))

end Cert.ProjectIdeal.Rows

end
-- ==== Proof.ProjectRun.lean ====
/-
  The run of the projecting call that leaves its results.
-/
module

public import proofs.«01_k».proof.Proof.ProjectValue

@[expose] public section

set_option maxRecDepth 16384

noncomputable section

namespace Cert.ProjectIdeal.Rows

open Cert.ProjectIdeal Cert.ProjectIdeal.Gen
open Idealize.ShloMosaic Idealize.ShloMosaic.TcCoe
open Idealize.SL.Sem
open Layer

variable (m : (ℓ : Loc nD τ sig) → Buf (Elt Ideal) ℓ) (ρ : Dev nD → PrngReg)

/-- The gates the run leaves. -/
theorem left_sg (r : PUnit × MemSt nD τ sig (Elt Ideal)) (h : Pipeline.FramePost cfgs (dats m) 0 (V m) r) (c : Dev nD) :
    r.2.mem ((c.tc : Thread nD τ).loc main_v61_0) = (gatesAll (a0 m c) (a1 m c) (a2 m c) : FVec Ideal S32768x3072 .f32) :=
  Eq.trans ((h c).1 9) (final_sg m c)

/-- The second branch's columns the run leaves. -/
theorem left_pa (r : PUnit × MemSt nD τ sig (Elt Ideal)) (h : Pipeline.FramePost cfgs (dats m) 0 (V m) r) (c : Dev nD) :
    r.2.mem ((c.tc : Thread nD τ).loc main_v61_1) = (colsAll (a0 m c) (a1 m c) (a2 m c) 1024 3072 (by omega) : FVec Ideal S32768x1024 .f32) :=
  Eq.trans ((h c).1 10) (final_pa m c)

/-- The values the run leaves. -/
theorem left_vv (r : PUnit × MemSt nD τ sig (Elt Ideal)) (h : Pipeline.FramePost cfgs (dats m) 0 (V m) r) (c : Dev nD) :
    r.2.mem ((c.tc : Thread nD τ).loc main_v61_4) = (valuesAll (a0 m c) (a1 m c) (a2 m c) (a5 m c) (a7 m c) : FVec Ideal S32768x512 .bf16) :=
  Eq.trans ((h c).1 13) (final_vv m c)

/-- The compressed rows the run leaves. -/
theorem left_lat (r : PUnit × MemSt nD τ sig (Elt Ideal)) (h : Pipeline.FramePost cfgs (dats m) 0 (V m) r) (c : Dev nD) :
    r.2.mem ((c.tc : Thread nD τ).loc main_v61_5) = (latentAll (a0 m c) (a1 m c) (a2 m c) (a5 m c) : FVec Ideal S32768x128 .f32) :=
  Eq.trans ((h c).1 14) (final_lat m c)

/-- The third branch's keys the run leaves. -/
theorem left_sbk (r : PUnit × MemSt nD τ sig (Elt Ideal)) (h : Pipeline.FramePost cfgs (dats m) 0 (V m) r) (c : Dev nD) :
    r.2.mem ((c.tc : Thread nD τ).loc main_v61_7) = (colsAll (a0 m c) (a1 m c) (a2 m c) 256 4768 (by omega) : FVec Ideal S32768x256 .f32) :=
  Eq.trans ((h c).1 16) (final_sbk m c)

/-- The third branch's values the run leaves. -/
theorem left_sbv (r : PUnit × MemSt nD τ sig (Elt Ideal)) (h : Pipeline.FramePost cfgs (dats m) 0 (V m) r) (c : Dev nD) :
    r.2.mem ((c.tc : Thread nD τ).loc main_v61_8) = (colsAll (a0 m c) (a1 m c) (a2 m c) 256 5024 (by omega) : FVec Ideal S32768x256 .f32) :=
  Eq.trans ((h c).1 17) (final_sbv m c)

/-- The third branch's columns the run leaves. -/
theorem left_sbqkv (r : PUnit × MemSt nD τ sig (Elt Ideal)) (h : Pipeline.FramePost cfgs (dats m) 0 (V m) r) (c : Dev nD) :
    r.2.mem ((c.tc : Thread nD τ).loc main_v61_9) = (colsAll (a0 m c) (a1 m c) (a2 m c) 768 4512 (by omega) : FVec Ideal S32768x768 .bf16) :=
  Eq.trans ((h c).1 18) (final_sbqkv m c)

/-- The seven results the call leaves, and its arguments as they were. -/
theorem run : θ_run defs (onTc (τ := τ) (main (F := Ideal))) ⟨m, fun _ => 0, ρ⟩ fun r => ∀ c : Dev nD,
      r.2.mem ((c.tc : Thread nD τ).loc main_v61_0) = (gatesAll (a0 m c) (a1 m c) (a2 m c) : FVec Ideal S32768x3072 .f32)
      ∧ r.2.mem ((c.tc : Thread nD τ).loc main_v61_1) = (colsAll (a0 m c) (a1 m c) (a2 m c) 1024 3072 (by omega) : FVec Ideal S32768x1024 .f32)
      ∧ r.2.mem ((c.tc : Thread nD τ).loc main_v61_4) = (valuesAll (a0 m c) (a1 m c) (a2 m c) (a5 m c) (a7 m c) : FVec Ideal S32768x512 .bf16)
      ∧ r.2.mem ((c.tc : Thread nD τ).loc main_v61_5) = (latentAll (a0 m c) (a1 m c) (a2 m c) (a5 m c) : FVec Ideal S32768x128 .f32)
      ∧ r.2.mem ((c.tc : Thread nD τ).loc main_v61_7) = (colsAll (a0 m c) (a1 m c) (a2 m c) 256 4768 (by omega) : FVec Ideal S32768x256 .f32)
      ∧ r.2.mem ((c.tc : Thread nD τ).loc main_v61_8) = (colsAll (a0 m c) (a1 m c) (a2 m c) 256 5024 (by omega) : FVec Ideal S32768x256 .f32)
      ∧ r.2.mem ((c.tc : Thread nD τ).loc main_v61_9) = (colsAll (a0 m c) (a1 m c) (a2 m c) 768 4512 (by omega) : FVec Ideal S32768x768 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨left_sg m r h.1 c, left_pa m r h.1 c, left_vv m r h.1 c, left_lat m r h.1 c, left_sbk m r h.1 c, left_sbv m r h.1 c,
    left_sbqkv m r h.1 c, h.2 c⟩) (θ_run_and (run_main m ρ) (unchanged m ρ))

end Cert.ProjectIdeal.Rows

end
-- ==== Proof.ProjectRef.lean ====
/-
  The reference's projection, element by element.
-/
module

public import proofs.«01_k».proof.Proof.Gen.ProjectReferenceIdeal.Run
public import proofs.«01_k».proof.Proof.MergeRef
public import proofs.«01_k».proof.Proof.ProjectValue

@[expose] public section

set_option maxRecDepth 16384

noncomputable section

namespace Layer

open Idealize.ShloMosaic

/-- The reference's normalised compressed rows. -/
def hostNarrow (x : FVec Ideal ⟨3, ![16, 2048, 128]⟩ .f32) (g : FVec Ideal ⟨1, ![128]⟩ .f32)
    (h1 : (⟨3, ![16, 2048, 128]⟩ : Shape).ReducesTo [2] ⟨2, ![16, 2048]⟩) (hu : 0 < (⟨0, ![]⟩ : Shape).numel)
    (h2 : (⟨2, ![16, 2048]⟩ : Shape).BroadcastsInDim ⟨3, ![16, 2048, 1]⟩ (![0, 1] : Fin 2 → Fin 3))
    (h3 : (⟨0, ![]⟩ : Shape).BroadcastsInDim ⟨3, ![16, 2048, 1]⟩ (![] : Fin 0 → Fin 3))
    (h4 : (⟨3, ![16, 2048, 1]⟩ : Shape).BroadcastsInDim ⟨3, ![16, 2048, 128]⟩ (![0, 1, 2] : Fin 3 → Fin 3))
    (h5 : (⟨1, ![128]⟩ : Shape).BroadcastsInDim ⟨3, ![1, 1, 128]⟩ (![2] : Fin 1 → Fin 3))
    (h6 : (⟨3, ![1, 1, 128]⟩ : Shape).BroadcastsInDim ⟨3, ![16, 2048, 128]⟩ (![0, 1, 2] : Fin 3 → Fin 3)) : FVec Ideal ⟨3, ![16, 2048, 128]⟩ .f32 :=
  mulf (mulf x (broadcastInDim ⟨3, ![16, 2048, 128]⟩ ![0, 1, 2] h4 (Host.rsqrt (addf (Host.divf
    (broadcastInDim ⟨3, ![16, 2048, 1]⟩ ![0, 1] h2 (Host.reduceAdd (mulf x x) (constant ⟨0, ![]⟩ .f32 0x00000000#32 : FVec Ideal ⟨0, ![]⟩ .f32) h1 hu))
    (broadcastInDim ⟨3, ![16, 2048, 1]⟩ ![] h3 (constant ⟨0, ![]⟩ .f32 0x43000000#32 : FVec Ideal ⟨0, ![]⟩ .f32)))
    (broadcastInDim ⟨3, ![16, 2048, 1]⟩ ![] h3 (constant ⟨0, ![]⟩ .f32 0x358637BD#32 : FVec Ideal ⟨0, ![]⟩ .f32))))))
    (broadcastInDim ⟨3, ![16, 2048, 128]⟩ ![0, 1, 2] h6 (broadcastInDim ⟨3, ![1, 1, 128]⟩ ![2] h5 g))

/-- The reference's normalised compressed rows, element by element. -/
theorem hostNarrow_at (x g) (h1 hu h2 h3 h4 h5 h6) (b : Fin 16) (t : Fin 2048) (d : Fin 128) :
    (hostNarrow x g h1 hu h2 h3 h4 h5 h6 (ix3 b t d) : EReal) = norm128 (fun e => x (ix3 b t e)) (fun e => g (ix1 e)) d := by
  unfold hostNarrow
  refine congrArg₂ (· * ·) (congrArg (x (ix3 b t d) * ·) ?_) ?_
  · refine (broadcastInDim_apply _ _ _ _ (ix3 (n2 := 1) b t 0) fun a => by match a with | ⟨0, _⟩ => rfl | ⟨1, _⟩ => rfl | ⟨2, _⟩ => rfl).trans ?_
    refine congrArg (fun s => Ideal.rsqrt (Ideal.div s narrow + tiny)) ?_
    refine (broadcastInDim_apply _ _ _ _ (ix2 b t) fun a => by match a with | ⟨0, _⟩ => rfl | ⟨1, _⟩ => rfl).trans ?_
    refine (Ideal.hostReduceAdd_r3_a2 h1 (mulf x x) _ (ix2 b t)).trans ?_
    refine (congrArg (· + _) Ideal.ofBits_zero_f32).trans (zero_add _)
  · refine (broadcastInDim_apply _ _ _ _ (ix3 (n0 := 1) (n1 := 1) 0 0 d) fun a => by match a with | ⟨0, _⟩ => rfl | ⟨1, _⟩ => rfl | ⟨2, _⟩ => rfl).trans ?_
    exact broadcastInDim_apply _ _ _ _ (ix1 d) fun a => by match a with | ⟨0, _⟩ => rfl

/-- A stretch of the columns of a three-axis array. -/
theorem cut3 {α : Type} {n p : ℕ} (x : (⟨3, ![16, 2048, n]⟩ : Shape).Idx → α) (o : ℕ) (h : (⟨3, ![16, 2048, n]⟩ : Shape).Slices ![0, 0, o] ⟨3, ![16, 2048, p]⟩)
    (ho : o + p ≤ n) (b : Fin 16) (t : Fin 2048) (j : Fin p) :
    extractStridedSlice ⟨3, ![16, 2048, p]⟩ ![0, 0, o] x h (ix3 b t j) = x (ix3 b t ⟨o + j.val, by omega⟩) := by
  refine extractStridedSlice_apply _ _ _ _ _ fun a => ?_
  match a with
  | ⟨0, _⟩ => exact (Nat.zero_add _).symm
  | ⟨1, _⟩ => exact (Nat.zero_add _).symm
  | ⟨2, _⟩ => rfl

/-- The host's logistic function of a three-axis array. -/
theorem host_gates {n : ℕ} (u : FVec Ideal ⟨3, ![16, 2048, n]⟩ .f32) (b1 : (⟨0, ![]⟩ : Shape).BroadcastsInDim ⟨3, ![16, 2048, n]⟩ (![] : Fin 0 → Fin 3)) (i) :
    (Host.divf (broadcastInDim ⟨3, ![16, 2048, n]⟩ ![] b1 (constant ⟨0, ![]⟩ .f32 0x3F800000#32 : FVec Ideal ⟨0, ![]⟩ .f32))
      (addf (broadcastInDim ⟨3, ![16, 2048, n]⟩ ![] b1 (constant ⟨0, ![]⟩ .f32 0x3F800000#32 : FVec Ideal ⟨0, ![]⟩ .f32)) (Host.exp (Host.negf u))) i : EReal)
      = Ideal.logistic (u i) := by
  have e := host_logistic (u i)
  rw [← e]
  rfl

end Layer

namespace Cert.ProjectReferenceIdeal.Rows

open Cert.ProjectReferenceIdeal Cert.ProjectReferenceIdeal.Gen
open Idealize.ShloMosaic Idealize.ShloMosaic.TcCoe
open Idealize.SL.Sem
open Layer

variable (x : FVec Ideal S16x2048x1024 .f32) (g : FVec Ideal S1024 .f32) (w : FVec Ideal S1024x5280 .f32) (gl : FVec Ideal S128 .f32) (wv : FVec Ideal S128x512 .f32)

/-- The reference's projected rows. -/
def rows : FVec Ideal S16x2048x5280 .f32 :=
  Host.dotGeneral (rowsDot 1024 5280 dot_S16x2048x1024_S1024x5280_S16x2048x5280_2_0_01_1_n_n.wf) none
    (hostNorm x g reducesTo_S16x2048x1024_S16x2048_d2 h_S_ bcast_S16x2048_S16x2048x1_0_1 bcast_S_S16x2048x1 bcast_S16x2048x1_S16x2048x1024_0_1_2
      bcast_S1024_S1x1x1024_2 bcast_S1x1x1024_S16x2048x1024_0_1_2) w

/-- The reference's projected rows, element by element. -/
theorem rows_at (r : Fin 32768) (k : Fin 5280) : (rows x g w (ix3 (sq r) (tm r) k) : EReal) = proj x g w r k := by
  unfold rows
  exact (rows_dot _ _ w (sq r) (tm r) k).trans (along_congr (fun e => hostNorm_at _ _ _ _ _ _ _ _ _ _ _ _) fun _ => rfl)

/-- The reference's compressed rows. -/
def lats : FVec Ideal S16x2048x128 .f32 :=
  hostNarrow (extractStridedSlice S16x2048x128 ![0, 0, 256] (extractStridedSlice S16x2048x416 ![0, 0, 4096] (rows x g w) slices_S16x2048x5280_S16x2048x416_0_0_4096)
    slices_S16x2048x416_S16x2048x128_0_0_256) gl reducesTo_S16x2048x128_S16x2048_d2 h_S_ bcast_S16x2048_S16x2048x1_0_1 bcast_S_S16x2048x1
    bcast_S16x2048x1_S16x2048x128_0_1_2 bcast_S128_S1x1x128_2 bcast_S1x1x128_S16x2048x128_0_1_2

/-- The reference's compressed rows, element by element. -/
theorem lats_at (r : Fin 32768) (d : Fin 128) : (lats x g w gl (ix3 (sq r) (tm r) d) : EReal) = latent x g w gl r d := by
  unfold lats
  refine (hostNarrow_at _ _ _ _ _ _ _ _ _ _ _ _).trans (congrArg (fun q => norm128 q (vec gl) d) (funext fun e => ?_))
  refine (cut3 _ 256 _ (by omega) (sq r) (tm r) e).trans ((cut3 _ 4096 _ (by omega) (sq r) (tm r) _).trans ((rows_at x g w r _).trans ?_))
  exact congrArg (proj x g w r) (Fin.ext (by show 4096 + (256 + e.val) = 4352 + e.val; omega))

/-- The gates. -/
theorem sg : (shapeCast S32768x3072 (Host.divf (broadcastInDim S16x2048x3072 ![] bcast_S_S16x2048x3072 (constant S_ .f32 0x3F800000#32 : FVec Ideal S_ .f32))
      (addf (broadcastInDim S16x2048x3072 ![] bcast_S_S16x2048x3072 (constant S_ .f32 0x3F800000#32 : FVec Ideal S_ .f32))
        (Host.exp (Host.negf (extractStridedSlice S16x2048x3072 ![0, 0, 0] (rows x g w) slices_S16x2048x5280_S16x2048x3072_0_0_0)))))
      shapeCasts_S16x2048x3072_S32768x3072 : FVec Ideal S32768x3072 .f32) = gatesAll x g w := by
  funext j
  refine (congrArg _ (ix2_eta (n0 := 32768) (n1 := 3072) j).symm).trans ((flat_at _ _ (j 0) (j 1)).trans ((host_gates _ _ _).trans (congrArg Ideal.logistic ?_)))
  refine (cut3 (p := 3072) _ 0 _ (by omega) (sq (j 0)) (tm (j 0)) (j 1)).trans ((rows_at x g w (j 0) _).trans (congrArg (proj x g w (j 0)) (Fin.ext (Nat.zero_add _))))

/-- A stretch of columns. -/
theorem cols {n : ℕ} (o : ℕ) (ho : o + n ≤ 5280) (s : (⟨3, ![16, 2048, 5280]⟩ : Shape).Slices ![0, 0, o] ⟨3, ![16, 2048, n]⟩)
    (h : (⟨3, ![16, 2048, n]⟩ : Shape).ShapeCasts ⟨2, ![32768, n]⟩) :
    (shapeCast ⟨2, ![32768, n]⟩ (extractStridedSlice ⟨3, ![16, 2048, n]⟩ ![0, 0, o] (rows x g w) s) h : (⟨2, ![32768, n]⟩ : Shape).Idx → EReal)
      = colsAll x g w n o ho := by
  funext j
  exact (congrArg _ (ix2_eta (n0 := 32768) (n1 := n) j).symm).trans ((flat_at _ _ (j 0) (j 1)).trans
    ((cut3 _ o _ ho (sq (j 0)) (tm (j 0)) (j 1)).trans (rows_at x g w (j 0) _)))

/-- A stretch of the third branch's columns. -/
theorem cols_within {n : ℕ} (o : ℕ) (ho : o + n ≤ 768) (s : (⟨3, ![16, 2048, 768]⟩ : Shape).Slices ![0, 0, o] ⟨3, ![16, 2048, n]⟩)
    (h : (⟨3, ![16, 2048, n]⟩ : Shape).ShapeCasts ⟨2, ![32768, n]⟩) (q : ℕ) (hq : q = 4512 + o) (hq' : q + n ≤ 5280) :
    (shapeCast ⟨2, ![32768, n]⟩ (extractStridedSlice ⟨3, ![16, 2048, n]⟩ ![0, 0, o]
        (extractStridedSlice S16x2048x768 ![0, 0, 4512] (rows x g w) slices_S16x2048x5280_S16x2048x768_0_0_4512) s) h : (⟨2, ![32768, n]⟩ : Shape).Idx → EReal)
      = colsAll x g w n q hq' := by
  subst hq
  funext j
  exact (congrArg _ (ix2_eta (n0 := 32768) (n1 := n) j).symm).trans ((flat_at _ _ (j 0) (j 1)).trans
    ((cut3 _ o _ ho (sq (j 0)) (tm (j 0)) (j 1)).trans ((cut3 _ 4512 _ (by omega) (sq (j 0)) (tm (j 0)) _).trans
      ((rows_at x g w (j 0) _).trans (congrArg (proj x g w (j 0)) (Fin.ext (Nat.add_assoc _ _ _).symm))))))

/-- The compressed rows. -/
theorem lat : (shapeCast S32768x128 (lats x g w gl) shapeCasts_S16x2048x128_S32768x128 : FVec Ideal S32768x128 .f32) = latentAll x g w gl := by
  funext j
  exact (congrArg _ (ix2_eta (n0 := 32768) (n1 := 128) j).symm).trans ((flat_at _ _ (j 0) (j 1)).trans (lats_at x g w gl (j 0) (j 1)))

/-- The values of the attention, before they are rounded. -/
theorem vals : (shapeCast S32768x512 (Host.dotGeneral (rowsDot 128 512 dot_S16x2048x128_S128x512_S16x2048x512_2_0_01_1_n_n.wf) none (lats x g w gl) wv
      : FVec Ideal S16x2048x512 .f32) shapeCasts_S16x2048x512_S32768x512 : S32768x512.Idx → EReal) = valuesAll x g w gl wv := by
  funext j
  exact (congrArg _ (ix2_eta (n0 := 32768) (n1 := 512) j).symm).trans ((flat_at _ _ (j 0) (j 1)).trans
    ((rows_dot _ _ wv (sq (j 0)) (tm (j 0)) (j 1)).trans (along_congr (fun d => lats_at x g w gl (j 0) d) fun _ => rfl)))

variable (m : (ℓ : Loc nD τ sig) → Buf (Elt Ideal) ℓ) (ρ : Dev nD → PrngReg)

/-- The layer's input. -/
abbrev b0 (c : Dev nD) : FVec Ideal S16x2048x1024 .f32 := m ((c.tc : Thread nD τ).loc main_arg0)
/-- The first gains. -/
abbrev b1 (c : Dev nD) : FVec Ideal S1024 .f32 := m ((c.tc : Thread nD τ).loc main_arg1)
/-- The projection's weights. -/
abbrev b2 (c : Dev nD) : FVec Ideal S1024x5280 .f32 := m ((c.tc : Thread nD τ).loc main_arg2)
/-- The compressed rows' gains. -/
abbrev b5 (c : Dev nD) : FVec Ideal S128 .f32 := m ((c.tc : Thread nD τ).loc main_arg5)
/-- The values' weights. -/
abbrev b7 (c : Dev nD) : FVec Ideal S128x512 .f32 := m ((c.tc : Thread nD τ).loc main_arg7)

/-- The seven results the reference leaves, and its arguments as they were. -/
theorem run_at : θ_run defs (onTc (τ := τ) (main (F := Ideal))) ⟨m, fun _ => 0, ρ⟩ fun r => ∀ c : Dev nD,
      r.2.mem ((c.tc : Thread nD τ).loc main_v44) = (gatesAll (b0 m c) (b1 m c) (b2 m c) : FVec Ideal S32768x3072 .f32)
      ∧ r.2.mem ((c.tc : Thread nD τ).loc main_v45) = (colsAll (b0 m c) (b1 m c) (b2 m c) 1024 3072 (by omega) : FVec Ideal S32768x1024 .f32)
      ∧ r.2.mem ((c.tc : Thread nD τ).loc main_v47) = (valuesAll (b0 m c) (b1 m c) (b2 m c) (b5 m c) (b7 m c) : FVec Ideal S32768x512 .bf16)
      ∧ r.2.mem ((c.tc : Thread nD τ).loc main_v48) = (latentAll (b0 m c) (b1 m c) (b2 m c) (b5 m c) : FVec Ideal S32768x128 .f32)
      ∧ r.2.mem ((c.tc : Thread nD τ).loc main_v49) = (colsAll (b0 m c) (b1 m c) (b2 m c) 256 4768 (by omega) : FVec Ideal S32768x256 .f32)
      ∧ r.2.mem ((c.tc : Thread nD τ).loc main_v50) = (colsAll (b0 m c) (b1 m c) (b2 m c) 256 5024 (by omega) : FVec Ideal S32768x256 .f32)
      ∧ r.2.mem ((c.tc : Thread nD τ).loc main_v52) = (colsAll (b0 m c) (b1 m c) (b2 m c) 768 4512 (by omega) : FVec Ideal S32768x768 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨Eq.trans (h c).1 (sg (b0 m c) (b1 m c) (b2 m c)),
    Eq.trans (h c).2.1 (cols (b0 m c) (b1 m c) (b2 m c) 3072 (by omega) slices_S16x2048x5280_S16x2048x1024_0_0_3072 shapeCasts_S16x2048x1024_S32768x1024),
    Eq.trans (h c).2.2.1 (vals (b0 m c) (b1 m c) (b2 m c) (b5 m c) (b7 m c)),
    Eq.trans (h c).2.2.2.1 (lat (b0 m c) (b1 m c) (b2 m c) (b5 m c)),
    Eq.trans (h c).2.2.2.2.1 (cols_within (b0 m c) (b1 m c) (b2 m c) 256 (by omega) slices_S16x2048x768_S16x2048x256_0_0_256 shapeCasts_S16x2048x256_S32768x256 4768 rfl (by omega)),
    Eq.trans (h c).2.2.2.2.2.1 (cols_within (b0 m c) (b1 m c) (b2 m c) 512 (by omega) slices_S16x2048x768_S16x2048x256_0_0_512 shapeCasts_S16x2048x256_S32768x256 5024 rfl (by omega)),
    Eq.trans (h c).2.2.2.2.2.2.1 (cols (b0 m c) (b1 m c) (b2 m c) 4512 (by omega) slices_S16x2048x5280_S16x2048x768_0_0_4512 shapeCasts_S16x2048x768_S32768x768),
    (h c).2.2.2.2.2.2.2⟩) (Value.run (F := Ideal) m ρ)

end Cert.ProjectReferenceIdeal.Rows

end
-- ==== Proof.ProjectSame.lean ====
/-
  The projecting program and its idealized one are the same text.
-/
module

public import proofs.«01_k».proof.Defs
public import proofs.«01_k».proof.Proof.Gen.Project
public import proofs.«01_k».proof.Proof.Gen.ProjectIdeal.Frame

@[expose] public section

noncomputable section

namespace Cert.Proof

open Idealize.ShloMosaic Idealize.ShloMosaic.TcCoe Idealize.SL.Sem

set_option maxHeartbeats 8000000 in
/-- The processes of the projecting program are those of its idealized one. -/
theorem project_procs_eq : Cert.Project.defs₀ (F := Bits) = Cert.ProjectIdeal.defs₀ (F := Bits) := by
  unfold Cert.Project.defs₀ Cert.ProjectIdeal.defs₀
  refine congrArg Defs.onTc ?_
  funext l a
  match l, a with
  | 0, (t, s) => rfl
  | ⟨_ + 1, h⟩, _ => exact absurd h (Nat.not_lt.2 (Nat.le_add_left _ _))

set_option maxHeartbeats 8000000 in
/-- So are its definitions. -/
theorem project_defs_eq : Cert.Project.defs (F := Bits) = Cert.ProjectIdeal.defs (F := Bits) := congrArg (Pipeline.defs Cert.Project.pcfgs) project_procs_eq

set_option maxHeartbeats 8000000 in
/-- The projecting call's frame. -/
theorem frame_Project : Cert.quiescent_Project := fun m g _ => by
  rw [project_defs_eq]
  exact (θ_run Cert.ProjectIdeal.defs _ _).mono (fun _ h => h) (Cert.ProjectIdeal.Gen.frame (F := Bits) m g)

end Cert.Proof

end
-- ==== Proof.lean ====
/-
  The proof of `Cert.Claim`: the scan kernel's run (Proof/Run.lean) and its reference's, read at the arguments, and, where
  the arguments are finite, at the three results: both sides hold the recurrence's sums and its last state. For the
  feed-forward call both runs leave every token's feed-forward part, whatever the arguments; for the merging call, every token's normed end of
  the layer; for the projecting call, seven of its arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Values
public import proofs.«01_k».proof.Proof.RefVal
public import proofs.«01_k».proof.Proof.Finite
public import proofs.«01_k».proof.Proof.FfnRef
public import proofs.«01_k».proof.Proof.MergeRef
public import proofs.«01_k».proof.Proof.ProjectRun
public import proofs.«01_k».proof.Proof.ProjectRef
public import proofs.«01_k».proof.Proof.ProjectSame
public import proofs.«01_k».proof.Proof.Gen.Ffn
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Merge
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Project
public import proofs.«01_k».proof.Proof.Gen.ProjectIdeal
public import proofs.«01_k».proof.Proof.Gen.ProjectIdeal.Frame
public import proofs.«01_k».proof.Proof.Gen.ProjectReferenceIdeal
public import proofs.«01_k».proof.Proof.Gen.ProjectReferenceIdeal.Run

@[expose] public section

noncomputable section

namespace Cert.Proof

open Idealize.ShloMosaic Idealize.ShloMosaic.TcCoe Idealize.SL.Sem

/-- The reference runs, leaves its arguments as they were, and has no counter. -/
theorem frame_ReferenceIdeal : Cert.quiescent_ReferenceIdeal := fun m ρ _ =>
  (θ_run Cert.ReferenceIdeal.defs _ _).mono
    (fun r h => ⟨fun c => (h c).2.2.2, sem_eq_zero_of_no_sems rfl r.2⟩) (Cert.ReferenceIdeal.Value.run (F := Ideal) m ρ)

/-- The idealized kernel runs and leaves its arguments as they were, every counter at zero. -/
theorem frame_KernelIdeal : Cert.quiescent_KernelIdeal := fun m ρ _ => Cert.KernelIdeal.Scan.frame (F := Ideal) m ρ

/-- The kernel's procedures are the idealized kernel's: the two texts are the same. -/
theorem procs_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So are all its definitions. -/
theorem defs_eq {F : FTy → Type} [FloatOps F] : Cert.Kernel.defs (F := F) = Cert.KernelIdeal.defs (F := F) :=
  congrArg (Pipeline.defs Cert.KernelIdeal.pcfgs) procs_eq

/-- The kernel is the same program, read at the hardware's floats. -/
theorem frame_Kernel : Cert.quiescent_Kernel := fun m ρ _ => by
  rw [defs_eq]
  exact (θ_run Cert.KernelIdeal.defs _ _).mono (fun _ h => h) (Cert.KernelIdeal.Scan.frame (F := Bits) m ρ)

/-- The idealized kernel's frame, where the arguments are finite. -/
theorem frame_KernelIdeal_finite : Cert.quiescent_KernelIdeal_pre_finite := fun m g _ => frame_KernelIdeal m g trivial

/-- The reference's frame, where the arguments are finite. -/
theorem frame_ReferenceIdeal_finite : Cert.quiescent_ReferenceIdeal_pre_finite := fun m g _ => frame_ReferenceIdeal m g trivial

/-- Where the arguments are finite, so is every input of every head. -/
theorem inputs_fine (m : (ℓ : Loc Cert.KernelIdeal.nD Cert.KernelIdeal.τ Cert.KernelIdeal.sig) → Buf (Elt Ideal) ℓ)
    (h : Cert.Pre_KernelIdeal_finite m) (c : Dev Cert.KernelIdeal.nD) (B : Fin 16) (hh : Fin 4) : (Cert.KernelIdeal.Scan.inp m c B hh).Fine := by
  obtain ⟨h0, h1, h2, h3, h4, h5⟩ := Cert.Pre_finite.all_of _ _ _ _ _ _ (h c)
  exact Cert.KernelIdeal.Scan.seqsOf_fine _ _ _ _ _ _ h0 h1 h2 h3 h4 h5 B hh

/-- Where the arguments are finite, the kernel's three results are the reference's. -/
theorem same_results : Cert.algebraic_KernelIdeal_ReferenceIdeal_pre_finite := fun m g m' g' hpre hargs => by
  have hin : ∀ c, Cert.ReferenceIdeal.Scan.inp m' c = Cert.KernelIdeal.Scan.inp m c := fun c => by
    obtain ⟨h0, h1, h2, h3, h4, h5⟩ := hargs c
    unfold Cert.ReferenceIdeal.Scan.inp Cert.KernelIdeal.Scan.inp Cert.ReferenceIdeal.Scan.a0 Cert.ReferenceIdeal.Scan.a1
      Cert.ReferenceIdeal.Scan.a2 Cert.ReferenceIdeal.Scan.a3 Cert.ReferenceIdeal.Scan.a4 Cert.ReferenceIdeal.Scan.a5
    rw [h0, h1, h2, h3, h4, h5]
  refine ⟨fun c => fun i => Cert.KernelIdeal.Scan.perTime (Cert.KernelIdeal.Scan.inp m c) Cert.KernelIdeal.Scan.Seqs.sa (i 0) (i 1) (i 2),
    fun c => fun i => Cert.KernelIdeal.Scan.perTime (Cert.KernelIdeal.Scan.inp m c) Cert.KernelIdeal.Scan.Seqs.yp (i 0) (i 1) (i 2),
    fun c => fun i => Cert.KernelIdeal.Scan.atEnd (Cert.KernelIdeal.Scan.inp m c) (i 0) (i 1) (i 2) (i 3), ?_, ?_⟩
  · refine (θ_run Cert.KernelIdeal.defs _ _).mono (fun r h c => ?_)
      (Cert.KernelIdeal.Scan.run_main m g (Cert.KernelIdeal.Scan.scanSays m)
        (Cert.KernelIdeal.Scan.scanSays_holds m (inputs_fine m hpre)))
    obtain ⟨h0, h1, h2⟩ := Cert.KernelIdeal.Scan.results_of c h.1
    exact ⟨h0, h1, h2, Cert.KernelIdeal.Scan.args_of m h.1 c⟩
  · refine (θ_run Cert.ReferenceIdeal.defs _ _).mono (fun r h c => ?_) (Cert.ReferenceIdeal.Value.run (F := Ideal) m' g')
    obtain ⟨h0, h1, h2, h3⟩ := h c
    refine ⟨h0.trans ((Cert.ReferenceIdeal.Scan.out_sa m' c).trans ?_), h1.trans ((Cert.ReferenceIdeal.Scan.out_yp m' c).trans ?_),
      h2.trans ((Cert.ReferenceIdeal.Scan.out_st m' c).trans ?_), h3⟩
    · rw [hin c]
      rfl
    · rw [hin c]
      rfl
    · rw [hin c]
      rfl

/-- The processes of the feed-forward program are those of its idealized one. -/
theorem ffn_procs_eq : Cert.Ffn.defs₀ (F := Bits) = Cert.FfnIdeal.defs₀ (F := Bits) := by
  unfold Cert.Ffn.defs₀ Cert.FfnIdeal.defs₀
  refine congrArg Defs.onTc ?_
  funext l a
  match l, a with
  | 0, (t, s) => rfl
  | ⟨_ + 1, h⟩, _ => exact absurd h (Nat.not_lt.2 (Nat.le_add_left _ _))

/-- So are its definitions. -/
theorem ffn_defs_eq : Cert.Ffn.defs (F := Bits) = Cert.FfnIdeal.defs (F := Bits) := congrArg (Pipeline.defs Cert.Ffn.pcfgs) ffn_procs_eq

/-- The feed-forward call's frame. -/
theorem frame_Ffn : Cert.quiescent_Ffn := fun m g _ => by
  rw [ffn_defs_eq]
  exact (θ_run Cert.FfnIdeal.defs _ _).mono (fun _ h => h) (Cert.FfnIdeal.Gen.frame (F := Bits) m g)

/-- Its frame over the exact numbers. -/
theorem frame_FfnIdeal : Cert.quiescent_FfnIdeal := fun m g _ => Cert.FfnIdeal.Gen.frame (F := Ideal) m g

/-- The feed-forward reference's frame. -/
theorem frame_FfnReferenceIdeal : Cert.quiescent_FfnReferenceIdeal := fun m g _ =>
  (θ_run Cert.FfnReferenceIdeal.defs _ _).mono (fun r h => ⟨fun c => (h c).2, sem_eq_zero_of_no_sems rfl r.2⟩)
    (Cert.FfnReferenceIdeal.Value.run (F := Ideal) m g)

/-- The feed-forward call's result is the reference's. -/
theorem same_ffn : Cert.algebraic_FfnIdeal_FfnReferenceIdeal := fun m g m' g' _ hargs => by
  refine ⟨fun c => Layer.ffnAll (m ((c.tc : Thread Cert.FfnIdeal.nD Cert.FfnIdeal.τ).loc Cert.FfnIdeal.main_arg0))
    (m ((c.tc : Thread Cert.FfnIdeal.nD Cert.FfnIdeal.τ).loc Cert.FfnIdeal.main_arg1)) (m ((c.tc : Thread Cert.FfnIdeal.nD Cert.FfnIdeal.τ).loc Cert.FfnIdeal.main_arg2))
    (m ((c.tc : Thread Cert.FfnIdeal.nD Cert.FfnIdeal.τ).loc Cert.FfnIdeal.main_arg3)), ?_, ?_⟩
  · refine (θ_run Cert.FfnIdeal.defs _ _).mono (fun r h c => ?_) (Cert.FfnIdeal.Value.run_blocks m g)
    exact ⟨(h c).1.trans (Cert.FfnIdeal.Rows.final m c), (h c).2⟩
  · refine (θ_run Cert.FfnReferenceIdeal.defs _ _).mono (fun r h c => ?_) (Cert.FfnReferenceIdeal.Rows.run_at m' g')
    refine ⟨(h c).1.trans ?_, (h c).2⟩
    obtain ⟨e0, e1, e2, e3⟩ := hargs c
    rw [e0, e1, e2, e3]

/-- The processes of the merging program are those of its idealized one. -/
theorem merge_procs_eq : Cert.Merge.defs₀ (F := Bits) = Cert.MergeIdeal.defs₀ (F := Bits) := by
  unfold Cert.Merge.defs₀ Cert.MergeIdeal.defs₀
  refine congrArg Defs.onTc ?_
  funext l a
  match l, a with
  | 0, (t, s) => rfl
  | ⟨_ + 1, h⟩, _ => exact absurd h (Nat.not_lt.2 (Nat.le_add_left _ _))

/-- So are its definitions. -/
theorem merge_defs_eq : Cert.Merge.defs (F := Bits) = Cert.MergeIdeal.defs (F := Bits) := congrArg (Pipeline.defs Cert.Merge.pcfgs) merge_procs_eq

/-- The merging call's frame. -/
theorem frame_Merge : Cert.quiescent_Merge := fun m g _ => by
  rw [merge_defs_eq]
  exact (θ_run Cert.MergeIdeal.defs _ _).mono (fun _ h => h) (Cert.MergeIdeal.Gen.frame (F := Bits) m g)

/-- Its frame over the exact numbers. -/
theorem frame_MergeIdeal : Cert.quiescent_MergeIdeal := fun m g _ => Cert.MergeIdeal.Gen.frame (F := Ideal) m g

/-- The merging reference's frame. -/
theorem frame_MergeReferenceIdeal : Cert.quiescent_MergeReferenceIdeal := fun m g _ =>
  (θ_run Cert.MergeReferenceIdeal.defs _ _).mono (fun r h => ⟨fun c => (h c).2, sem_eq_zero_of_no_sems rfl r.2⟩)
    (Cert.MergeReferenceIdeal.Value.run (F := Ideal) m g)

/-- The merging call's result is the reference's. -/
theorem same_merge : Cert.algebraic_MergeIdeal_MergeReferenceIdeal := fun m g m' g' _ hargs => by
  refine ⟨fun c => Layer.mergeAll (m ((c.tc : Thread Cert.MergeIdeal.nD Cert.MergeIdeal.τ).loc Cert.MergeIdeal.main_arg0)) (m ((c.tc : Thread Cert.MergeIdeal.nD Cert.MergeIdeal.τ).loc Cert.MergeIdeal.main_arg1))
    (m ((c.tc : Thread Cert.MergeIdeal.nD Cert.MergeIdeal.τ).loc Cert.MergeIdeal.main_arg2)) (m ((c.tc : Thread Cert.MergeIdeal.nD Cert.MergeIdeal.τ).loc Cert.MergeIdeal.main_arg3))
    (m ((c.tc : Thread Cert.MergeIdeal.nD Cert.MergeIdeal.τ).loc Cert.MergeIdeal.main_arg4)) (m ((c.tc : Thread Cert.MergeIdeal.nD Cert.MergeIdeal.τ).loc Cert.MergeIdeal.main_arg5))
    (m ((c.tc : Thread Cert.MergeIdeal.nD Cert.MergeIdeal.τ).loc Cert.MergeIdeal.main_arg6)) (m ((c.tc : Thread Cert.MergeIdeal.nD Cert.MergeIdeal.τ).loc Cert.MergeIdeal.main_arg7))
    (m ((c.tc : Thread Cert.MergeIdeal.nD Cert.MergeIdeal.τ).loc Cert.MergeIdeal.main_arg8)) (m ((c.tc : Thread Cert.MergeIdeal.nD Cert.MergeIdeal.τ).loc Cert.MergeIdeal.main_arg9))
    (m ((c.tc : Thread Cert.MergeIdeal.nD Cert.MergeIdeal.τ).loc Cert.MergeIdeal.main_arg10)) (m ((c.tc : Thread Cert.MergeIdeal.nD Cert.MergeIdeal.τ).loc Cert.MergeIdeal.main_arg11))
    (m ((c.tc : Thread Cert.MergeIdeal.nD Cert.MergeIdeal.τ).loc Cert.MergeIdeal.main_arg12)), ?_, ?_⟩
  · refine (θ_run Cert.MergeIdeal.defs _ _).mono (fun r h c => ?_) (Cert.MergeIdeal.Value.run_blocks m g)
    exact ⟨(h c).1.trans (Cert.MergeIdeal.Rows.final m c), (h c).2⟩
  · refine (θ_run Cert.MergeReferenceIdeal.defs _ _).mono (fun r h c => ?_) (Cert.MergeReferenceIdeal.Value.run (F := Ideal) m' g')
    refine ⟨(h c).1.trans ((Cert.MergeReferenceIdeal.Rows.result m' c).trans ?_), (h c).2⟩
    obtain ⟨e0, e1, e2, e3, e4, e5, e6, e7, e8, e9, e10, e11, e12⟩ := hargs c
    rw [e0, e1, e2, e3, e4, e5, e6, e7, e8, e9, e10, e11, e12]

/-- The projecting call's frame over the exact numbers. -/
theorem frame_ProjectIdeal : Cert.quiescent_ProjectIdeal := fun m g _ => Cert.ProjectIdeal.Gen.frame (F := Ideal) m g

/-- The projecting reference's frame. -/
theorem frame_ProjectReferenceIdeal : Cert.quiescent_ProjectReferenceIdeal := fun m g _ =>
  (θ_run Cert.ProjectReferenceIdeal.defs _ _).mono (fun r h => ⟨fun c => (h c).2.2.2.2.2.2.2, sem_eq_zero_of_no_sems rfl r.2⟩)
    (Cert.ProjectReferenceIdeal.Value.run (F := Ideal) m g)

/-- The projecting call's seven results are the reference's. -/
theorem same_project : Cert.algebraic_ProjectIdeal_ProjectReferenceIdeal := fun m g m' g' _ hargs => by
  refine ⟨fun c => Layer.gatesAll (Cert.ProjectIdeal.Rows.a0 m c) (Cert.ProjectIdeal.Rows.a1 m c) (Cert.ProjectIdeal.Rows.a2 m c),
    fun c => Layer.colsAll (Cert.ProjectIdeal.Rows.a0 m c) (Cert.ProjectIdeal.Rows.a1 m c) (Cert.ProjectIdeal.Rows.a2 m c) 1024 3072 (by omega),
    fun c => Layer.valuesAll (Cert.ProjectIdeal.Rows.a0 m c) (Cert.ProjectIdeal.Rows.a1 m c) (Cert.ProjectIdeal.Rows.a2 m c) (Cert.ProjectIdeal.Rows.a5 m c) (Cert.ProjectIdeal.Rows.a7 m c),
    fun c => Layer.latentAll (Cert.ProjectIdeal.Rows.a0 m c) (Cert.ProjectIdeal.Rows.a1 m c) (Cert.ProjectIdeal.Rows.a2 m c) (Cert.ProjectIdeal.Rows.a5 m c),
    fun c => Layer.colsAll (Cert.ProjectIdeal.Rows.a0 m c) (Cert.ProjectIdeal.Rows.a1 m c) (Cert.ProjectIdeal.Rows.a2 m c) 256 4768 (by omega),
    fun c => Layer.colsAll (Cert.ProjectIdeal.Rows.a0 m c) (Cert.ProjectIdeal.Rows.a1 m c) (Cert.ProjectIdeal.Rows.a2 m c) 256 5024 (by omega),
    fun c => Layer.colsAll (Cert.ProjectIdeal.Rows.a0 m c) (Cert.ProjectIdeal.Rows.a1 m c) (Cert.ProjectIdeal.Rows.a2 m c) 768 4512 (by omega),
    Cert.ProjectIdeal.Rows.run m g, ?_⟩
  refine (θ_run Cert.ProjectReferenceIdeal.defs _ _).mono (fun r h c => ?_) (Cert.ProjectReferenceIdeal.Rows.run_at m' g')
  obtain ⟨h0, h1, h2, h3, h4, h5, h6, hk⟩ := h c
  obtain ⟨e0, e1, e2, _, _, e5, _, e7⟩ := hargs c
  have d0 : Cert.ProjectReferenceIdeal.Rows.b0 m' c = Cert.ProjectIdeal.Rows.a0 m c := e0
  have d1 : Cert.ProjectReferenceIdeal.Rows.b1 m' c = Cert.ProjectIdeal.Rows.a1 m c := e1
  have d2 : Cert.ProjectReferenceIdeal.Rows.b2 m' c = Cert.ProjectIdeal.Rows.a2 m c := e2
  have d5 : Cert.ProjectReferenceIdeal.Rows.b5 m' c = Cert.ProjectIdeal.Rows.a5 m c := e5
  have d7 : Cert.ProjectReferenceIdeal.Rows.b7 m' c = Cert.ProjectIdeal.Rows.a7 m c := e7
  rw [d0, d1, d2] at h0 h1 h4 h5 h6
  rw [d0, d1, d2, d5] at h3
  rw [d0, d1, d2, d5, d7] at h2
  exact ⟨h0, h1, h2, h3, h4, h5, h6, hk⟩

/-- Everything claimed. -/
theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Merge.Gen.facts, Cert.MergeIdeal.Gen.facts, Cert.MergeReferenceIdeal.Gen.facts, Cert.Project.Gen.facts, Cert.ProjectIdeal.Gen.facts,
  Cert.ProjectReferenceIdeal.Gen.facts, Cert.Pre_finite.facts,
  frame_Kernel, frame_KernelIdeal, frame_KernelIdeal_finite, frame_ReferenceIdeal, frame_ReferenceIdeal_finite, frame_Ffn, frame_FfnIdeal,
  frame_FfnReferenceIdeal, frame_Merge, frame_MergeIdeal, frame_MergeReferenceIdeal,
  frame_Project, frame_ProjectIdeal, frame_ProjectReferenceIdeal, trivial, same_results, trivial, same_ffn, trivial, same_merge,
  trivial, same_project⟩

end Cert.Proof

end
